-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S2048x512 : Shape := ⟨2, ![2048, 512]⟩
abbrev S512x32 : Shape := ⟨2, ![512, 32]⟩
abbrev S2048x1 : Shape := ⟨2, ![2048, 1]⟩
abbrev S4x512x1024 : Shape := ⟨3, ![4, 512, 1024]⟩
abbrev S32 : Shape := ⟨1, ![32]⟩
abbrev S1x32 : Shape := ⟨2, ![1, 32]⟩
abbrev S2048x32 : Shape := ⟨2, ![2048, 32]⟩
abbrev S_ : Shape := ⟨0, ![]⟩
abbrev S2048x8x4 : Shape := ⟨3, ![2048, 8, 4]⟩
abbrev S2048x8 : Shape := ⟨2, ![2048, 8]⟩
abbrev S8x256x8 : Shape := ⟨3, ![8, 256, 8]⟩
abbrev S8x8 : Shape := ⟨2, ![8, 8]⟩
abbrev S8 : Shape := ⟨1, ![8]⟩
abbrev S8x1 : Shape := ⟨2, ![8, 1]⟩
abbrev S1x8 : Shape := ⟨2, ![1, 8]⟩

class Facts : Prop where
  bcast_S32_S1x32_1 : S32.BroadcastsInDim S1x32 (![1] : Fin 1 → Fin S1x32.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  natLt_1_32 : 1 < 32
  bcast_S_S_ : S_.BroadcastsInDim S_ (![] : Fin 0 → Fin S_.rank)
  reduceWindows_S2048x32_S2048x32_w2048s1p2047_0_w1s1p0_0 : S2048x32.ReduceWindows (![2048, 1] : Fin 2 → Nat) ![1, 1] ![2047, 0] ![0, 0] S2048x32
  h_S_ : 0 < S_.numel
  bcast_S_S2048x32 : S_.BroadcastsInDim S2048x32 (![] : Fin 0 → Fin S2048x32.rank)
  shapeCasts_S2048x32_S2048x8x4 : S2048x32.ShapeCasts S2048x8x4
  reducesTo_S2048x8x4_S2048x8_d2 : S2048x8x4.ReducesTo [2] S2048x8
  shapeCasts_S2048x8_S8x256x8 : S2048x8.ShapeCasts S8x256x8
  reducesTo_S8x256x8_S8x8_d1 : S8x256x8.ReducesTo [1] S8x8
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S_S8x8 : S_.BroadcastsInDim S8x8 (![] : Fin 0 → Fin S8x8.rank)

variable [Facts]

def fn_cumsum_0 {F : FTy → Type} [FloatOps F] (arg0 : IVec S2048x32 32) : IVec S2048x32 32 :=
  let c : IVec S_ 32 := constantI S_ 32 0#32
  let v0 : IVec S_ 32 := broadcastInDim S_ ![] bcast_S_S_ c
  let v1 : IVec S2048x32 32 := (fun x v => Host.reduceWindow IntOp.addi ![2048, 1] ![1, 1] ![2047, 0] ![0, 0] x v reduceWindows_S2048x32_S2048x32_w2048s1p2047_0_w1s1p0_0 h_S_) arg0 v0
  v1

def fn_cumsum {F : FTy → Type} [FloatOps F] (arg0 : IVec S2048x32 32) : IVec S2048x32 32 :=
  let v0 : IVec S2048x32 32 := fn_cumsum_0 (F := F) arg0
  v0

def fn_part1 {F : FTy → Type} [FloatOps F] (main_v14 : IVec S8x8 32) (main_v19 : IVec S8x8 32) (main_v20 : IVec S8x8 32) : IVec S8x8 1 :=
  let main_v21 : IVec S8x8 1 := cmpi .eq main_v19 main_v20
  let main_c_2 : IVec S_ 32 := constantI S_ 32 64#32
  let main_v22 : IVec S8x8 32 := broadcastInDim S8x8 ![] bcast_S_S8x8 main_c_2
  let main_v23 : IVec S8x8 1 := cmpi .sle main_v14 main_v22
  let main_v24 : IVec S8x8 1 := ori main_v23 main_v21
  main_v24

def fn {F : FTy → Type} [FloatOps F] (main_arg0 : FVec F S2048x512 .bf16) (main_arg1 : FVec F S512x32 .bf16) (main_arg2 : IVec S2048x1 32) (main_arg3 : FVec F S4x512x1024 .bf16) : IVec S8x8 1 :=
  let main_v0 : IVec S32 32 := iotaInDim S32 32 0
  let main_v1 : IVec S1x32 32 := broadcastInDim S1x32 ![1] bcast_S32_S1x32_1 main_v0
  let main_v2 : IVec S2048x32 32 := broadcastInDim S2048x32 ![0, 1] bcast_S2048x1_S2048x32_0_1 main_arg2
  let main_v3 : IVec S2048x32 32 := broadcastInDim S2048x32 ![0, 1] bcast_S1x32_S2048x32_0_1 main_v1
  let main_v4 : IVec S2048x32 1 := cmpi .eq main_v2 main_v3
  let main_v5 : IVec S2048x32 32 := (extui 32 · natLt_1_32) main_v4
  let main_v6 : IVec S2048x32 32 := fn_cumsum (F := F) main_v5
  let main_c : IVec S_ 32 := constantI S_ 32 51#32
  let main_v7 : IVec S2048x32 32 := broadcastInDim S2048x32 ![] bcast_S_S2048x32 main_c
  let main_v8 : IVec S2048x32 1 := cmpi .sle main_v6 main_v7
  let main_v9 : IVec S2048x32 1 := andi main_v4 main_v8
  let main_v10 : IVec S2048x8x4 1 := shapeCast S2048x8x4 main_v9 shapeCasts_S2048x32_S2048x8x4
  let main_v11 : IVec S2048x8x4 32 := (extui 32 · natLt_1_32) main_v10
  let main_c_0 : IVec S_ 32 := constantI S_ 32 0#32
  let main_v12 : IVec S2048x8 32 := (fun x v => Host.reduce IntOp.addi x v reducesTo_S2048x8x4_S2048x8_d2 h_S_) main_v11 main_c_0
  let main_v13 : IVec S8x256x8 32 := shapeCast S8x256x8 main_v12 shapeCasts_S2048x8_S8x256x8
  let main_c_1 : IVec S_ 32 := constantI S_ 32 0#32
  let main_v14 : IVec S8x8 32 := (fun x v => Host.reduce IntOp.addi x v reducesTo_S8x256x8_S8x8_d1 h_S_) main_v13 main_c_1
  let main_v15 : IVec S8 32 := iotaInDim S8 32 0
  let main_v16 : IVec S8x1 32 := broadcastInDim S8x1 ![0] bcast_S8_S8x1_0 main_v15
  let main_v17 : IVec S8 32 := iotaInDim S8 32 0
  let main_v18 : IVec S1x8 32 := broadcastInDim S1x8 ![1] bcast_S8_S1x8_1 main_v17
  let main_v19 : IVec S8x8 32 := broadcastInDim S8x8 ![0, 1] bcast_S8x1_S8x8_0_1 main_v16
  let main_v20 : IVec S8x8 32 := broadcastInDim S8x8 ![0, 1] bcast_S1x8_S8x8_0_1 main_v18
  fn_part1 (F := F) main_v14 main_v19 main_v20
-- ==== Pre_fits_ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S32 : Shape := ⟨1, ![32]⟩
abbrev S1x32 : Shape := ⟨2, ![1, 32]⟩
abbrev S2048x32 : Shape := ⟨2, ![2048, 32]⟩
abbrev S_ : Shape := ⟨0, ![]⟩
abbrev S2048x8x4 : Shape := ⟨3, ![2048, 8, 4]⟩
abbrev S2048x8 : Shape := ⟨2, ![2048, 8]⟩
abbrev S8x256x8 : Shape := ⟨3, ![8, 256, 8]⟩
abbrev S8x8 : Shape := ⟨2, ![8, 8]⟩
abbrev S8 : Shape := ⟨1, ![8]⟩
abbrev S8x1 : Shape := ⟨2, ![8, 1]⟩
abbrev S1x8 : Shape := ⟨2, ![1, 8]⟩

class Facts : Prop where
  bcast_S32_S1x32_1 : S32.BroadcastsInDim S1x32 (![1] : Fin 1 → Fin S1x32.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  natLt_1_32 : 1 < 32
  bcast_S_S_ : S_.BroadcastsInDim S_ (![] : Fin 0 → Fin S_.rank)
  reduceWindows_S2048x32_S2048x32_w2048s1p2047_0_w1s1p0_0 : S2048x32.ReduceWindows (![2048, 1] : Fin 2 → Nat) ![1, 1] ![2047, 0] ![0, 0] S2048x32
  h_S_ : 0 < S_.numel
  bcast_S_S2048x32 : S_.BroadcastsInDim S2048x32 (![] : Fin 0 → Fin S2048x32.rank)
  shapeCasts_S2048x32_S2048x8x4 : S2048x32.ShapeCasts S2048x8x4
  reducesTo_S2048x8x4_S2048x8_d2 : S2048x8x4.ReducesTo [2] S2048x8
  shapeCasts_S2048x8_S8x256x8 : S2048x8.ShapeCasts S8x256x8
  reducesTo_S8x256x8_S8x8_d1 : S8x256x8.ReducesTo [1] S8x8
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S_S8x8 : S_.BroadcastsInDim S8x8 (![] : Fin 0 → Fin S8x8.rank)

variable [Facts]

def fn_cumsum_0 {F : FTy → Type} [FloatOps F] (arg0 : IVec S2048x32 32) : IVec S2048x32 32 :=
  let c : IVec S_ 32 := constantI S_ 32 0#32
  let v0 : IVec S_ 32 := broadcastInDim S_ ![] bcast_S_S_ c
  let v1 : IVec S2048x32 32 := (fun x v => Host.reduceWindow IntOp.addi ![2048, 1] ![1, 1] ![2047, 0] ![0, 0] x v reduceWindows_S2048x32_S2048x32_w2048s1p2047_0_w1s1p0_0 h_S_) arg0 v0
  v1

def fn_cumsum {F : FTy → Type} [FloatOps F] (arg0 : IVec S2048x32 32) : IVec S2048x32 32 :=
  let v0 : IVec S2048x32 32 := fn_cumsum_0 (F := F) arg0
  v0

def fn_part1 {F : FTy → Type} [FloatOps F] (main_v14 : IVec S8x8 32) (main_v19 : IVec S8x8 32) (main_v20 : IVec S8x8 32) : IVec S8x8 1 :=
  let main_v21 : IVec S8x8 1 := cmpi .eq main_v19 main_v20
  let main_c_2 : IVec S_ 32 := constantI S_ 32 64#32
  let main_v22 : IVec S8x8 32 := broadcastInDim S8x8 ![] bcast_S_S8x8 main_c_2
  let main_v23 : IVec S8x8 1 := cmpi .sle main_v14 main_v22
  let main_v24 : IVec S8x8 1 := ori main_v23 main_v21
  main_v24

def fn {F : FTy → Type} [FloatOps F] (main_arg0 : FVec F S2048x512 .bf16) (main_arg1 : FVec F S512x32 .bf16) (main_arg2 : IVec S2048x1 32) (main_arg3 : FVec F S32x512x1024 .bf16) : IVec S8x8 1 :=
  let main_v0 : IVec S32 32 := iotaInDim S32 32 0
  let main_v1 : IVec S1x32 32 := broadcastInDim S1x32 ![1] bcast_S32_S1x32_1 main_v0
  let main_v2 : IVec S2048x32 32 := broadcastInDim S2048x32 ![0, 1] bcast_S2048x1_S2048x32_0_1 main_arg2
  let main_v3 : IVec S2048x32 32 := broadcastInDim S2048x32 ![0, 1] bcast_S1x32_S2048x32_0_1 main_v1
  let main_v4 : IVec S2048x32 1 := cmpi .eq main_v2 main_v3
  let main_v5 : IVec S2048x32 32 := (extui 32 · natLt_1_32) main_v4
  let main_v6 : IVec S2048x32 32 := fn_cumsum (F := F) main_v5
  let main_c : IVec S_ 32 := constantI S_ 32 51#32
  let main_v7 : IVec S2048x32 32 := broadcastInDim S2048x32 ![] bcast_S_S2048x32 main_c
  let main_v8 : IVec S2048x32 1 := cmpi .sle main_v6 main_v7
  let main_v9 : IVec S2048x32 1 := andi main_v4 main_v8
  let main_v10 : IVec S2048x8x4 1 := shapeCast S2048x8x4 main_v9 shapeCasts_S2048x32_S2048x8x4
  let main_v11 : IVec S2048x8x4 32 := (extui 32 · natLt_1_32) main_v10
  let main_c_0 : IVec S_ 32 := constantI S_ 32 0#32
  let main_v12 : IVec S2048x8 32 := (fun x v => Host.reduce IntOp.addi x v reducesTo_S2048x8x4_S2048x8_d2 h_S_) main_v11 main_c_0
  let main_v13 : IVec S8x256x8 32 := shapeCast S8x256x8 main_v12 shapeCasts_S2048x8_S8x256x8
  let main_c_1 : IVec S_ 32 := constantI S_ 32 0#32
  let main_v14 : IVec S8x8 32 := (fun x v => Host.reduce IntOp.addi x v reducesTo_S8x256x8_S8x8_d1 h_S_) main_v13 main_c_1
  let main_v15 : IVec S8 32 := iotaInDim S8 32 0
  let main_v16 : IVec S8x1 32 := broadcastInDim S8x1 ![0] bcast_S8_S8x1_0 main_v15
  let main_v17 : IVec S8 32 := iotaInDim S8 32 0
  let main_v18 : IVec S1x8 32 := broadcastInDim S1x8 ![1] bcast_S8_S1x8_1 main_v17
  let main_v19 : IVec S8x8 32 := broadcastInDim S8x8 ![0, 1] bcast_S8x1_S8x8_0_1 main_v16
  let main_v20 : IVec S8x8 32 := broadcastInDim S8x8 ![0, 1] bcast_S1x8_S8x8_0_1 main_v18
  fn_part1 (F := F) main_v14 main_v19 main_v20
-- ==== Kernel.lean ====
abbrev S2048x512 : Shape := ⟨2, ![2048, 512]⟩
abbrev S512x32 : Shape := ⟨2, ![512, 32]⟩
abbrev S2048x1 : Shape := ⟨2, ![2048, 1]⟩
abbrev S4x512x1024 : Shape := ⟨3, ![4, 512, 1024]⟩
abbrev S256x1024 : Shape := ⟨2, ![256, 1024]⟩
abbrev S2048x4 : Shape := ⟨2, ![2048, 4]⟩
abbrev S2048x8 : Shape := ⟨2, ![2048, 8]⟩
abbrev S4x2048x64 : Shape := ⟨3, ![4, 2048, 64]⟩
abbrev S7x64x1024 : Shape := ⟨3, ![7, 64, 1024]⟩
abbrev S7 : Shape := ⟨1, ![7]⟩
abbrev S_ : Shape := ⟨0, ![]⟩
abbrev S256x256 : Shape := ⟨2, ![256, 256]⟩
abbrev S256x4 : Shape := ⟨2, ![256, 4]⟩
abbrev S256x32 : Shape := ⟨2, ![256, 32]⟩
abbrev S32x8 : Shape := ⟨2, ![32, 8]⟩
abbrev S1x4 : Shape := ⟨2, ![1, 4]⟩
abbrev S1x32 : Shape := ⟨2, ![1, 32]⟩
abbrev S256x1 : Shape := ⟨2, ![256, 1]⟩
abbrev S256x8 : Shape := ⟨2, ![256, 8]⟩
abbrev S4 : Shape := ⟨1, ![4]⟩
abbrev S32 : Shape := ⟨1, ![32]⟩
abbrev S256x64 : Shape := ⟨2, ![256, 64]⟩
abbrev S2048x64 : Shape := ⟨2, ![2048, 64]⟩
abbrev S1x2048x64 : Shape := ⟨3, ![1, 2048, 64]⟩
abbrev S64x512 : Shape := ⟨2, ![64, 512]⟩
abbrev S1x512x1024 : Shape := ⟨3, ![1, 512, 1024]⟩
abbrev S512x1024 : Shape := ⟨2, ![512, 1024]⟩
abbrev S64x1024 : Shape := ⟨2, ![64, 1024]⟩
abbrev S256 : Shape := ⟨1, ![256]⟩
abbrev S1x256x64 : Shape := ⟨3, ![1, 256, 64]⟩
abbrev S64x64 : Shape := ⟨2, ![64, 64]⟩
abbrev S1x64x1024 : Shape := ⟨3, ![1, 64, 1024]⟩
abbrev S1 : Shape := ⟨1, ![1]⟩
abbrev S8x1 : Shape := ⟨2, ![8, 1]⟩

abbrev nBuf : Space → Nat
  | .hbm => 5
  | .vmem => 12
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S4x512x1024, .bf16⟩
  | .hbm, ⟨4, _⟩ => ⟨S256x1024, .f32⟩
  | .local _ .vmem, ⟨0, _⟩ => ⟨S2048x512, .bf16⟩
  | .local _ .vmem, ⟨1, _⟩ => ⟨S2048x1, .i32⟩
  | .local _ .vmem, ⟨2, _⟩ => ⟨S4x512x1024, .bf16⟩
  | .local _ .vmem, ⟨3, _⟩ => ⟨S256x1024, .f32⟩
  | .local _ .vmem, ⟨4, _⟩ => ⟨S2048x512, .bf16⟩
  | .local _ .vmem, ⟨5, _⟩ => ⟨S4x512x1024, .bf16⟩
  | .local _ .vmem, ⟨6, _⟩ => ⟨S2048x4, .bf16⟩
  | .local _ .vmem, ⟨7, _⟩ => ⟨S2048x8, .bf16⟩
  | .local _ .vmem, ⟨8, _⟩ => ⟨S2048x4, .f32⟩
  | .local _ .vmem, ⟨9, _⟩ => ⟨S4x2048x64, .bf16⟩
  | .local _ .vmem, ⟨10, _⟩ => ⟨S7x64x1024, .bf16⟩
  | .local _ .vmem, ⟨11, _⟩ => ⟨S7x64x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_215 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v559 : BitVec 32 := Scalar.addi v2 c1_i32_215
  let c8_i32_216 : BitVec 32 := 8#32
  let v560 : BitVec 32 := Scalar.remsi v559 c8_i32_216
  let c256_i32 : BitVec 32 := 256#32
  let v561 : BitVec 32 := Scalar.muli v560 c256_i32
  let v562 : Index := Scalar.indexCast v561
  let c0_217 : Index := 0#32
  ![v562.toNat, 0]
def k0_off2 (d0 : Dev nD) (c1_i32_215 : BitVec 32) : Fin 3 → Nat :=
  let c0_223 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v559 : BitVec 32 := Scalar.addi v2 c1_i32_215
  let c8_i32_216 : BitVec 32 := 8#32
  let v560 : BitVec 32 := Scalar.remsi v559 c8_i32_216
  let c256_i32_222 : BitVec 32 := 256#32
  let v580 : BitVec 32 := Scalar.muli v560 c256_i32_222
  let v581 : Index := Scalar.indexCast v580
  let c0_224 : Index := 0#32
  ![0, v581.toNat, 0]
def k0_off3 (d0 : Dev nD) (c1_i32_215 : BitVec 32) : Fin 3 → Nat :=
  let c1_228 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v559 : BitVec 32 := Scalar.addi v2 c1_i32_215
  let c8_i32_216 : BitVec 32 := 8#32
  let v560 : BitVec 32 := Scalar.remsi v559 c8_i32_216
  let c256_i32_227 : BitVec 32 := 256#32
  let v588 : BitVec 32 := Scalar.muli v560 c256_i32_227
  let v589 : Index := Scalar.indexCast v588
  let c0_229 : Index := 0#32
  ![1, v589.toNat, 0]
def k0_off4 (d0 : Dev nD) (c1_i32_215 : BitVec 32) : Fin 3 → Nat :=
  let c2_233 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v559 : BitVec 32 := Scalar.addi v2 c1_i32_215
  let c8_i32_216 : BitVec 32 := 8#32
  let v560 : BitVec 32 := Scalar.remsi v559 c8_i32_216
  let c256_i32_232 : BitVec 32 := 256#32
  let v596 : BitVec 32 := Scalar.muli v560 c256_i32_232
  let v597 : Index := Scalar.indexCast v596
  let c0_234 : Index := 0#32
  ![2, v597.toNat, 0]
def k0_off5 (d0 : Dev nD) (c1_i32_215 : BitVec 32) : Fin 3 → Nat :=
  let c3_238 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v559 : BitVec 32 := Scalar.addi v2 c1_i32_215
  let c8_i32_216 : BitVec 32 := 8#32
  let v560 : BitVec 32 := Scalar.remsi v559 c8_i32_216
  let c256_i32_237 : BitVec 32 := 256#32
  let v604 : BitVec 32 := Scalar.muli v560 c256_i32_237
  let v605 : Index := Scalar.indexCast v604
  let c0_239 : Index := 0#32
  ![3, v605.toNat, 0]
def k0_dev8 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v559 : BitVec 32 := Scalar.addi v2 c1_i32_215
  let c8_i32_216 : BitVec 32 := 8#32
  let v560 : BitVec 32 := Scalar.remsi v559 c8_i32_216
  let c1_i32_249 : BitVec 32 := 1#32
  let v616 : BitVec 32 := Scalar.muli v560 c1_i32_249
  let v617 : BitVec 32 := Scalar.addi c0_i32_250 v616
  v617.toNat
def k0_dev9 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_255 : BitVec 32 := 2#32
  let v626 : BitVec 32 := Scalar.addi v2 c2_i32_255
  let c8_i32_256 : BitVec 32 := 8#32
  let v627 : BitVec 32 := Scalar.remsi v626 c8_i32_256
  let c1_i32_290 : BitVec 32 := 1#32
  let v683 : BitVec 32 := Scalar.muli v627 c1_i32_290
  let v684 : BitVec 32 := Scalar.addi c0_i32_291 v683
  v684.toNat
def k0_dev10 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_296 : BitVec 32 := 3#32
  let v693 : BitVec 32 := Scalar.addi v2 c3_i32_296
  let c8_i32_297 : BitVec 32 := 8#32
  let v694 : BitVec 32 := Scalar.remsi v693 c8_i32_297
  let c1_i32_331 : BitVec 32 := 1#32
  let v750 : BitVec 32 := Scalar.muli v694 c1_i32_331
  let v751 : BitVec 32 := Scalar.addi c0_i32_332 v750
  v751.toNat
def k0_dev11 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_337 : BitVec 32 := 4#32
  let v760 : BitVec 32 := Scalar.addi v2 c4_i32_337
  let c8_i32_338 : BitVec 32 := 8#32
  let v761 : BitVec 32 := Scalar.remsi v760 c8_i32_338
  let c1_i32_372 : BitVec 32 := 1#32
  let v817 : BitVec 32 := Scalar.muli v761 c1_i32_372
  let v818 : BitVec 32 := Scalar.addi c0_i32_373 v817
  v818.toNat
def k0_dev12 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_378 : BitVec 32 := 5#32
  let v827 : BitVec 32 := Scalar.addi v2 c5_i32_378
  let c8_i32_379 : BitVec 32 := 8#32
  let v828 : BitVec 32 := Scalar.remsi v827 c8_i32_379
  let c1_i32_412 : BitVec 32 := 1#32
  let v884 : BitVec 32 := Scalar.muli v828 c1_i32_412
  let v885 : BitVec 32 := Scalar.addi c0_i32_413 v884
  v885.toNat
def k0_dev13 (d0 : Dev nD) : Nat :=
  let c0_i32_453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_418 : BitVec 32 := 6#32
  let v894 : BitVec 32 := Scalar.addi v2 c6_i32_418
  let c8_i32_419 : BitVec 32 := 8#32
  let v895 : BitVec 32 := Scalar.remsi v894 c8_i32_419
  let c1_i32_452 : BitVec 32 := 1#32
  let v951 : BitVec 32 := Scalar.muli v895 c1_i32_452
  let v952 : BitVec 32 := Scalar.addi c0_i32_453 v951
  v952.toNat
def k0_dev14 (d0 : Dev nD) : Nat :=
  let c0_i32_493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_458 : BitVec 32 := 7#32
  let v961 : BitVec 32 := Scalar.addi v2 c7_i32_458
  let c8_i32_459 : BitVec 32 := 8#32
  let v962 : BitVec 32 := Scalar.remsi v961 c8_i32_459
  let c1_i32_492 : BitVec 32 := 1#32
  let v1018 : BitVec 32 := Scalar.muli v962 c1_i32_492
  let v1019 : BitVec 32 := Scalar.addi c0_i32_493 v1018
  v1019.toNat
def k0_off6 (d0 : Dev nD) : Fin 3 → Nat :=
  let c0_500 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_499 : BitVec 32 := 256#32
  let v1029 : BitVec 32 := Scalar.muli v2 c256_i32_499
  let v1030 : Index := Scalar.indexCast v1029
  let c0_501 : Index := 0#32
  ![0, v1030.toNat, 0]
def k0_off7 (d0 : Dev nD) : Fin 3 → Nat :=
  let c1_504 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_503 : BitVec 32 := 256#32
  let v1035 : BitVec 32 := Scalar.muli v2 c256_i32_503
  let v1036 : Index := Scalar.indexCast v1035
  let c0_505 : Index := 0#32
  ![1, v1036.toNat, 0]
def k0_off8 (d0 : Dev nD) : Fin 3 → Nat :=
  let c2_508 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_507 : BitVec 32 := 256#32
  let v1041 : BitVec 32 := Scalar.muli v2 c256_i32_507
  let v1042 : Index := Scalar.indexCast v1041
  let c0_509 : Index := 0#32
  ![2, v1042.toNat, 0]
def k0_off9 (d0 : Dev nD) : Fin 3 → Nat :=
  let c3_512 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_511 : BitVec 32 := 256#32
  let v1047 : BitVec 32 := Scalar.muli v2 c256_i32_511
  let v1048 : Index := Scalar.indexCast v1047
  let c0_513 : Index := 0#32
  ![3, v1048.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_515 : BitVec 32 := 256#32
  let v1053 : BitVec 32 := Scalar.muli v2 c256_i32_515
  let v1054 : Index := Scalar.indexCast v1053
  let c0_516 : Index := 0#32
  ![v1054.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S32 : Shape := ⟨1, ![32]⟩
abbrev S1x32 : Shape := ⟨2, ![1, 32]⟩
abbrev S2048x32 : Shape := ⟨2, ![2048, 32]⟩
abbrev S_ : Shape := ⟨0, ![]⟩
abbrev S2048x32x1024 : Shape := ⟨3, ![2048, 32, 1024]⟩
abbrev S2048x32x1 : Shape := ⟨3, ![2048, 32, 1]⟩
abbrev S2048x1024 : Shape := ⟨2, ![2048, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S32x512x1024, .bf16⟩
  | .hbm, ⟨4, _⟩ => ⟨S32, .i32⟩
  | .hbm, ⟨5, _⟩ => ⟨S1x32, .i32⟩
  | .hbm, ⟨6, _⟩ => ⟨S2048x32, .i32⟩
  | .hbm, ⟨7, _⟩ => ⟨S2048x32, .i32⟩
  | .hbm, ⟨8, _⟩ => ⟨S2048x32, .i1⟩
  | .hbm, ⟨9, _⟩ => ⟨S2048x32, .i32⟩
  | .hbm, ⟨10, _⟩ => ⟨S_, .i32⟩
  | .hbm, ⟨11, _⟩ => ⟨S_, .i32⟩
  | .hbm, ⟨12, _⟩ => ⟨S2048x32, .i32⟩
  | .hbm, ⟨13, _⟩ => ⟨S_, .i32⟩
  | .hbm, ⟨14, _⟩ => ⟨S2048x32, .i32⟩
  | .hbm, ⟨15, _⟩ => ⟨S2048x32, .i1⟩
  | .hbm, ⟨16, _⟩ => ⟨S2048x32, .i1⟩
  | .hbm, ⟨17, _⟩ => ⟨S2048x512, .f32⟩
  | .hbm, ⟨18, _⟩ => ⟨S32x512x1024, .f32⟩
  | .hbm, ⟨19, _⟩ => ⟨S2048x32x1024, .f32⟩
  | .hbm, ⟨20, _⟩ => ⟨S2048x32x1, .i1⟩
  | .hbm, ⟨21, _⟩ => ⟨S_, .f32⟩
  | .hbm, ⟨22, _⟩ => ⟨S_, .f32⟩
  | .hbm, ⟨23, _⟩ => ⟨S2048x32x1024, .i1⟩
  | .hbm, ⟨24, _⟩ => ⟨S2048x32x1024, .f32⟩
  | .hbm, ⟨25, _⟩ => ⟨S2048x32x1024, .f32⟩
  | .hbm, ⟨26, _⟩ => ⟨S_, .f32⟩
  | .hbm, ⟨27, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.RefFrame.lean ====
/- The reference's run: its argument arrays end unchanged and no counter of it moves. -/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Lib.Quiescent
public import Idealize.ShloMosaic.Init

@[expose] public section

noncomputable section

namespace Cert.Proof

open Idealize.ShloMosaic Idealize.SL.Sem

/-- The reference terminates on its one device with its four argument arrays unchanged; it declares no
    counter, so all of them read zero at the end. -/
theorem frame_reference : Cert.quiescent_ReferenceIdeal (hReferenceIdeal := Cert.ReferenceIdeal.Gen.facts) := by
  intro m g _
  exact (θ_run Cert.ReferenceIdeal.defs _ _).mono (fun r h => ⟨fun c => (h c).2,
      Idealize.ShloMosaic.sem_eq_zero_of_no_sems (by decide) r.2⟩)
    (Cert.ReferenceIdeal.Value.run (F := Ideal) m g)

end Cert.Proof

end
-- ==== Proof.IdealProtocol.lean ====
/-
# The exchange of messages between the eight devices: cells, schedule, levels

Every device sends every other device one message (a slot of its send scratch) into the slot of the other's receive
scratch that carries the same number: slot `k` of device `c` goes to device `c + k + 1` (mod 8). Before it sends, a
device tells each of the seven others that it has entered the kernel, and waits to be told so by all of them.

The protocol under the rounds library, duty names `Fin 7`: a device's barrier cell has seven duties at round 0, duty `k`
paid by the device `c + k + 1` it will write to, whose payload is slot `k` of that device's receive scratch; each send
cell one duty (payload: the slot of the send scratch back), each receive cell one (payload: the slot of the receive
scratch holding the sender's message). The messages are a parameter here.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Who sends to whom -/

set_option backward.proofsInPublic true in
/-- The device that slot `k` of device `c` is sent to. -/
def dest (c : Dev nD) (k : Fin 7) : Dev nD := ⟨(c.val + (k.val + 1)) % 8, Nat.mod_lt _ (by decide)⟩
set_option backward.proofsInPublic true in
/-- The device whose message lands in slot `k` of device `c`. -/
def orig (c : Dev nD) (k : Fin 7) : Dev nD := ⟨(c.val + (7 - k.val)) % 8, Nat.mod_lt _ (by decide)⟩
set_option backward.proofsInPublic true in
/-- The slot number of the opposite direction. -/
def rev (k : Fin 7) : Fin 7 := ⟨6 - k.val, by omega⟩

/-- The sender of slot `k` of the device that slot `k` goes to is the device itself. -/
theorem orig_dest (c : Dev nD) (k : Fin 7) : orig (dest c k) k = c := by revert c k; decide
/-- Slot `k` of a slot's sender goes to the device itself. -/
theorem dest_orig (c : Dev nD) (k : Fin 7) : dest (orig c k) k = c := by revert c k; decide
/-- Forwards and then backwards is where one started. -/
theorem dest_dest_rev (c : Dev nD) (k : Fin 7) : dest (dest c k) (rev k) = c := by revert c k; decide
/-- The opposite of the opposite direction. -/
theorem rev_rev (k : Fin 7) : rev (rev k) = k := by revert k; decide

/-- The signals and the transfers name `dest c k`. -/
theorem sig_dev (c : Dev nD) :
    (⟨k0_dev1 c, k0_dev1_lt c⟩ : Dev nD) = dest c 0 ∧ (⟨k0_dev2 c, k0_dev2_lt c⟩ : Dev nD) = dest c 1
    ∧ (⟨k0_dev3 c, k0_dev3_lt c⟩ : Dev nD) = dest c 2 ∧ (⟨k0_dev4 c, k0_dev4_lt c⟩ : Dev nD) = dest c 3
    ∧ (⟨k0_dev5 c, k0_dev5_lt c⟩ : Dev nD) = dest c 4 ∧ (⟨k0_dev6 c, k0_dev6_lt c⟩ : Dev nD) = dest c 5
    ∧ (⟨k0_dev7 c, k0_dev7_lt c⟩ : Dev nD) = dest c 6 :=
  ⟨Fin.ext (k0_dev1_eq c), Fin.ext (k0_dev2_eq c), Fin.ext (k0_dev3_eq c), Fin.ext (k0_dev4_eq c), Fin.ext (k0_dev5_eq c),
    Fin.ext (k0_dev6_eq c), Fin.ext (k0_dev7_eq c)⟩
/-- The seven transfers go to the seven peers in the same order. -/
theorem snd_dev (c : Dev nD) :
    (⟨k0_dev8 c, k0_dev8_lt c⟩ : Dev nD) = dest c 0 ∧ (⟨k0_dev9 c, k0_dev9_lt c⟩ : Dev nD) = dest c 1
    ∧ (⟨k0_dev10 c, k0_dev10_lt c⟩ : Dev nD) = dest c 2 ∧ (⟨k0_dev11 c, k0_dev11_lt c⟩ : Dev nD) = dest c 3
    ∧ (⟨k0_dev12 c, k0_dev12_lt c⟩ : Dev nD) = dest c 4 ∧ (⟨k0_dev13 c, k0_dev13_lt c⟩ : Dev nD) = dest c 5
    ∧ (⟨k0_dev14 c, k0_dev14_lt c⟩ : Dev nD) = dest c 6 :=
  ⟨Fin.ext (k0_dev8_eq c), Fin.ext (k0_dev9_eq c), Fin.ext (k0_dev10_eq c), Fin.ext (k0_dev11_eq c), Fin.ext (k0_dev12_eq c),
    Fin.ext (k0_dev13_eq c), Fin.ext (k0_dev14_eq c)⟩

/-! ## The slots and the cells -/

/-- Slot `k` lies in the scratch. -/
theorem slot_inb (k : Fin 7) : ∀ a, (![k.val, 0, 0] : Fin 3 → Nat) a + S1x64x1024.size a ≤ S7x64x1024.size a := by
  revert k; decide
/-- The rectangle of slot `k`. -/
abbrev slotR (k : Fin 7) : Rect S7x64x1024 := Rect.unit (s := S7x64x1024) ![k.val, 0, 0] S1x64x1024.size (slot_inb k)
/-- Slot `k` of the send scratch and of the receive scratch, as the transfers name them. -/
abbrev sndM (k : Fin 7) : Memref sig .tc .vmem S64x1024 .bf16 :=
  ((Memref.whole cc0_scratch6 : Memref sig .tc .vmem S7x64x1024 .bf16).slice (slotR k) (fun _ => rfl)).squeeze S64x1024 squeezes_S1x64x1024_S64x1024
abbrev rcvM (k : Fin 7) : Memref sig .tc .vmem S64x1024 .bf16 :=
  ((Memref.whole cc0_scratch7 : Memref sig .tc .vmem S7x64x1024 .bf16).slice (slotR k) (fun _ => rfl)).squeeze S64x1024 squeezes_S1x64x1024_S64x1024

set_option backward.proofsInPublic true in
abbrev sndS (k : Fin 7) : DmaSem sig := (⟨4 + k.val, by omega⟩ : Fin 18)
set_option backward.proofsInPublic true in
abbrev rcvS (k : Fin 7) : DmaSem sig := (⟨11 + k.val, by omega⟩ : Fin 18)
abbrev barS : Sem sig := (SemArray.scalar (sig.barrier 0 rfl) : Sems sig S_).sem

abbrev barCell (c : Dev nD) : GSem nD τ sig := ((c : Thread nD τ), .reg barS)
abbrev sndCell (c : Dev nD) (k : Fin 7) : GSem nD τ sig := ((c : Thread nD τ), .dma (sndS k))
abbrev rcvCell (c : Dev nD) (k : Fin 7) : GSem nD τ sig := ((c : Thread nD τ), .dma (rcvS k))

/-- The credit of one message. -/
abbrev N : ℕ := (rcvM 0).view.dmaCredit
/-- A message has credit. -/
theorem N_pos : 0 < N := View.dmaCredit_pos _ (by decide)
/-- Every receive slot has the same credit. -/
theorem rcv_credit (k : Fin 7) : (rcvM k).view.dmaCredit = N := rfl
/-- Every send slot has the same credit. -/
theorem snd_credit (k : Fin 7) : (sndM k).view.dmaCredit = N := rfl

/-- Slot `k` of device `c`'s send scratch held at `f`; of its receive scratch. -/
def sndPts (c : Dev nD) (k : Fin 7) (f : Buf (Elt F) ((sndM k).view.loc (c : Thread nD τ))) : sProp 𝕄 :=
  (sndM k).view.loc (c : Thread nD τ) ↦[(sndM k).view.set]{fullShare} f
def rcvPts (c : Dev nD) (k : Fin 7) (f : Buf (Elt F) ((rcvM k).view.loc (c : Thread nD τ))) : sProp 𝕄 :=
  (rcvM k).view.loc (c : Thread nD τ) ↦[(rcvM k).view.set]{fullShare} f

omit [FloatOps F] in
instance sndPts_storable (c : Dev nD) (k f) : BI.Storable (upEmb : UEmb _ 𝕄) (sndPts (F := F) c k f) := by unfold sndPts; infer_instance
omit [FloatOps F] in
instance rcvPts_storable (c : Dev nD) (k f) : BI.Storable (upEmb : UEmb _ 𝕄) (rcvPts (F := F) c k f) := by unfold rcvPts; infer_instance

/-- What a load of slot `k` reads off the send scratch's contents; off the receive scratch's. -/
abbrev sndAt (k : Fin 7) (f : (cc0_scratch6 : Ref sig .tc).ty.Contents (Elt F)) : Vec F S1x64x1024 .bf16 :=
  (Memref.whole cc0_scratch6 : Memref sig .tc .vmem S7x64x1024 .bf16).view.readAt (Elt F) (slotR k).toLoadRect f
abbrev rcvAt (k : Fin 7) (f : (cc0_scratch7 : Ref sig .tc).ty.Contents (Elt F)) : Vec F S1x64x1024 .bf16 :=
  (Memref.whole cc0_scratch7 : Memref sig .tc .vmem S7x64x1024 .bf16).view.readAt (Elt F) (slotR k).toLoadRect f

/-- What a transfer of slot `k` lands reads as what the slot held. -/
theorem rcvAt_landed (k : Fin 7) (fd : (cc0_scratch7 : Ref sig .tc).ty.Contents (Elt F)) (fs : (cc0_scratch6 : Ref sig .tc).ty.Contents (Elt F)) :
    rcvAt k ((rcvM k).view.write (Elt F) fd ((sndM k).view.read (Elt F) fs) Finset.univ) = sndAt k fs := by
  funext j
  obtain ⟨y, rfl⟩ := (Shape.reshapeEquiv (squeezes_S1x64x1024_S64x1024).numel_eq).surjective j
  show ((rcvM k).view.write (Elt F) fd ((sndM k).view.read (Elt F) fs) Finset.univ) ((rcvM k).view.emb y) = fs ((sndM k).view.emb y)
  rw [View.write_emb_of_mem _ _ (Finset.mem_univ _)]
  rfl

/-- The elements of a send slot. -/
theorem snd_set (k : Fin 7) : (sndM k).view.set = (slotR k).set := by
  rw [Memref.set_view_squeeze]; exact View.set_slice_whole _ _
/-- The elements of a receive slot. -/
theorem rcv_set (k : Fin 7) : (rcvM k).view.set = (slotR k).set := by
  rw [Memref.set_view_squeeze]; exact View.set_slice_whole _ _
/-- An access to slot `k` through the whole scratch touches the slot's elements only. -/
theorem snd_acc (k : Fin 7) : ((Memref.whole cc0_scratch6 : Memref sig .tc .vmem S7x64x1024 .bf16).access (slotR k)).set ⊆ (sndM k).view.set := by
  rw [snd_set]; exact subset_of_eq (View.set_slice_whole _ _)
/-- The same of the receive scratch. -/
theorem rcv_acc (k : Fin 7) : ((Memref.whole cc0_scratch7 : Memref sig .tc .vmem S7x64x1024 .bf16).access (slotR k)).set ⊆ (rcvM k).view.set := by
  rw [rcv_set]; exact subset_of_eq (View.set_slice_whole _ _)
/-- A slot stored whole reads as what was stored. -/
theorem sndAt_stored (k : Fin 7) (f : (cc0_scratch6 : Ref sig .tc).ty.Contents (Elt F)) (w : Vec F S1x64x1024 .bf16) :
    sndAt k (((Memref.whole cc0_scratch6 : Memref sig .tc .vmem S7x64x1024 .bf16).access (slotR k)).write (Elt F) f w Finset.univ) = w :=
  View.read_write_univ (v := (Memref.whole cc0_scratch6 : Memref sig .tc .vmem S7x64x1024 .bf16).access (slotR k)) f w

/-! ## The schedule -/

variable (MSG : Dev nD → Fin 7 → Vec F S1x64x1024 .bf16)

def barPay (c : Dev nD) (k : Fin 7) : sProp 𝕄 := iprop(∃ f, rcvPts (dest c k) k f)
def sndPay (c : Dev nD) (k : Fin 7) : sProp 𝕄 := iprop(∃ f, sndPts (F := F) c k f)
def rcvPay (c : Dev nD) (k : Fin 7) : sProp 𝕄 := iprop(∃ f, ⌜rcvAt k f = MSG (orig c k) k⌝ ∗ rcvPts c k f)

/-- Which slot's send semaphore a semaphore is; which slot's receive semaphore. -/
abbrev isSnd (q : DmaSem sig) : Prop := 4 ≤ q.val ∧ q.val < 11
abbrev isRcv (q : DmaSem sig) : Prop := 11 ≤ q.val ∧ q.val < 18
set_option backward.proofsInPublic true in
abbrev slotOf (q : DmaSem sig) (b : ℕ) : Fin 7 := ⟨(q.val - b) % 7, Nat.mod_lt _ (by decide)⟩

/-- One round, round 0: a barrier cell has the seven duties of one unit each; a send or receive cell the duty `0` of the
    message's credit. -/
def rd : Rounds.Schedule (GSem nD τ sig) (Fin 7) 𝕄 where
  duties g r := if r = 0 ∧ g.1.2 = .tc then (match g.2 with
    | .reg s => if s = barS then Finset.univ else ∅
    | .dma q => if isSnd q ∨ isRcv q then {0} else ∅) else ∅
  unitless _ := False
  amount g _ _ := match g.2 with | .reg _ => 1 | .dma _ => N
  payload g _ d := match g.2 with
    | .reg _ => barPay g.1.1 d
    | .dma q => if isSnd q then sndPay g.1.1 (slotOf q 4) else if isRcv q then rcvPay MSG g.1.1 (slotOf q 11) else iprop(emp)
  amount_pos g _ _ _ := by
    rcases g with ⟨_, _ | _⟩
    · exact Nat.one_pos
    · exact N_pos

instance rd_payload_storable (g : GSem nD τ sig) (r : ℕ) (d : Fin 7) :
    BI.Storable (upEmb : UEmb _ 𝕄) ((rd (F := F) MSG).payload g r d) := by
  rcases g with ⟨t, s | q⟩
  · show BI.Storable upEmb (barPay t.1 d); unfold barPay; infer_instance
  · show BI.Storable upEmb (if isSnd q then sndPay t.1 (slotOf q 4) else if isRcv q then rcvPay MSG t.1 (slotOf q 11) else iprop(emp))
    unfold sndPay rcvPay
    (repeat' split) <;> infer_instance

section Sched
variable (c : Dev nD) (k : Fin 7)

/-- A send semaphore is one. -/
theorem isSnd_snd : isSnd (sndS k) := by revert k; decide
/-- A receive semaphore is one. -/
theorem isRcv_rcv : isRcv (rcvS k) := by revert k; decide
/-- A receive semaphore is no send semaphore. -/
theorem not_isSnd_rcv : ¬ isSnd (rcvS k) := by revert k; decide
/-- The slot of the send semaphore of slot `k`. -/
theorem slotOf_snd : slotOf (sndS k) 4 = k := by revert k; decide
/-- The slot of the receive semaphore of slot `k`. -/
theorem slotOf_rcv : slotOf (rcvS k) 11 = k := by revert k; decide

omit [FloatOps F] in
/-- A barrier has all seven duties. -/
theorem duties_bar : (rd (F := F) MSG).duties (barCell c) 0 = Finset.univ := by
  dsimp only [rd]; rw [if_pos ⟨rfl, rfl⟩, if_pos rfl]
omit [FloatOps F] in
/-- A send cell has one duty. -/
theorem duties_snd : (rd (F := F) MSG).duties (sndCell c k) 0 = {0} := by
  dsimp only [rd]; rw [if_pos ⟨rfl, rfl⟩, if_pos (Or.inl (isSnd_snd k))]
omit [FloatOps F] in
/-- A receive cell has one duty. -/
theorem duties_rcv : (rd (F := F) MSG).duties (rcvCell c k) 0 = {0} := by
  dsimp only [rd]; rw [if_pos ⟨rfl, rfl⟩, if_pos (Or.inr (isRcv_rcv k))]
omit [FloatOps F] in
/-- After round 0 there are no duties. -/
theorem duties_later (g : GSem nD τ sig) : ∀ r, 1 ≤ r → (rd (F := F) MSG).duties g r = ∅ :=
  fun r hr => by dsimp only [rd]; rw [if_neg fun h => by omega]

omit [FloatOps F] in
/-- A barrier duty is one unit. -/
theorem amount_bar (d : Fin 7) : (rd (F := F) MSG).amount (barCell c) 0 d = 1 := rfl
omit [FloatOps F] in
/-- A send duty is a message's credit. -/
theorem amount_snd (d : Fin 7) : (rd (F := F) MSG).amount (sndCell c k) 0 d = N := rfl
omit [FloatOps F] in
/-- A receive duty is a message's credit. -/
theorem amount_rcv (d : Fin 7) : (rd (F := F) MSG).amount (rcvCell c k) 0 d = N := rfl

omit [FloatOps F] in
/-- A barrier's round has seven units. -/
theorem expect_bar : (rd (F := F) MSG).expect (barCell c) 0 = 7 := by
  unfold Schedule.expect Schedule.amountOf
  rw [duties_bar, Finset.sum_congr rfl fun d _ => amount_bar MSG c d, Finset.sum_const, Finset.card_univ, Fintype.card_fin, smul_eq_mul]
omit [FloatOps F] in
/-- A send cell's round has one message's credit. -/
theorem expect_snd : (rd (F := F) MSG).expect (sndCell c k) 0 = N := by
  unfold Schedule.expect Schedule.amountOf; rw [duties_snd, Finset.sum_singleton, amount_snd]
omit [FloatOps F] in
/-- A receive cell's round has one message's credit. -/
theorem expect_rcv : (rd (F := F) MSG).expect (rcvCell c k) 0 = N := by
  unfold Schedule.expect Schedule.amountOf; rw [duties_rcv, Finset.sum_singleton, amount_rcv]

omit [FloatOps F] in
/-- A barrier's unit hands over a receive slot of the device that pays it. -/
theorem payload_bar : (rd (F := F) MSG).payload (barCell c) 0 k = barPay c k := rfl
omit [FloatOps F] in
/-- A send cell's credit hands the send slot back. -/
theorem payload_snd (d : Fin 7) : (rd (F := F) MSG).payload (sndCell c k) 0 d = sndPay c k := by
  dsimp only [rd]; rw [if_pos (isSnd_snd k), slotOf_snd]
omit [FloatOps F] in
/-- A receive cell's credit hands over the slot with the sender's message in it. -/
theorem payload_rcv (d : Fin 7) : (rd (F := F) MSG).payload (rcvCell c k) 0 d = rcvPay MSG c k := by
  dsimp only [rd]; rw [if_neg (not_isSnd_rcv k), if_pos (isRcv_rcv k), slotOf_rcv]

omit [FloatOps F] in
/-- Something about each of seven slots. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- All payloads of a barrier's round. -/
theorem rest_bar : bigSep ((rd (F := F) MSG).duties (barCell c) 0 \ ∅) (fun d => (rd (F := F) MSG).payload (barCell c) 0 d) = bigSep Finset.univ (barPay (F := F) c) := by
  rw [Finset.sdiff_empty, duties_bar]; rfl
omit [FloatOps F] in
/-- All payloads of a send cell's round. -/
theorem rest_snd : bigSep ((rd (F := F) MSG).duties (sndCell c k) 0 \ ∅) (fun d => (rd (F := F) MSG).payload (sndCell c k) 0 d) = sndPay c k := by
  rw [Finset.sdiff_empty, duties_snd, bigSep_singleton, payload_snd]
omit [FloatOps F] in
/-- All payloads of a receive cell's round. -/
theorem rest_rcv : bigSep ((rd (F := F) MSG).duties (rcvCell c k) 0 \ ∅) (fun d => (rd (F := F) MSG).payload (rcvCell c k) 0 d) = rcvPay MSG c k := by
  rw [Finset.sdiff_empty, duties_rcv, bigSep_singleton, payload_rcv]

end Sched

/-! ## What each device owes at launch; the levels -/

/-- The credit of the last `n` messages device `c` sends, the earliest of them the last summand. -/
def owedSnd (c : Dev nD) : ℕ → CellTallies nD τ sig Unit
  | 0 => 0
  | n + 1 => owedSnd c n + (if h : n < 7 then tallyAt (rcvCell (dest c (rev ⟨n, h⟩)) (rev ⟨n, h⟩)) () N else 0)
/-- All its messages' and the last `n` signals' units, the earliest of them the last summand. -/
def owedSig (c : Dev nD) : ℕ → CellTallies nD τ sig Unit
  | 0 => owedSnd c 7
  | n + 1 => owedSig c n + (if h : n < 7 then tallyAt (barCell (dest c (rev ⟨n, h⟩))) () 1 else 0)
def O₀ (c : Dev nD) : CellTallies nD τ sig Unit := owedSig c 7

/-- What is owed before the transfer of slot `k` is what is owed after it and its credit. -/
theorem owedSnd_step (c : Dev nD) (k : Fin 7) : owedSnd c (7 - k.val) = owedSnd c (6 - k.val) + tallyAt (rcvCell (dest c k) k) () N := by
  have h : 7 - k.val = (6 - k.val) + 1 := by omega
  rw [h]; show owedSnd c (6 - k.val) + _ = _
  rw [dif_pos (show 6 - k.val < 7 by omega), show rev ⟨6 - k.val, by omega⟩ = k from rev_rev k]
/-- What is owed before signal `k` is what is owed after it and its unit. -/
theorem owedSig_step (c : Dev nD) (k : Fin 7) : owedSig c (7 - k.val) = owedSig c (6 - k.val) + tallyAt (barCell (dest c k)) () 1 := by
  have h : 7 - k.val = (6 - k.val) + 1 := by omega
  rw [h]; show owedSig c (6 - k.val) + _ = _
  rw [dif_pos (show 6 - k.val < 7 by omega), show rev ⟨6 - k.val, by omega⟩ = k from rev_rev k]

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if isRcv q then 2 else 0

/-- Only the main threads' cells have levels. -/
theorem L_of_ne (g : GSem nD τ sig) (h : g.1.2 ≠ .tc) : L g = ∅ := if_neg h
/-- Each of theirs has one. -/
theorem L_tc (c : Dev nD) (sm : SemLoc sig) : L ((c : Thread nD τ), sm) = {()} := if_pos rfl

/-- Messages are owed to receive cells only. -/
theorem owedSnd_pos {c : Dev nD} {g : GSem nD τ sig} {u : Unit} : ∀ {n : ℕ}, 0 < owedSnd c n g u → ∃ d k, g = rcvCell d k
  | 0, h => absurd h (Nat.lt_irrefl 0)
  | n + 1, h => by
    rw [show owedSnd c (n + 1) = owedSnd c n + _ from rfl, Pi.add_apply, Finsupp.add_apply] at h
    by_cases h0 : 0 < owedSnd c n g u
    · exact owedSnd_pos h0
    · by_cases hn : n < 7
      · rw [dif_pos hn, tallyAt_apply] at h
        by_cases hg : g = rcvCell (dest c (rev ⟨n, hn⟩)) (rev ⟨n, hn⟩) ∧ u = ()
        · exact ⟨_, _, hg.1⟩
        · rw [if_neg hg] at h; omega
      · rw [dif_neg hn] at h
        rw [show (0 : CellTallies nD τ sig Unit) g u = 0 from rfl] at h; omega
/-- At launch something is owed to receive cells and barriers only. -/
theorem owedSig_pos {c : Dev nD} {g : GSem nD τ sig} {u : Unit} : ∀ {n : ℕ}, 0 < owedSig c n g u → (∃ d k, g = rcvCell d k) ∨ ∃ d, g = barCell d
  | 0, h => Or.inl (owedSnd_pos (n := 7) h)
  | n + 1, h => by
    rw [show owedSig c (n + 1) = owedSig c n + _ from rfl, Pi.add_apply, Finsupp.add_apply] at h
    by_cases h0 : 0 < owedSig c n g u
    · exact owedSig_pos h0
    · by_cases hn : n < 7
      · rw [dif_pos hn, tallyAt_apply] at h
        by_cases hg : g = barCell (dest c (rev ⟨n, hn⟩)) ∧ u = ()
        · exact Or.inr ⟨_, hg.1⟩
        · rw [if_neg hg] at h; omega
      · rw [dif_neg hn] at h
        rw [show (0 : CellTallies nD τ sig Unit) g u = 0 from rfl] at h; omega

/-- A receive cell is at level two. -/
theorem lv_rcv (d : Dev nD) (k : Fin 7) : lv (rcvCell d k) () = 2 := if_pos (isRcv_rcv k)
/-- A barrier is at level one. -/
theorem lv_bar (d : Dev nD) : lv (barCell d) () = 1 := rfl

omit [FloatOps F] in
/-- The staging waits: a device may wait on a cell of level 0 whatever it owes at launch or at the end. -/
theorem mayWait_stage (c : Dev nD) (q : DmaSem sig) (hq : ¬ isRcv q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedSig_pos hg with ⟨d, k, rfl⟩ | ⟨d, rfl⟩ <;> exact Finset.mem_singleton_self _)
      (fun p hp => by rw [Finset.mem_singleton.mp hp]; dsimp only [lv]; rw [if_neg hq])
      (fun g u hg => by
        rcases owedSig_pos hg with ⟨d, k, rfl⟩ | ⟨d, rfl⟩
        · rw [lv_rcv]; decide
        · rw [lv_bar]; decide)
  · rw [MayWait_zero]; iintro -; iempintro

omit [FloatOps F] in
/-- At its barrier wait a device owes the receive cells only, above its barrier cell. -/
theorem mayWait_bar (c : Dev nD) :
    (levAts L lv : sProp 𝕄) ⊢ MayWait (c : Thread nD τ) (.reg barS) () (owedSnd c 7) :=
  MayOwe.of_cut (L := L) (lev := lv) 1 (fun p hp => by rw [Finset.mem_singleton.mp hp, L_tc]; exact Finset.mem_singleton_self _)
    (fun g u hg => by obtain ⟨d, k, rfl⟩ := owedSnd_pos hg; exact Finset.mem_singleton_self _)
    (fun p hp => by rw [Finset.mem_singleton.mp hp]; exact Nat.le_refl _)
    (fun g u hg => by obtain ⟨d, k, rfl⟩ := owedSnd_pos hg; rw [lv_rcv]; decide)

/-! ## The cells' records, and one rule per remote step -/

/-- The exchange's cells on a device: the barrier, the send cells, the receive cells. -/
abbrev CK : Type := Unit ⊕ (Fin 7 ⊕ Fin 7)
abbrev csem : CK → SemLoc sig
  | .inl _ => .reg barS
  | .inr (.inl k) => .dma (sndS k)
  | .inr (.inr k) => .dma (rcvS k)
abbrev kcell (ck : Dev nD × CK) : GSem nD τ sig := ((ck.1 : Thread nD τ), csem ck.2)

/-- Every cell's invariant, at the names the launch allocated, and that every cell has reached round 0. -/
def records (K : Dev nD × CK → ℕ) : sProp 𝕄 :=
  iprop((bigSep Finset.univ fun ck : Dev nD × CK => cellInv ER (rd MSG) (K ck) (kcell ck))
    ∗ bigSep Finset.univ fun ck : Dev nD × CK => reached ER (kcell ck) 0)

instance records_persistent (K : Dev nD × CK → ℕ) : BI.Persistent (records MSG K) := by unfold records; infer_instance

omit [FloatOps F] in
/-- The records have each cell's invariant. -/
theorem inv_at (K : Dev nD × CK → ℕ) (ck : Dev nD × CK) : records (F := F) MSG K ⊢ cellInv ER (rd MSG) (K ck) (kcell ck) := by
  unfold records; exact Laws.sep_and.trans (and_elimL.trans (bigSep_elim (Φ := fun ck : Dev nD × CK => (cellInv ER (rd MSG) (K ck) (kcell ck) : sProp 𝕄)) (Finset.mem_univ ck)))
omit [FloatOps F] in
/-- The records have that each cell has reached round 0. -/
theorem reached_at (K : Dev nD × CK → ℕ) (ck : Dev nD × CK) : records (F := F) MSG K ⊢ reached ER (kcell ck) 0 := by
  unfold records; exact Laws.sep_and.trans (and_elimR.trans (bigSep_elim (Φ := fun ck : Dev nD × CK => (reached ER (kcell ck) 0 : sProp 𝕄)) (Finset.mem_univ ck)))

/-- What device `c` owes, whatever waits it has recorded. -/
def owesE (c : Dev nD) (O : CellTallies nD τ sig Unit) : sProp 𝕄 := iprop(∃ W, owes (c : Thread nD τ) O W)

section Steps
variable (K : Dev nD × CK → ℕ) (c : Dev nD)
variable {α : Type} {kk : PUnit → Prog (TpuEff nD τ sig (Elt F) Λ₀ .tc) α}

/-- The `k`-th signal: to `dest c k`'s barrier, handing it the slot of `c`'s receive scratch it will write. -/
theorem step_signal {Q : α → sProp 𝕄} (k : Fin 7) (n : Dev nD) (hn : n = dest c k) (a b : ℕ) (ha : a = 7 - k.val) (hb : b = 6 - k.val) (k' : Fin 7) (hk' : k' = rev k) (u : ℕ) (hu : u = 1) :
    iprop(records MSG K ∗ owesE c (owedSig c a) ∗ dutyTok ER (barCell (dest c k)) 0 k' ∗ (∃ f, rcvPts c k' f))
      ⊢ iprop((owesE c (owedSig c b) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS u) kk) Q) := by
  subst hn ha hb hk' hu
  unfold owesE
  iintro ⟨#HR, ⟨%W, HO⟩, Ht, Hp⟩ Hk
  iapply (Rounds.wp_signal 𝒱₀ ER (rd MSG) (c : Thread nD τ) none (dst := (dest c k : Thread nD τ)) (κ := K (dest c k, .inl ()))
      (d := rev k) (by rw [duties_bar]; exact Finset.mem_univ _) (amount_bar MSG (dest c k) (rev k)) () (owedSig c (6 - k.val)) (owedSig_step c k) (W := W))
    $$ [HO Ht Hp]
  · isplitr; · iapply (inv_at MSG K (dest c k, .inl ())); iexact HR
    isplitl [HO]; · iexact HO
    isplitl [Ht]; · iexact Ht
    isplitl [Hp]
    · rw [payload_bar]; unfold barPay; rw [dest_dest_rev]; iexact Hp
    · iapply (reached_at MSG K (dest c k, .inl ())); iexact HR
  iintro HO
  iapply Hk
  iexists W; iexact HO

/-- The barrier wait: the seven slots it will write come with it. -/
theorem step_barrier {Q : α → sProp 𝕄} (u : ℕ) (hu : u = 7) :
    iprop(records MSG K ∗ levAts L lv ∗ cred (tallyAt (barCell c) () 7) ∗ owesE c (owedSig c 0) ∗ atPos ER (barCell c) 0 ∅ 0)
      ⊢ iprop(((owesE c (owedSnd c 7) ∗ semVal (barCell c) 0 ∗ bigSep Finset.univ (barPay c)) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS u) kk) Q) := by
  subst hu
  unfold owesE
  iintro ⟨#HR, #Hlev, Hc, ⟨%W, HO⟩, Hat⟩ Hk
  iapply (Rounds.wp_wait_rest_token 𝒱₀ ER (rd MSG) (c : Thread nD τ) none (κ := K (c, .inl ()))
      (wpE_semWait_eq 𝒱₀ (c : Thread nD τ) none Set.univ) (Set.mem_univ _) () (O := owedSnd c 7) (W := W) (R := 0) (m := 0) (T := ∅)
      (by rw [expect_bar])) $$ [Hc HO Hat]
  · isplitr; · iapply (inv_at MSG K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar MSG c)) $$ Hpay
  imod (Rounds.cell_close ER (rd MSG) (Set.mem_univ (K (c, .inl ()))) (fun h => h) (R := 0 + 1) (duties_later MSG (barCell c))) $$ [Hat] with Hz
  · isplitr; · iapply (inv_at MSG K (c, .inl ())); iexact HR
    iexact Hat
  iapply Hk
  isplitl [HO]; · iexists _; iexact HO
  isplitl [Hz]; · iexact Hz
  iexact Hp

/-- The `k`-th transfer, of a slot that reads as the message. -/
theorem step_send {Q : α → sProp 𝕄} (k : Fin 7) (n : Dev nD) (hn : n = dest c k) (a b : ℕ) (ha : a = 7 - k.val) (hb : b = 6 - k.val)
    (src dst : Memref sig .tc .vmem S64x1024 .bf16) (hs : src = sndM k) (hd : dst = rcvM k) (s₁ s₂ : DmaSem sig) (h₁ : s₁ = sndS k) (h₂ : s₂ = rcvS k)
    {hsc : (dst : Memref sig (Dev.tc n : Thread nD τ).2.kind .vmem S64x1024 .bf16).view.ref.isScScratch = false}
    {hsrc : src.view.WordExact} {hdst : dst.view.WordExact}
    {hsem : DmaTarget.Typed .vmem (.dma s₂) (.remote (Dev.tc n : Thread nD τ) dst (.dma s₁) hsc)}
    (fs : Buf (Elt F) ((sndM k).view.loc (c : Thread nD τ))) (hfs : sndAt k fs = MSG c k) (fd : Buf (Elt F) ((rcvM k).view.loc (dest c k : Thread nD τ))) :
    iprop(records MSG K ∗ sndPts c k fs ∗ rcvPts (dest c k) k fd ∗ owesE c (owedSnd c a)
        ∗ dutyTok ER (sndCell c k) 0 0 ∗ dutyTok ER (rcvCell (dest c k) k) 0 0)
      ⊢ iprop(((cred (tallyAt (sndCell c k) () N) ∗ owesE c (owedSnd c b)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma s₁) hsc) (.dma s₂) hsrc hdst hsem) kk) Q) := by
  subst hn ha hb hs hd h₁ h₂
  unfold owesE sndPts rcvPts
  iintro ⟨#HR, Hs, Hd, ⟨%W, HO⟩, Ht1, Ht2⟩ Hk
  iapply (Rounds.wp_send_pointsTo 𝒱₀ ER (rd MSG) (c : Thread nD τ) none (κ₁ := K (c, .inr (.inl k))) (κ₂ := K (dest c k, .inr (.inr k)))
    (r₁ := 0) (r₂ := 0) (d₁ := 0) (d₂ := 0) (fs := fs) (fd := fd)
    (by rw [duties_snd]; exact Finset.mem_singleton_self _) (by rw [duties_rcv]; exact Finset.mem_singleton_self _)
    () () N (show (rcvM k).view.amount (.dma (rcvS k)) = N from rcv_credit k) (amount_snd MSG c k 0) (amount_rcv MSG (dest c k) k 0) (owedSnd c (6 - k.val)) (owedSnd_step c k) (W := W)
    (by rw [payload_snd]; unfold sndPay sndPts; iintro H; iexists fs; iexact H)
    (by
      rw [payload_rcv]; unfold rcvPay rcvPts; rw [orig_dest]
      iintro H
      iexists ((rcvM k).view.write (Elt F) fd ((sndM k).view.read (Elt F) fs) Finset.univ)
      isplitr
      · ipureintro; rw [rcvAt_landed]; exact hfs
      · iexact H)) $$ [Hs Hd HO Ht1 Ht2]
  · isplitr; · iapply (inv_at MSG K (c, .inr (.inl k))); iexact HR
    isplitr; · iapply (inv_at MSG K (dest c k, .inr (.inr k))); iexact HR
    isplitl [Hs]; · iexact Hs
    isplitl [Hd]; · iexact Hd
    isplitl [HO]; · iexact HO
    isplitl [Ht1]; · iexact Ht1
    isplitr; · iapply (reached_at MSG K (c, .inr (.inl k))); iexact HR
    isplitl [Ht2]; · iexact Ht2
    iapply (reached_at MSG K (dest c k, .inr (.inr k))); iexact HR
  iintro ⟨Hc, HO⟩
  iapply Hk
  isplitl [Hc]; · iexact Hc
  iexists W; iexact HO

/-- The wait for the `k`-th message to land: its slot holding the sender's message, the cell closed. -/
theorem step_recvWait {Q : α → sProp 𝕄} (k : Fin 7) (s : DmaSem sig) (h : s = rcvS k)
    {src dst : Memref sig .tc .vmem S64x1024 .bf16} {h₁ : src.view.WordExact} {h₂ : dst.view.WordExact} (hd : dst = rcvM k) :
    iprop(records MSG K ∗ cred (tallyAt (rcvCell c k) () N) ∗ owesE c 0 ∗ atPos ER (rcvCell c k) 0 ∅ 0)
      ⊢ iprop(((owesE c 0 ∗ semVal (rcvCell c k) 0 ∗ (∃ f, ⌜rcvAt k f = MSG (orig c k) k⌝ ∗ rcvPts c k f)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst h₁ h₂) kk) Q) := by
  subst h hd
  unfold owesE
  iintro ⟨#HR, Hc, ⟨%W, HO⟩, Hat⟩ Hk
  iapply (Rounds.wp_wait_rest_token 𝒱₀ ER (rd MSG) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add, expect_rcv])) $$ [Hc HO Hat]
  · isplitr; · iapply (inv_at MSG K (c, .inr (.inr k))); iexact HR
    isplitl [Hc]; · iexact Hc
    isplitl [HO]; · iexact HO
    isplitr; · rw [MayWait_zero]; iempintro
    iexact Hat
  iintro ⟨HO, Hat, -, Hpay⟩
  ihave Hp := (Entails.of_eq (rest_rcv MSG c k)) $$ Hpay
  imod (Rounds.cell_close ER (rd MSG) (Set.mem_univ (K (c, .inr (.inr k)))) (fun h => h) (R := 0 + 1) (duties_later MSG (rcvCell c k))) $$ [Hat] with Hz
  · isplitr; · iapply (inv_at MSG K (c, .inr (.inr k))); iexact HR
    iexact Hat
  iapply Hk
  isplitl [HO]; · iexists _; iexact HO
  isplitl [Hz]; · iexact Hz
  unfold rcvPay; iexact Hp

/-- The wait for the `k`-th message to have left: its slot back, the cell closed. -/
theorem step_sendWait {Q : α → sProp 𝕄} (k : Fin 7) (s : DmaSem sig) (h : s = sndS k)
    {src dst : Memref sig .tc .vmem S64x1024 .bf16} {h₁ : src.view.WordExact} {h₂ : dst.view.WordExact} (hd : dst = sndM k) :
    iprop(records MSG K ∗ cred (tallyAt (sndCell c k) () N) ∗ owesE c 0 ∗ atPos ER (sndCell c k) 0 ∅ 0)
      ⊢ iprop(((owesE c 0 ∗ semVal (sndCell c k) 0 ∗ (∃ f, sndPts (F := F) c k f)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst h₁ h₂) kk) Q) := by
  subst h hd
  unfold owesE
  iintro ⟨#HR, Hc, ⟨%W, HO⟩, Hat⟩ Hk
  iapply (Rounds.wp_wait_rest_token 𝒱₀ ER (rd MSG) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_snd])) $$ [Hc HO Hat]
  · isplitr; · iapply (inv_at MSG K (c, .inr (.inl k))); iexact HR
    isplitl [Hc]; · iexact Hc
    isplitl [HO]; · iexact HO
    isplitr; · rw [MayWait_zero]; iempintro
    iexact Hat
  iintro ⟨HO, Hat, -, Hpay⟩
  ihave Hp := (Entails.of_eq (rest_snd MSG c k)) $$ Hpay
  imod (Rounds.cell_close ER (rd MSG) (Set.mem_univ (K (c, .inr (.inl k)))) (fun h => h) (R := 0 + 1) (duties_later MSG (sndCell c k))) $$ [Hat] with Hz
  · isplitr; · iapply (inv_at MSG K (c, .inr (.inl k))); iexact HR
    iexact Hat
  iapply Hk
  isplitl [HO]; · iexists _; iexact HO
  isplitl [Hz]; · iexact Hz
  unfold sndPay; iexact Hp

end Steps

end Cert.KernelIdeal.Run

end
-- ==== Proof.IdealValues.lean ====
/-
# What a device computes

The values of the kernel's body on device `c`, one definition per value that a statement of the body binds, from the
device's operands `I` (its tokens, their experts, its experts' weights) and — after the exchange — the messages `G` it
received. `mB`, `cB`, `aB`: the blocks of 256 rows of the three per-token tables (which local expert takes the token,
the running counts, which device takes the token); `qB`: per local expert, the one-hot table of the slots;
`msg k`: the message for device `c + k + 1`; `outF`: the device's block of the result.
-/
module

public import proofs.«01_k».proof.Proof.Gen.KernelIdeal
public import proofs.«01_k».proof.Proof.Gen.KernelIdeal.Skeleton
public import Idealize.ShloMosaic.Lib.ValueIdxCore
public import Idealize.ShloMosaic.Lib.WritesUnit
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.ShloMosaic.ValueIdx

variable {F : FTy → Type} [FloatOps F]

/-- A device's operands: the tokens, the expert of each, the weights of the device's own experts. -/
structure Inp (F : FTy → Type) where
  x : Vec F S2048x512 .bf16
  r : Vec F S2048x1 .i32
  w : Vec F S4x512x1024 .bf16

/-- Eight blocks of 256 rows, one above the other. -/
def rowsFn {α : Type} {C : ℕ} (blk : Fin 8 → (⟨2, ![256, C]⟩ : Shape).Idx → α) : (⟨2, ![2048, C]⟩ : Shape).Idx → α := fun i =>
  blk ⟨(i 0).val / 256, Nat.div_lt_of_lt_mul (show (i 0).val < 256 * 8 from (i 0).isLt)⟩
    (ix2 ⟨(i 0).val % 256, Nat.mod_lt _ (by decide)⟩ ⟨(i 1).val, (i 1).isLt⟩)
/-- Four planes, one behind the other. -/
def planesFn {α : Type} {A B : ℕ} (blk : Fin 4 → (⟨3, ![1, A, B]⟩ : Shape).Idx → α) : (⟨3, ![4, A, B]⟩ : Shape).Idx → α := fun i =>
  blk ⟨(i 0).val, (i 0).isLt⟩ (ix3 0 ⟨(i 1).val, (i 1).isLt⟩ ⟨(i 2).val, (i 2).isLt⟩)

/-- The first `n` blocks of rows are in place. -/
def RowsUpto {α : Type} {C : ℕ} (f g : (⟨2, ![2048, C]⟩ : Shape).Idx → α) (n : ℕ) : Prop := ∀ i, (i 0).val < 256 * n → f i = g i
/-- The first `n` planes are in place. -/
def PlanesUpto {α : Type} {A B : ℕ} (f g : (⟨3, ![4, A, B]⟩ : Shape).Idx → α) (n : ℕ) : Prop := ∀ i, (i 0).val < n → f i = g i

/-- No block need be in place for none to be. -/
theorem RowsUpto.zero {α : Type} {C : ℕ} (f g : (⟨2, ![2048, C]⟩ : Shape).Idx → α) : RowsUpto f g 0 := fun i h => absurd h (Nat.not_lt_zero _)
/-- No plane need be in place for none to be. -/
theorem PlanesUpto.zero {α : Type} {A B : ℕ} (f g : (⟨3, ![4, A, B]⟩ : Shape).Idx → α) : PlanesUpto f g 0 := fun i h => absurd h (Nat.not_lt_zero _)
/-- With all eight blocks in place the tables are equal. -/
theorem RowsUpto.all {α : Type} {C : ℕ} {f g : (⟨2, ![2048, C]⟩ : Shape).Idx → α} (h : RowsUpto f g 8) : f = g := funext fun i => h i (i 0).isLt
/-- With all four planes in place the tables are equal. -/
theorem PlanesUpto.all {α : Type} {A B : ℕ} {f g : (⟨3, ![4, A, B]⟩ : Shape).Idx → α} (h : PlanesUpto f g 4) : f = g := funext fun i => h i (i 0).isLt

section Steps
variable {κ : Kind} {sp : Space} {e : EltTy}

/-- Storing block `n` puts one more block in place. -/
theorem RowsUpto.step {C : ℕ} {v : View sig κ sp (⟨2, ![2048, C]⟩ : Shape) e} {f : v.ty.Contents (Elt F)}
    {blk : Fin 8 → (⟨2, ![256, C]⟩ : Shape).Idx → Elt F e} (n : Fin 8) (h : RowsUpto (v.read (Elt F) f) (rowsFn blk) n.val)
    (o : ℕ) (ho : o = 256 * n.val) (inb : ∀ a : Fin 2, (![o, 0] : Fin 2 → ℕ) a + (![256, C] : Fin 2 → ℕ) a ≤ (![2048, C] : Fin 2 → ℕ) a)
    (w : (⟨2, ![256, C]⟩ : Shape).Idx → Elt F e) (hw : w = blk n) (m : ℕ) (hm : m = n.val + 1) :
    RowsUpto (v.read (Elt F) (v.writes (Elt F) f [⟨Rect.unit (s := ⟨2, ![2048, C]⟩) ![o, 0] ![256, C] inb, w⟩])) (rowsFn blk) m := by
  subst ho hw hm
  intro i hi
  by_cases hlt : (i 0).val < 256 * n.val
  · rw [View.read_writes_cons_rows_of_not_mem v f inb (blk n) [] i rfl rfl (Or.inl hlt), View.writes_nil]
    exact h i hlt
  · have h0 : (i 0).val / 256 = n.val := by omega
    have hb : (⟨(i 0).val / 256, Nat.div_lt_of_lt_mul (show (i 0).val < 256 * 8 from (i 0).isLt)⟩ : Fin 8) = n := Fin.ext h0
    refine (View.read_writes_cons_rows_of_mem v f inb (blk n) [] i
      (ix2 ⟨(i 0).val % 256, Nat.mod_lt _ (by decide)⟩ ⟨(i 1).val, (i 1).isLt⟩) rfl ?_ ?_).trans ?_
    · show (i 0).val = 256 * n.val + (i 0).val % 256
      omega
    · rfl
    · unfold rowsFn; rw [hb]

/-- Storing plane `n` puts one more plane in place. -/
theorem PlanesUpto.step {A B : ℕ} {v : View sig κ sp (⟨3, ![4, A, B]⟩ : Shape) e} {f : v.ty.Contents (Elt F)}
    {blk : Fin 4 → (⟨3, ![1, A, B]⟩ : Shape).Idx → Elt F e} (n : Fin 4) (h : PlanesUpto (v.read (Elt F) f) (planesFn blk) n.val)
    (o : ℕ) (ho : o = n.val) (inb : ∀ a : Fin 3, (![o, 0, 0] : Fin 3 → ℕ) a + (![1, A, B] : Fin 3 → ℕ) a ≤ (![4, A, B] : Fin 3 → ℕ) a)
    (w : (⟨3, ![1, A, B]⟩ : Shape).Idx → Elt F e) (hw : w = blk n) (m : ℕ) (hm : m = n.val + 1) :
    PlanesUpto (v.read (Elt F) (v.writes (Elt F) f [⟨Rect.unit (s := ⟨3, ![4, A, B]⟩) ![o, 0, 0] ![1, A, B] inb, w⟩])) (planesFn blk) m := by
  subst ho hw hm
  intro i hi
  by_cases hlt : (i 0).val < n.val
  · rw [View.read_writes_cons_unit_of_not_mem v f inb (blk n) [] i rfl (0 : Fin 3) (Or.inl hlt), View.writes_nil]
    exact h i hlt
  · have h0 : (i 0).val = n.val := by omega
    have hb : (⟨(i 0).val, (i 0).isLt⟩ : Fin 4) = n := Fin.ext h0
    refine (View.read_writes_cons_unit_of_mem v f inb (blk n) [] i
      (ix3 0 ⟨(i 1).val, (i 1).isLt⟩ ⟨(i 2).val, (i 2).isLt⟩) rfl ?_).trans ?_
    · intro a
      match a with
      | 0 => exact h0
      | 1 => exact (Nat.zero_add _).symm
      | 2 => exact (Nat.zero_add _).symm
    · unfold planesFn; rw [hb]
end Steps

-- part 1
def v0 (c : Dev nD) (I : Inp F) : BitVec 32 :=
  Dev.word c
def v1 (c : Dev nD) (I : Inp F) : BitVec 32 :=
  Scalar.divsi (v0 c I) 1#32
def v2 (c : Dev nD) (I : Inp F) : BitVec 32 :=
  Scalar.remsi (v1 c I) 8#32
def v3 (c : Dev nD) (I : Inp F) : Sems sig S_ :=
  SemArray.scalar (sig.barrier 0 rfl)
def v24 (c : Dev nD) (I : Inp F) : BitVec 32 :=
  Scalar.addi (v2 c I) 6#32
def c8_i32_20 (c : Dev nD) (I : Inp F) : BitVec 32 :=
  8#32

-- part 2
def v32 (c : Dev nD) (I : Inp F) : Vec F S2048x512 .bf16 :=
  (Memref.whole cc0_stg0_0 : Memref sig .tc .vmem S2048x512 .bf16).view.readAt (Elt F) (Rect.unit (s := S2048x512) ![0, 0] S2048x512.size inb_S2048x512_S2048x512_0_0).toLoadRect I.x
def xb (c : Dev nD) (I : Inp F) : Vec F S2048x512 .bf16 := (k0_pay1 (v32 c I))
def v37 (c : Dev nD) (I : Inp F) : Vec F S4x512x1024 .bf16 :=
  (Memref.whole cc0_stg2_0 : Memref sig .tc .vmem S4x512x1024 .bf16).view.readAt (Elt F) (Rect.unit (s := S4x512x1024) ![0, 0, 0] S4x512x1024.size inb_S4x512x1024_S4x512x1024_0_0_0).toLoadRect I.w
def wb (c : Dev nD) (I : Inp F) : Vec F S4x512x1024 .bf16 := (k0_pay2 (v37 c I))
def v52 (c : Dev nD) (I : Inp F) : IVec S256x32 32 :=
  iota .tc S256x32 32 [1] iota_S256x32_d1_w32
def v53 (c : Dev nD) (I : Inp F) : IVec S32x8 32 :=
  iota .tc S32x8 32 [0] iota_S32x8_d0_w32
def v47 (c : Dev nD) (I : Inp F) : FVec F S256x256 .bf16 :=
  k0_pay3 (F := F)
def v51 (c : Dev nD) (I : Inp F) : IVec S256x4 32 :=
  k0_pay4 (v2 c I)
def c4_i32_39 (c : Dev nD) (I : Inp F) : BitVec 32 :=
  4#32
def v55 (c : Dev nD) (I : Inp F) : IVec S32x8 32 :=
  k0_pay5
def v56 (c : Dev nD) (I : Inp F) : IVec S32x8 32 :=
  k0_pay6

-- part 3
def v85 (c : Dev nD) (I : Inp F) : Vec F S256x1 .i32 :=
  (Memref.whole cc0_stg1_0 : Memref sig .tc .vmem S2048x1 .i32).view.readAt (Elt F) (Rect.unit (s := S2048x1) ![0, 0] S256x1.size inb_S2048x1_S256x1_0_0).toLoadRect I.r
def v82 (c : Dev nD) (I : Inp F) : FVec F S32x8 .bf16 :=
  k0_pay7 (F := F) (v53 c I) (c4_i32_39 c I) (v55 c I) (v56 c I)
def v83 (c : Dev nD) (I : Inp F) : FVec F S1x4 .f32 :=
  k0_pay8 (F := F)
def v84 (c : Dev nD) (I : Inp F) : FVec F S1x32 .f32 :=
  k0_pay9 (F := F)
def v91 (c : Dev nD) (I : Inp F) : FVec F S256x4 .bf16 :=
  k0_pay11 (v51 c I) (v85 c I)
def v96 (c : Dev nD) (I : Inp F) : FVec F S256x32 .bf16 :=
  k0_pay12 (v52 c I) (v85 c I)
def v99 (c : Dev nD) (I : Inp F) : FVec F S256x4 .f32 :=
  k0_pay13 (v47 c I) (v51 c I) (v85 c I)
def v102 (c : Dev nD) (I : Inp F) : FVec F S256x32 .f32 :=
  k0_pay14 (v47 c I) (v52 c I) (v85 c I)
def v104 (c : Dev nD) (I : Inp F) : IVec S256x4 1 :=
  k0_pay15 (v47 c I) (v51 c I) (v85 c I)

-- part 4
def mB0 (c : Dev nD) (I : Inp F) : Vec F S256x4 .bf16 := (k0_pay16 (v91 c I) (v104 c I))
def cB0 (c : Dev nD) (I : Inp F) : Vec F S256x4 .f32 := (k0_pay17 (v99 c I))
def aB0 (c : Dev nD) (I : Inp F) : Vec F S256x8 .bf16 := (k0_pay18 (v82 c I) (v96 c I) (v102 c I))
def v134 (c : Dev nD) (I : Inp F) : Vec F S256x1 .i32 :=
  (Memref.whole cc0_stg1_0 : Memref sig .tc .vmem S2048x1 .i32).view.readAt (Elt F) (Rect.unit (s := S2048x1) ![256, 0] S256x1.size inb_S2048x1_S256x1_256_0).toLoadRect I.r
def v129 (c : Dev nD) (I : Inp F) : FVec F S1x4 .f32 :=
  k0_pay19 (v83 c I) (v91 c I)
def v133 (c : Dev nD) (I : Inp F) : FVec F S1x32 .f32 :=
  k0_pay20 (v84 c I) (v96 c I)
def v140 (c : Dev nD) (I : Inp F) : FVec F S256x4 .bf16 :=
  k0_pay22 (v51 c I) (v134 c I)
def v145 (c : Dev nD) (I : Inp F) : FVec F S256x32 .bf16 :=
  k0_pay23 (v52 c I) (v134 c I)
def v148 (c : Dev nD) (I : Inp F) : FVec F S256x4 .f32 :=
  k0_pay24 (v47 c I) (v51 c I) (v83 c I) (v91 c I) (v134 c I)

-- part 5
def mB1 (c : Dev nD) (I : Inp F) : Vec F S256x4 .bf16 := (k0_pay25 (v140 c I) (v148 c I))
def cB1 (c : Dev nD) (I : Inp F) : Vec F S256x4 .f32 := (k0_pay26 (v148 c I))
def aB1 (c : Dev nD) (I : Inp F) : Vec F S256x8 .bf16 := (k0_pay27 (v47 c I) (v82 c I) (v133 c I) (v145 c I))
def v183 (c : Dev nD) (I : Inp F) : Vec F S256x1 .i32 :=
  (Memref.whole cc0_stg1_0 : Memref sig .tc .vmem S2048x1 .i32).view.readAt (Elt F) (Rect.unit (s := S2048x1) ![512, 0] S256x1.size inb_S2048x1_S256x1_512_0).toLoadRect I.r
def v178 (c : Dev nD) (I : Inp F) : FVec F S1x4 .f32 :=
  k0_pay28 (v129 c I) (v140 c I)
def v182 (c : Dev nD) (I : Inp F) : FVec F S1x32 .f32 :=
  k0_pay29 (v133 c I) (v145 c I)
def v189 (c : Dev nD) (I : Inp F) : FVec F S256x4 .bf16 :=
  k0_pay31 (v51 c I) (v183 c I)
def v191 (c : Dev nD) (I : Inp F) : IVec S256x32 1 :=
  k0_pay32 (v52 c I) (v183 c I)

-- part 6
def mB2 (c : Dev nD) (I : Inp F) : Vec F S256x4 .bf16 := (k0_pay35 (v47 c I) (v178 c I) (v189 c I))
def cB2 (c : Dev nD) (I : Inp F) : Vec F S256x4 .f32 := (k0_pay36 (v47 c I) (v178 c I) (v189 c I))
def aB2 (c : Dev nD) (I : Inp F) : Vec F S256x8 .bf16 := (k0_pay37 (v47 c I) (v82 c I) (v182 c I) (v191 c I))
def v232 (c : Dev nD) (I : Inp F) : Vec F S256x1 .i32 :=
  (Memref.whole cc0_stg1_0 : Memref sig .tc .vmem S2048x1 .i32).view.readAt (Elt F) (Rect.unit (s := S2048x1) ![768, 0] S256x1.size inb_S2048x1_S256x1_768_0).toLoadRect I.r
def v227 (c : Dev nD) (I : Inp F) : FVec F S1x4 .f32 :=
  k0_pay38 (v178 c I) (v189 c I)
def v231 (c : Dev nD) (I : Inp F) : FVec F S1x32 .f32 :=
  k0_pay39 (v182 c I) (v191 c I)
def v233 (c : Dev nD) (I : Inp F) : IVec S256x1 32 :=
  k0_pay40 (v232 c I)

-- part 7
def mB3 (c : Dev nD) (I : Inp F) : Vec F S256x4 .bf16 := (k0_pay44 (v47 c I) (v51 c I) (v227 c I) (v233 c I))
def cB3 (c : Dev nD) (I : Inp F) : Vec F S256x4 .f32 := (k0_pay45 (v47 c I) (v51 c I) (v227 c I) (v233 c I))
def aB3 (c : Dev nD) (I : Inp F) : Vec F S256x8 .bf16 := (k0_pay46 (v47 c I) (v52 c I) (v82 c I) (v231 c I) (v233 c I))
def v276 (c : Dev nD) (I : Inp F) : FVec F S1x4 .f32 :=
  k0_pay47 (v51 c I) (v227 c I) (v233 c I)
def v277 (c : Dev nD) (I : Inp F) : FVec F S256x32 .f32 :=
  k0_pay48 (F := F) (v52 c I) (v233 c I)

-- part 8
def v281 (c : Dev nD) (I : Inp F) : Vec F S256x1 .i32 :=
  (Memref.whole cc0_stg1_0 : Memref sig .tc .vmem S2048x1 .i32).view.readAt (Elt F) (Rect.unit (s := S2048x1) ![1024, 0] S256x1.size inb_S2048x1_S256x1_1024_0).toLoadRect I.r
def mB4 (c : Dev nD) (I : Inp F) : Vec F S256x4 .bf16 := (k0_pay54 (v47 c I) (v51 c I) (v276 c I) (v281 c I))
def cB4 (c : Dev nD) (I : Inp F) : Vec F S256x4 .f32 := (k0_pay55 (v47 c I) (v51 c I) (v276 c I) (v281 c I))
def aB4 (c : Dev nD) (I : Inp F) : Vec F S256x8 .bf16 := (k0_pay56 (v47 c I) (v52 c I) (v82 c I) (v231 c I) (v277 c I) (v281 c I))
def v280 (c : Dev nD) (I : Inp F) : FVec F S1x32 .f32 :=
  k0_pay49 (v231 c I) (v277 c I)
def v287 (c : Dev nD) (I : Inp F) : FVec F S256x4 .bf16 :=
  k0_pay51 (v51 c I) (v281 c I)
def v292 (c : Dev nD) (I : Inp F) : FVec F S256x32 .bf16 :=
  k0_pay52 (v52 c I) (v281 c I)

-- part 9
def v330 (c : Dev nD) (I : Inp F) : Vec F S256x1 .i32 :=
  (Memref.whole cc0_stg1_0 : Memref sig .tc .vmem S2048x1 .i32).view.readAt (Elt F) (Rect.unit (s := S2048x1) ![1280, 0] S256x1.size inb_S2048x1_S256x1_1280_0).toLoadRect I.r
def mB5 (c : Dev nD) (I : Inp F) : Vec F S256x4 .bf16 := (k0_pay63 (v47 c I) (v51 c I) (v276 c I) (v287 c I) (v330 c I))
def cB5 (c : Dev nD) (I : Inp F) : Vec F S256x4 .f32 := (k0_pay64 (v47 c I) (v51 c I) (v276 c I) (v287 c I) (v330 c I))
def v325 (c : Dev nD) (I : Inp F) : FVec F S1x4 .f32 :=
  k0_pay57 (v276 c I) (v287 c I)
def v329 (c : Dev nD) (I : Inp F) : FVec F S1x32 .f32 :=
  k0_pay58 (v280 c I) (v292 c I)
def v336 (c : Dev nD) (I : Inp F) : FVec F S256x4 .bf16 :=
  k0_pay60 (v51 c I) (v330 c I)
def v341 (c : Dev nD) (I : Inp F) : FVec F S256x32 .bf16 :=
  k0_pay61 (v52 c I) (v330 c I)
def v366 (c : Dev nD) (I : Inp F) : FVec F S256x8 .f32 :=
  k0_pay65 (v47 c I) (v52 c I) (v82 c I) (v280 c I) (v292 c I) (v330 c I)

-- part 10
def aB5 (c : Dev nD) (I : Inp F) : Vec F S256x8 .bf16 := (k0_pay66 (v366 c I))
def v379 (c : Dev nD) (I : Inp F) : Vec F S256x1 .i32 :=
  (Memref.whole cc0_stg1_0 : Memref sig .tc .vmem S2048x1 .i32).view.readAt (Elt F) (Rect.unit (s := S2048x1) ![1536, 0] S256x1.size inb_S2048x1_S256x1_1536_0).toLoadRect I.r
def mB6 (c : Dev nD) (I : Inp F) : Vec F S256x4 .bf16 := (k0_pay74 (v47 c I) (v51 c I) (v325 c I) (v336 c I) (v379 c I))
def v374 (c : Dev nD) (I : Inp F) : FVec F S1x4 .f32 :=
  k0_pay67 (v325 c I) (v336 c I)
def v378 (c : Dev nD) (I : Inp F) : FVec F S1x32 .f32 :=
  k0_pay68 (v329 c I) (v341 c I)
def v385 (c : Dev nD) (I : Inp F) : FVec F S256x4 .bf16 :=
  k0_pay70 (v51 c I) (v379 c I)
def v390 (c : Dev nD) (I : Inp F) : FVec F S256x32 .bf16 :=
  k0_pay71 (v52 c I) (v379 c I)
def v393 (c : Dev nD) (I : Inp F) : FVec F S256x4 .f32 :=
  k0_pay72 (v47 c I) (v51 c I) (v325 c I) (v336 c I) (v379 c I)
def v408 (c : Dev nD) (I : Inp F) : FVec F S256x32 .bf16 :=
  k0_pay73 (v47 c I) (v52 c I) (v329 c I) (v341 c I) (v379 c I)

-- part 11
def cB6 (c : Dev nD) (I : Inp F) : Vec F S256x4 .f32 := (k0_pay75 (v393 c I))
def aB6 (c : Dev nD) (I : Inp F) : Vec F S256x8 .bf16 := (k0_pay76 (v82 c I) (v408 c I))
def v428 (c : Dev nD) (I : Inp F) : Vec F S256x1 .i32 :=
  (Memref.whole cc0_stg1_0 : Memref sig .tc .vmem S2048x1 .i32).view.readAt (Elt F) (Rect.unit (s := S2048x1) ![1792, 0] S256x1.size inb_S2048x1_S256x1_1792_0).toLoadRect I.r
def v442 (c : Dev nD) (I : Inp F) : FVec F S256x4 .f32 :=
  k0_pay79 (v47 c I) (v51 c I) (v374 c I) (v385 c I) (v428 c I)
def v451 (c : Dev nD) (I : Inp F) : FVec F S256x4 .bf16 :=
  k0_pay80 (v47 c I) (v51 c I) (v374 c I) (v385 c I) (v428 c I)
def v457 (c : Dev nD) (I : Inp F) : FVec F S256x32 .bf16 :=
  k0_pay81 (v47 c I) (v52 c I) (v378 c I) (v390 c I) (v428 c I)

-- part 12
def mB7 (c : Dev nD) (I : Inp F) : Vec F S256x4 .bf16 := (k0_pay82 (v451 c I))
def mB (c : Dev nD) (I : Inp F) (b : Fin 8) : Vec F S256x4 .bf16 := match b with
  | 0 => mB0 c I
  | 1 => mB1 c I
  | 2 => mB2 c I
  | 3 => mB3 c I
  | 4 => mB4 c I
  | 5 => mB5 c I
  | 6 => mB6 c I
  | 7 => mB7 c I
def MF (c : Dev nD) (I : Inp F) : Vec F S2048x4 .bf16 := rowsFn (mB c I)
def cB7 (c : Dev nD) (I : Inp F) : Vec F S256x4 .f32 := (k0_pay83 (v442 c I))
def cB (c : Dev nD) (I : Inp F) (b : Fin 8) : Vec F S256x4 .f32 := match b with
  | 0 => cB0 c I
  | 1 => cB1 c I
  | 2 => cB2 c I
  | 3 => cB3 c I
  | 4 => cB4 c I
  | 5 => cB5 c I
  | 6 => cB6 c I
  | 7 => cB7 c I
def CF (c : Dev nD) (I : Inp F) : Vec F S2048x4 .f32 := rowsFn (cB c I)
def aB7 (c : Dev nD) (I : Inp F) : Vec F S256x8 .bf16 := (k0_pay84 (v82 c I) (v457 c I))
def aB (c : Dev nD) (I : Inp F) (b : Fin 8) : Vec F S256x8 .bf16 := match b with
  | 0 => aB0 c I
  | 1 => aB1 c I
  | 2 => aB2 c I
  | 3 => aB3 c I
  | 4 => aB4 c I
  | 5 => aB5 c I
  | 6 => aB6 c I
  | 7 => aB7 c I
def AF (c : Dev nD) (I : Inp F) : Vec F S2048x8 .bf16 := rowsFn (aB c I)
def v469 (c : Dev nD) (I : Inp F) : IVec S256x64 32 :=
  iota .tc S256x64 32 [1] iota_S256x64_d1_w32
def v470 (c : Dev nD) (I : Inp F) : IVec S2048x64 32 :=
  iota .tc S2048x64 32 [1] iota_S2048x64_d1_w32
def v471 (c : Dev nD) (I : Inp F) : Vec F S2048x1 .f32 :=
  (Memref.whole cc0_scratch4 : Memref sig .tc .vmem S2048x4 .f32).view.readAt (Elt F) (Rect.unit (s := S2048x4) ![0, 0] S2048x1.size inb_S2048x4_S2048x1_0_0).toLoadRect (CF c I)
def v480 (c : Dev nD) (I : Inp F) : Vec F S2048x1 .bf16 :=
  (Memref.whole cc0_scratch2 : Memref sig .tc .vmem S2048x4 .bf16).view.readAt (Elt F) (Rect.unit (s := S2048x4) ![0, 0] S2048x1.size inb_S2048x4_S2048x1_0_0).toLoadRect (MF c I)
def qB0 (c : Dev nD) (I : Inp F) : Vec F S1x2048x64 .bf16 := (k0_pay86 (v471 c I) (v480 c I))
def v486 (c : Dev nD) (I : Inp F) : Vec F S2048x512 .bf16 :=
  (Memref.whole cc0_scratch0 : Memref sig .tc .vmem S2048x512 .bf16).view.readAt (Elt F) (Rect.unit (s := S2048x512) ![0, 0] S2048x512.size inb_S2048x512_S2048x512_0_0).toLoadRect (xb c I)
def v489 (c : Dev nD) (I : Inp F) : Vec F S1x512x1024 .bf16 :=
  (Memref.whole cc0_scratch1 : Memref sig .tc .vmem S4x512x1024 .bf16).view.readAt (Elt F) (Rect.unit (s := S4x512x1024) ![0, 0, 0] S1x512x1024.size inb_S4x512x1024_S1x512x1024_0_0_0).toLoadRect (wb c I)
def v491 (c : Dev nD) (I : Inp F) : FVec F S64x1024 .f32 :=
  k0_pay87 (v471 c I) (v480 c I) (v486 c I) (v489 c I)

-- part 13
def v493 (c : Dev nD) (I : Inp F) : Vec F S2048x1 .f32 :=
  (Memref.whole cc0_scratch4 : Memref sig .tc .vmem S2048x4 .f32).view.readAt (Elt F) (Rect.unit (s := S2048x4) ![0, 1] S2048x1.size inb_S2048x4_S2048x1_0_1).toLoadRect (CF c I)
def v502 (c : Dev nD) (I : Inp F) : Vec F S2048x1 .bf16 :=
  (Memref.whole cc0_scratch2 : Memref sig .tc .vmem S2048x4 .bf16).view.readAt (Elt F) (Rect.unit (s := S2048x4) ![0, 1] S2048x1.size inb_S2048x4_S2048x1_0_1).toLoadRect (MF c I)
def qB1 (c : Dev nD) (I : Inp F) : Vec F S1x2048x64 .bf16 := (k0_pay90 (v470 c I) (v493 c I) (v502 c I))
def v508 (c : Dev nD) (I : Inp F) : Vec F S2048x512 .bf16 :=
  (Memref.whole cc0_scratch0 : Memref sig .tc .vmem S2048x512 .bf16).view.readAt (Elt F) (Rect.unit (s := S2048x512) ![0, 0] S2048x512.size inb_S2048x512_S2048x512_0_0).toLoadRect (xb c I)
def v511 (c : Dev nD) (I : Inp F) : Vec F S1x512x1024 .bf16 :=
  (Memref.whole cc0_scratch1 : Memref sig .tc .vmem S4x512x1024 .bf16).view.readAt (Elt F) (Rect.unit (s := S4x512x1024) ![1, 0, 0] S1x512x1024.size inb_S4x512x1024_S1x512x1024_1_0_0).toLoadRect (wb c I)
def v515 (c : Dev nD) (I : Inp F) : Vec F S2048x1 .f32 :=
  (Memref.whole cc0_scratch4 : Memref sig .tc .vmem S2048x4 .f32).view.readAt (Elt F) (Rect.unit (s := S2048x4) ![0, 2] S2048x1.size inb_S2048x4_S2048x1_0_2).toLoadRect (CF c I)
def v524 (c : Dev nD) (I : Inp F) : Vec F S2048x1 .bf16 :=
  (Memref.whole cc0_scratch2 : Memref sig .tc .vmem S2048x4 .bf16).view.readAt (Elt F) (Rect.unit (s := S2048x4) ![0, 2] S2048x1.size inb_S2048x4_S2048x1_0_2).toLoadRect (MF c I)
def v492 (c : Dev nD) (I : Inp F) : FVec F S64x1024 .bf16 :=
  k0_pay88 (v491 c I)
def v514 (c : Dev nD) (I : Inp F) : FVec F S64x1024 .bf16 :=
  k0_pay91 (v470 c I) (v493 c I) (v502 c I) (v508 c I) (v511 c I)
def v526 (c : Dev nD) (I : Inp F) : FVec F S2048x64 .bf16 :=
  k0_pay92 (v470 c I) (v515 c I) (v524 c I)

-- part 14
def qB2 (c : Dev nD) (I : Inp F) : Vec F S1x2048x64 .bf16 := (k0_pay93 (v526 c I))
def v530 (c : Dev nD) (I : Inp F) : Vec F S2048x512 .bf16 :=
  (Memref.whole cc0_scratch0 : Memref sig .tc .vmem S2048x512 .bf16).view.readAt (Elt F) (Rect.unit (s := S2048x512) ![0, 0] S2048x512.size inb_S2048x512_S2048x512_0_0).toLoadRect (xb c I)
def v533 (c : Dev nD) (I : Inp F) : Vec F S1x512x1024 .bf16 :=
  (Memref.whole cc0_scratch1 : Memref sig .tc .vmem S4x512x1024 .bf16).view.readAt (Elt F) (Rect.unit (s := S4x512x1024) ![2, 0, 0] S1x512x1024.size inb_S4x512x1024_S1x512x1024_2_0_0).toLoadRect (wb c I)
def v537 (c : Dev nD) (I : Inp F) : Vec F S2048x1 .f32 :=
  (Memref.whole cc0_scratch4 : Memref sig .tc .vmem S2048x4 .f32).view.readAt (Elt F) (Rect.unit (s := S2048x4) ![0, 3] S2048x1.size inb_S2048x4_S2048x1_0_3).toLoadRect (CF c I)
def v546 (c : Dev nD) (I : Inp F) : Vec F S2048x1 .bf16 :=
  (Memref.whole cc0_scratch2 : Memref sig .tc .vmem S2048x4 .bf16).view.readAt (Elt F) (Rect.unit (s := S2048x4) ![0, 3] S2048x1.size inb_S2048x4_S2048x1_0_3).toLoadRect (MF c I)
def qB3 (c : Dev nD) (I : Inp F) : Vec F S1x2048x64 .bf16 := (k0_pay96 (v470 c I) (v537 c I) (v546 c I))
def qB (c : Dev nD) (I : Inp F) (b : Fin 4) : Vec F S1x2048x64 .bf16 := match b with
  | 0 => qB0 c I
  | 1 => qB1 c I
  | 2 => qB2 c I
  | 3 => qB3 c I
def QF (c : Dev nD) (I : Inp F) : Vec F S4x2048x64 .bf16 := planesFn (qB c I)
def v552 (c : Dev nD) (I : Inp F) : Vec F S2048x512 .bf16 :=
  (Memref.whole cc0_scratch0 : Memref sig .tc .vmem S2048x512 .bf16).view.readAt (Elt F) (Rect.unit (s := S2048x512) ![0, 0] S2048x512.size inb_S2048x512_S2048x512_0_0).toLoadRect (xb c I)
def v555 (c : Dev nD) (I : Inp F) : Vec F S1x512x1024 .bf16 :=
  (Memref.whole cc0_scratch1 : Memref sig .tc .vmem S4x512x1024 .bf16).view.readAt (Elt F) (Rect.unit (s := S4x512x1024) ![3, 0, 0] S1x512x1024.size inb_S4x512x1024_S1x512x1024_3_0_0).toLoadRect (wb c I)
def v559 (c : Dev nD) (I : Inp F) : BitVec 32 :=
  Scalar.addi (v2 c I) 1#32
def v560 (c : Dev nD) (I : Inp F) : BitVec 32 :=
  Scalar.remsi (v559 c I) 8#32
def v536 (c : Dev nD) (I : Inp F) : FVec F S64x1024 .bf16 :=
  k0_pay94 (v526 c I) (v530 c I) (v533 c I)
def v558 (c : Dev nD) (I : Inp F) : FVec F S64x1024 .bf16 :=
  k0_pay97 (v470 c I) (v537 c I) (v546 c I) (v552 c I) (v555 c I)
def c256_i32 (c : Dev nD) (I : Inp F) : BitVec 32 :=
  256#32

-- part 15
def v563 (c : Dev nD) (I : Inp F) : Vec F S256x4 .bf16 :=
  (Memref.whole cc0_scratch2 : Memref sig .tc .vmem S2048x4 .bf16).view.readAt (Elt F) (Rect.unit (s := S2048x4) (k0_off1 c 1#32) S256x4.size (k0_off1_inb c 0)).toLoadRect (MF c I)
def v582 (c : Dev nD) (I : Inp F) : Vec F S1x256x64 .bf16 :=
  (Memref.whole cc0_scratch5 : Memref sig .tc .vmem S4x2048x64 .bf16).view.readAt (Elt F) (Rect.unit (s := S4x2048x64) (k0_off2 c 1#32) S1x256x64.size (k0_off2_inb c 0)).toLoadRect (QF c I)
def v590 (c : Dev nD) (I : Inp F) : Vec F S1x256x64 .bf16 :=
  (Memref.whole cc0_scratch5 : Memref sig .tc .vmem S4x2048x64 .bf16).view.readAt (Elt F) (Rect.unit (s := S4x2048x64) (k0_off3 c 1#32) S1x256x64.size (k0_off3_inb c 0)).toLoadRect (QF c I)
def v598 (c : Dev nD) (I : Inp F) : Vec F S1x256x64 .bf16 :=
  (Memref.whole cc0_scratch5 : Memref sig .tc .vmem S4x2048x64 .bf16).view.readAt (Elt F) (Rect.unit (s := S4x2048x64) (k0_off4 c 1#32) S1x256x64.size (k0_off4_inb c 0)).toLoadRect (QF c I)
def v578 (c : Dev nD) (I : Inp F) : FVec F S256x64 .bf16 :=
  k0_pay98 (v47 c I) (v469 c I) (v563 c I)
def v595 (c : Dev nD) (I : Inp F) : FVec F S64x1024 .f32 :=
  k0_pay99 (v47 c I) (v469 c I) (v492 c I) (v514 c I) (v563 c I) (v582 c I) (v590 c I)
def v601 (c : Dev nD) (I : Inp F) : FVec F S64x64 .bf16 :=
  k0_pay100 (v47 c I) (v469 c I) (v563 c I) (v598 c I)

-- part 16
def v606 (c : Dev nD) (I : Inp F) : Vec F S1x256x64 .bf16 :=
  (Memref.whole cc0_scratch5 : Memref sig .tc .vmem S4x2048x64 .bf16).view.readAt (Elt F) (Rect.unit (s := S4x2048x64) (k0_off5 c 1#32) S1x256x64.size (k0_off5_inb c 0)).toLoadRect (QF c I)
def msg0 (c : Dev nD) (I : Inp F) : Vec F S1x64x1024 .bf16 := (k0_pay101 (v536 c I) (v558 c I) (v578 c I) (v595 c I) (v601 c I) (v606 c I))
def v626 (c : Dev nD) (I : Inp F) : BitVec 32 :=
  Scalar.addi (v2 c I) 2#32
def v627 (c : Dev nD) (I : Inp F) : BitVec 32 :=
  Scalar.remsi (v626 c I) 8#32
def v630 (c : Dev nD) (I : Inp F) : Vec F S256x4 .bf16 :=
  (Memref.whole cc0_scratch2 : Memref sig .tc .vmem S2048x4 .bf16).view.readAt (Elt F) (Rect.unit (s := S2048x4) (k0_off1 c 2#32) S256x4.size (k0_off1_inb c 1)).toLoadRect (MF c I)
def cst_260 (c : Dev nD) (I : Inp F) : FVec F S256x1 .f32 :=
  constant S256x1 .f32 0x00000000#32
def v634 (c : Dev nD) (I : Inp F) : FVec F S256x1 .bf16 :=
  k0_pay102 (v630 c I)

-- part 17
def v649 (c : Dev nD) (I : Inp F) : Vec F S1x256x64 .bf16 :=
  (Memref.whole cc0_scratch5 : Memref sig .tc .vmem S4x2048x64 .bf16).view.readAt (Elt F) (Rect.unit (s := S4x2048x64) (k0_off2 c 2#32) S1x256x64.size (k0_off2_inb c 1)).toLoadRect (QF c I)
def v657 (c : Dev nD) (I : Inp F) : Vec F S1x256x64 .bf16 :=
  (Memref.whole cc0_scratch5 : Memref sig .tc .vmem S4x2048x64 .bf16).view.readAt (Elt F) (Rect.unit (s := S4x2048x64) (k0_off3 c 2#32) S1x256x64.size (k0_off3_inb c 1)).toLoadRect (QF c I)
def v665 (c : Dev nD) (I : Inp F) : Vec F S1x256x64 .bf16 :=
  (Memref.whole cc0_scratch5 : Memref sig .tc .vmem S4x2048x64 .bf16).view.readAt (Elt F) (Rect.unit (s := S4x2048x64) (k0_off4 c 2#32) S1x256x64.size (k0_off4_inb c 1)).toLoadRect (QF c I)
def v673 (c : Dev nD) (I : Inp F) : Vec F S1x256x64 .bf16 :=
  (Memref.whole cc0_scratch5 : Memref sig .tc .vmem S4x2048x64 .bf16).view.readAt (Elt F) (Rect.unit (s := S4x2048x64) (k0_off5 c 2#32) S1x256x64.size (k0_off5_inb c 1)).toLoadRect (QF c I)
def v645 (c : Dev nD) (I : Inp F) : FVec F S256x64 .bf16 :=
  k0_pay103 (v47 c I) (v469 c I) (v634 c I) (cst_260 c I)
def v670 (c : Dev nD) (I : Inp F) : FVec F S64x1024 .f32 :=
  k0_pay104 (v47 c I) (v469 c I) (v492 c I) (v514 c I) (v536 c I) (v634 c I) (cst_260 c I) (v649 c I) (v657 c I) (v665 c I)
def v674 (c : Dev nD) (I : Inp F) : FVec F S256x64 .bf16 :=
  k0_pay105 (v673 c I)

-- part 18
def msg1 (c : Dev nD) (I : Inp F) : Vec F S1x64x1024 .bf16 := (k0_pay106 (v558 c I) (v645 c I) (v670 c I) (v674 c I))
def v693 (c : Dev nD) (I : Inp F) : BitVec 32 :=
  Scalar.addi (v2 c I) 3#32
def v694 (c : Dev nD) (I : Inp F) : BitVec 32 :=
  Scalar.remsi (v693 c I) 8#32
def v697 (c : Dev nD) (I : Inp F) : Vec F S256x4 .bf16 :=
  (Memref.whole cc0_scratch2 : Memref sig .tc .vmem S2048x4 .bf16).view.readAt (Elt F) (Rect.unit (s := S2048x4) (k0_off1 c 3#32) S256x4.size (k0_off1_inb c 2)).toLoadRect (MF c I)
def v701 (c : Dev nD) (I : Inp F) : FVec F S256x1 .bf16 :=
  k0_pay107 (v697 c I)
def v710 (c : Dev nD) (I : Inp F) : FVec F S256x64 .bf16 :=
  k0_pay108 (v47 c I) (v469 c I) (v697 c I)

-- part 19
def v716 (c : Dev nD) (I : Inp F) : Vec F S1x256x64 .bf16 :=
  (Memref.whole cc0_scratch5 : Memref sig .tc .vmem S4x2048x64 .bf16).view.readAt (Elt F) (Rect.unit (s := S4x2048x64) (k0_off2 c 3#32) S1x256x64.size (k0_off2_inb c 2)).toLoadRect (QF c I)
def v724 (c : Dev nD) (I : Inp F) : Vec F S1x256x64 .bf16 :=
  (Memref.whole cc0_scratch5 : Memref sig .tc .vmem S4x2048x64 .bf16).view.readAt (Elt F) (Rect.unit (s := S4x2048x64) (k0_off3 c 3#32) S1x256x64.size (k0_off3_inb c 2)).toLoadRect (QF c I)
def v732 (c : Dev nD) (I : Inp F) : Vec F S1x256x64 .bf16 :=
  (Memref.whole cc0_scratch5 : Memref sig .tc .vmem S4x2048x64 .bf16).view.readAt (Elt F) (Rect.unit (s := S4x2048x64) (k0_off4 c 3#32) S1x256x64.size (k0_off4_inb c 2)).toLoadRect (QF c I)
def v740 (c : Dev nD) (I : Inp F) : Vec F S1x256x64 .bf16 :=
  (Memref.whole cc0_scratch5 : Memref sig .tc .vmem S4x2048x64 .bf16).view.readAt (Elt F) (Rect.unit (s := S4x2048x64) (k0_off5 c 3#32) S1x256x64.size (k0_off5_inb c 2)).toLoadRect (QF c I)
def v746 (c : Dev nD) (I : Inp F) : FVec F S64x1024 .bf16 :=
  (k0_pay109 (v492 c I) (v514 c I) (v536 c I) (v558 c I) (v701 c I) (v710 c I) (v716 c I) (v724 c I) (v732 c I) (v740 c I))

-- part 20
def msg2 (c : Dev nD) (I : Inp F) : Vec F S1x64x1024 .bf16 := (k0_pay110 (v746 c I))
def v760 (c : Dev nD) (I : Inp F) : BitVec 32 :=
  Scalar.addi (v2 c I) 4#32
def v761 (c : Dev nD) (I : Inp F) : BitVec 32 :=
  Scalar.remsi (v760 c I) 8#32
def v764 (c : Dev nD) (I : Inp F) : Vec F S256x4 .bf16 :=
  (Memref.whole cc0_scratch2 : Memref sig .tc .vmem S2048x4 .bf16).view.readAt (Elt F) (Rect.unit (s := S2048x4) (k0_off1 c 4#32) S256x4.size (k0_off1_inb c 3)).toLoadRect (MF c I)
def v783 (c : Dev nD) (I : Inp F) : Vec F S1x256x64 .bf16 :=
  (Memref.whole cc0_scratch5 : Memref sig .tc .vmem S4x2048x64 .bf16).view.readAt (Elt F) (Rect.unit (s := S4x2048x64) (k0_off2 c 4#32) S1x256x64.size (k0_off2_inb c 3)).toLoadRect (QF c I)
def v779 (c : Dev nD) (I : Inp F) : FVec F S256x64 .bf16 :=
  k0_pay111 (v47 c I) (v469 c I) (v764 c I)
def v780 (c : Dev nD) (I : Inp F) : FVec F S64x1024 .f32 :=
  k0_pay112 (F := F)

-- part 21
def v791 (c : Dev nD) (I : Inp F) : Vec F S1x256x64 .bf16 :=
  (Memref.whole cc0_scratch5 : Memref sig .tc .vmem S4x2048x64 .bf16).view.readAt (Elt F) (Rect.unit (s := S4x2048x64) (k0_off3 c 4#32) S1x256x64.size (k0_off3_inb c 3)).toLoadRect (QF c I)
def v799 (c : Dev nD) (I : Inp F) : Vec F S1x256x64 .bf16 :=
  (Memref.whole cc0_scratch5 : Memref sig .tc .vmem S4x2048x64 .bf16).view.readAt (Elt F) (Rect.unit (s := S4x2048x64) (k0_off4 c 4#32) S1x256x64.size (k0_off4_inb c 3)).toLoadRect (QF c I)
def v807 (c : Dev nD) (I : Inp F) : Vec F S1x256x64 .bf16 :=
  (Memref.whole cc0_scratch5 : Memref sig .tc .vmem S4x2048x64 .bf16).view.readAt (Elt F) (Rect.unit (s := S4x2048x64) (k0_off5 c 4#32) S1x256x64.size (k0_off5_inb c 3)).toLoadRect (QF c I)
def msg3 (c : Dev nD) (I : Inp F) : Vec F S1x64x1024 .bf16 := (k0_pay113 (v492 c I) (v514 c I) (v536 c I) (v558 c I) (v779 c I) (v780 c I) (v783 c I) (v791 c I) (v799 c I) (v807 c I))
def v817 (c : Dev nD) (I : Inp F) : BitVec 32 :=
  Scalar.muli (v761 c I) 1#32

-- part 22
def v827 (c : Dev nD) (I : Inp F) : BitVec 32 :=
  Scalar.addi (v2 c I) 5#32
def v828 (c : Dev nD) (I : Inp F) : BitVec 32 :=
  Scalar.remsi (v827 c I) 8#32
def v831 (c : Dev nD) (I : Inp F) : Vec F S256x4 .bf16 :=
  (Memref.whole cc0_scratch2 : Memref sig .tc .vmem S2048x4 .bf16).view.readAt (Elt F) (Rect.unit (s := S2048x4) (k0_off1 c 5#32) S256x4.size (k0_off1_inb c 4)).toLoadRect (MF c I)
def v850 (c : Dev nD) (I : Inp F) : Vec F S1x256x64 .bf16 :=
  (Memref.whole cc0_scratch5 : Memref sig .tc .vmem S4x2048x64 .bf16).view.readAt (Elt F) (Rect.unit (s := S4x2048x64) (k0_off2 c 5#32) S1x256x64.size (k0_off2_inb c 4)).toLoadRect (QF c I)
def v856 (c : Dev nD) (I : Inp F) : BitVec 32 :=
  Scalar.muli (v828 c I) 256#32
def v846 (c : Dev nD) (I : Inp F) : FVec F S256x64 .bf16 :=
  k0_pay114 (v47 c I) (v469 c I) (v831 c I)
def v855 (c : Dev nD) (I : Inp F) : FVec F S64x1024 .f32 :=
  k0_pay115 (v47 c I) (v469 c I) (v492 c I) (v831 c I) (v850 c I)

-- part 23
def v858 (c : Dev nD) (I : Inp F) : Vec F S1x256x64 .bf16 :=
  (Memref.whole cc0_scratch5 : Memref sig .tc .vmem S4x2048x64 .bf16).view.readAt (Elt F) (Rect.unit (s := S4x2048x64) (k0_off3 c 5#32) S1x256x64.size (k0_off3_inb c 4)).toLoadRect (QF c I)
def v866 (c : Dev nD) (I : Inp F) : Vec F S1x256x64 .bf16 :=
  (Memref.whole cc0_scratch5 : Memref sig .tc .vmem S4x2048x64 .bf16).view.readAt (Elt F) (Rect.unit (s := S4x2048x64) (k0_off4 c 5#32) S1x256x64.size (k0_off4_inb c 4)).toLoadRect (QF c I)
def v874 (c : Dev nD) (I : Inp F) : Vec F S1x256x64 .bf16 :=
  (Memref.whole cc0_scratch5 : Memref sig .tc .vmem S4x2048x64 .bf16).view.readAt (Elt F) (Rect.unit (s := S4x2048x64) (k0_off5 c 5#32) S1x256x64.size (k0_off5_inb c 4)).toLoadRect (QF c I)
def msg4 (c : Dev nD) (I : Inp F) : Vec F S1x64x1024 .bf16 := (k0_pay116 (v514 c I) (v536 c I) (v558 c I) (v846 c I) (v855 c I) (v858 c I) (v866 c I) (v874 c I))

-- part 24
def v894 (c : Dev nD) (I : Inp F) : BitVec 32 :=
  Scalar.addi (v2 c I) 6#32
def v895 (c : Dev nD) (I : Inp F) : BitVec 32 :=
  Scalar.remsi (v894 c I) 8#32
def v898 (c : Dev nD) (I : Inp F) : Vec F S256x4 .bf16 :=
  (Memref.whole cc0_scratch2 : Memref sig .tc .vmem S2048x4 .bf16).view.readAt (Elt F) (Rect.unit (s := S2048x4) (k0_off1 c 6#32) S256x4.size (k0_off1_inb c 5)).toLoadRect (MF c I)
def v917 (c : Dev nD) (I : Inp F) : Vec F S1x256x64 .bf16 :=
  (Memref.whole cc0_scratch5 : Memref sig .tc .vmem S4x2048x64 .bf16).view.readAt (Elt F) (Rect.unit (s := S4x2048x64) (k0_off2 c 6#32) S1x256x64.size (k0_off2_inb c 5)).toLoadRect (QF c I)
def v925 (c : Dev nD) (I : Inp F) : Vec F S1x256x64 .bf16 :=
  (Memref.whole cc0_scratch5 : Memref sig .tc .vmem S4x2048x64 .bf16).view.readAt (Elt F) (Rect.unit (s := S4x2048x64) (k0_off3 c 6#32) S1x256x64.size (k0_off3_inb c 5)).toLoadRect (QF c I)
def v913 (c : Dev nD) (I : Inp F) : FVec F S256x64 .bf16 :=
  k0_pay117 (v47 c I) (v469 c I) (v898 c I)
def v930 (c : Dev nD) (I : Inp F) : FVec F S64x1024 .f32 :=
  k0_pay118 (v47 c I) (v469 c I) (v492 c I) (v514 c I) (v898 c I) (v917 c I) (v925 c I)

-- part 25
def v933 (c : Dev nD) (I : Inp F) : Vec F S1x256x64 .bf16 :=
  (Memref.whole cc0_scratch5 : Memref sig .tc .vmem S4x2048x64 .bf16).view.readAt (Elt F) (Rect.unit (s := S4x2048x64) (k0_off4 c 6#32) S1x256x64.size (k0_off4_inb c 5)).toLoadRect (QF c I)
def v941 (c : Dev nD) (I : Inp F) : Vec F S1x256x64 .bf16 :=
  (Memref.whole cc0_scratch5 : Memref sig .tc .vmem S4x2048x64 .bf16).view.readAt (Elt F) (Rect.unit (s := S4x2048x64) (k0_off5 c 6#32) S1x256x64.size (k0_off5_inb c 5)).toLoadRect (QF c I)
def msg5 (c : Dev nD) (I : Inp F) : Vec F S1x64x1024 .bf16 := (k0_pay119 (v536 c I) (v558 c I) (v913 c I) (v930 c I) (v933 c I) (v941 c I))
def v961 (c : Dev nD) (I : Inp F) : BitVec 32 :=
  Scalar.addi (v2 c I) 7#32
def v962 (c : Dev nD) (I : Inp F) : BitVec 32 :=
  Scalar.remsi (v961 c I) 8#32
def c256_i32_460 (c : Dev nD) (I : Inp F) : BitVec 32 :=
  256#32

-- part 26
def v965 (c : Dev nD) (I : Inp F) : Vec F S256x4 .bf16 :=
  (Memref.whole cc0_scratch2 : Memref sig .tc .vmem S2048x4 .bf16).view.readAt (Elt F) (Rect.unit (s := S2048x4) (k0_off1 c 7#32) S256x4.size (k0_off1_inb c 6)).toLoadRect (MF c I)
def v984 (c : Dev nD) (I : Inp F) : Vec F S1x256x64 .bf16 :=
  (Memref.whole cc0_scratch5 : Memref sig .tc .vmem S4x2048x64 .bf16).view.readAt (Elt F) (Rect.unit (s := S4x2048x64) (k0_off2 c 7#32) S1x256x64.size (k0_off2_inb c 6)).toLoadRect (QF c I)
def v992 (c : Dev nD) (I : Inp F) : Vec F S1x256x64 .bf16 :=
  (Memref.whole cc0_scratch5 : Memref sig .tc .vmem S4x2048x64 .bf16).view.readAt (Elt F) (Rect.unit (s := S4x2048x64) (k0_off3 c 7#32) S1x256x64.size (k0_off3_inb c 6)).toLoadRect (QF c I)
def v1000 (c : Dev nD) (I : Inp F) : Vec F S1x256x64 .bf16 :=
  (Memref.whole cc0_scratch5 : Memref sig .tc .vmem S4x2048x64 .bf16).view.readAt (Elt F) (Rect.unit (s := S4x2048x64) (k0_off4 c 7#32) S1x256x64.size (k0_off4_inb c 6)).toLoadRect (QF c I)
def v980 (c : Dev nD) (I : Inp F) : FVec F S256x64 .bf16 :=
  k0_pay120 (v47 c I) (v469 c I) (v965 c I)
def v997 (c : Dev nD) (I : Inp F) : FVec F S64x1024 .f32 :=
  k0_pay121 (v47 c I) (v469 c I) (v492 c I) (v514 c I) (v965 c I) (v984 c I) (v992 c I)
def v1003 (c : Dev nD) (I : Inp F) : FVec F S64x64 .bf16 :=
  k0_pay122 (v47 c I) (v469 c I) (v965 c I) (v1000 c I)

-- part 27
def v1008 (c : Dev nD) (I : Inp F) : Vec F S1x256x64 .bf16 :=
  (Memref.whole cc0_scratch5 : Memref sig .tc .vmem S4x2048x64 .bf16).view.readAt (Elt F) (Rect.unit (s := S4x2048x64) (k0_off5 c 7#32) S1x256x64.size (k0_off5_inb c 6)).toLoadRect (QF c I)
def msg6 (c : Dev nD) (I : Inp F) : Vec F S1x64x1024 .bf16 := (k0_pay123 (v536 c I) (v558 c I) (v980 c I) (v997 c I) (v1003 c I) (v1008 c I))
def msg (c : Dev nD) (I : Inp F) (b : Fin 7) : Vec F S1x64x1024 .bf16 := match b with
  | 0 => msg0 c I
  | 1 => msg1 c I
  | 2 => msg2 c I
  | 3 => msg3 c I
  | 4 => msg4 c I
  | 5 => msg5 c I
  | 6 => msg6 c I
def v1031 (c : Dev nD) (I : Inp F) : Vec F S1x256x64 .bf16 :=
  (Memref.whole cc0_scratch5 : Memref sig .tc .vmem S4x2048x64 .bf16).view.readAt (Elt F) (Rect.unit (s := S4x2048x64) (k0_off6 c) S1x256x64.size (k0_off6_inb c)).toLoadRect (QF c I)
def v1035 (c : Dev nD) (I : Inp F) : BitVec 32 :=
  Scalar.muli (v2 c I) 256#32
def v1034 (c : Dev nD) (I : Inp F) : FVec F S256x1024 .f32 :=
  k0_pay124 (v492 c I) (v1031 c I)

-- part 28
def v1037 (c : Dev nD) (I : Inp F) : Vec F S1x256x64 .bf16 :=
  (Memref.whole cc0_scratch5 : Memref sig .tc .vmem S4x2048x64 .bf16).view.readAt (Elt F) (Rect.unit (s := S4x2048x64) (k0_off7 c) S1x256x64.size (k0_off7_inb c)).toLoadRect (QF c I)
def v1043 (c : Dev nD) (I : Inp F) : Vec F S1x256x64 .bf16 :=
  (Memref.whole cc0_scratch5 : Memref sig .tc .vmem S4x2048x64 .bf16).view.readAt (Elt F) (Rect.unit (s := S4x2048x64) (k0_off8 c) S1x256x64.size (k0_off8_inb c)).toLoadRect (QF c I)
def v1049 (c : Dev nD) (I : Inp F) : Vec F S1x256x64 .bf16 :=
  (Memref.whole cc0_scratch5 : Memref sig .tc .vmem S4x2048x64 .bf16).view.readAt (Elt F) (Rect.unit (s := S4x2048x64) (k0_off9 c) S1x256x64.size (k0_off9_inb c)).toLoadRect (QF c I)
def v1055 (c : Dev nD) (I : Inp F) : Vec F S256x8 .bf16 :=
  (Memref.whole cc0_scratch3 : Memref sig .tc .vmem S2048x8 .bf16).view.readAt (Elt F) (Rect.unit (s := S2048x8) (k0_off10 c) S256x8.size (k0_off10_inb c)).toLoadRect (AF c I)
def v1056 (c : Dev nD) (I : Inp F) : IVec S8x1 32 :=
  iota .tc S8x1 32 [0] iota_S8x1_d0_w32
def v1057 (c : Dev nD) (I : Inp F) : BitVec 32 :=
  Scalar.addi (v2 c I) 8#32
def v1058 (c : Dev nD) (I : Inp F) : BitVec 32 :=
  Scalar.subi (v1057 c I) 1#32
def v1059 (c : Dev nD) (I : Inp F) : BitVec 32 :=
  Scalar.remsi (v1058 c I) 8#32
def v1052 (c : Dev nD) (I : Inp F) : FVec F S256x1024 .f32 :=
  k0_pay125 (v514 c I) (v536 c I) (v558 c I) (v1034 c I) (v1037 c I) (v1043 c I) (v1049 c I)
def v1077 (c : Dev nD) (I : Inp F) : FVec F S256x64 .bf16 :=
  k0_pay126 (v2 c I) (v47 c I) (v469 c I) (v1055 c I)

-- part 29
def v1086 (c : Dev nD) (I : Inp F) (G : Fin 7 → Vec F S1x64x1024 .bf16) : Vec F S1x64x1024 .bf16 :=
  G 0
def v1090 (c : Dev nD) (I : Inp F) : BitVec 32 :=
  Scalar.addi (v2 c I) 8#32
def v1091 (c : Dev nD) (I : Inp F) : BitVec 32 :=
  Scalar.subi (v1090 c I) 2#32
def v1092 (c : Dev nD) (I : Inp F) : BitVec 32 :=
  Scalar.remsi (v1091 c I) 8#32
def v1111 (c : Dev nD) (I : Inp F) : BitVec 32 :=
  Scalar.muli (v1092 c I) 1#32
def v1089 (c : Dev nD) (I : Inp F) (G : Fin 7 → Vec F S1x64x1024 .bf16) : FVec F S256x1024 .f32 :=
  k0_pay127 (v1052 c I) (v1077 c I) (v1086 c I G)
def v1110 (c : Dev nD) (I : Inp F) : FVec F S256x64 .bf16 :=
  k0_pay128 (v2 c I) (v47 c I) (v469 c I) (v1055 c I) (v1056 c I)

-- part 30
def v1119 (c : Dev nD) (I : Inp F) (G : Fin 7 → Vec F S1x64x1024 .bf16) : Vec F S1x64x1024 .bf16 :=
  G 1
def v1122 (c : Dev nD) (I : Inp F) (G : Fin 7 → Vec F S1x64x1024 .bf16) : FVec F S256x1024 .f32 :=
  k0_pay129 (v1089 c I G) (v1110 c I) (v1119 c I G)
def v1143 (c : Dev nD) (I : Inp F) : FVec F S256x64 .bf16 :=
  k0_pay130 (v2 c I) (v47 c I) (v469 c I) (v1055 c I) (v1056 c I)

-- part 31
def v1152 (c : Dev nD) (I : Inp F) (G : Fin 7 → Vec F S1x64x1024 .bf16) : Vec F S1x64x1024 .bf16 :=
  G 2
def v1155 (c : Dev nD) (I : Inp F) (G : Fin 7 → Vec F S1x64x1024 .bf16) : FVec F S256x1024 .f32 :=
  k0_pay131 (v1122 c I G) (v1143 c I) (v1152 c I G)
def v1176 (c : Dev nD) (I : Inp F) : FVec F S256x64 .bf16 :=
  k0_pay132 (v2 c I) (v47 c I) (v469 c I) (v1055 c I) (v1056 c I)

-- part 32
def v1185 (c : Dev nD) (I : Inp F) (G : Fin 7 → Vec F S1x64x1024 .bf16) : Vec F S1x64x1024 .bf16 :=
  G 3
def v1218 (c : Dev nD) (I : Inp F) (G : Fin 7 → Vec F S1x64x1024 .bf16) : Vec F S1x64x1024 .bf16 :=
  G 4
def v1188 (c : Dev nD) (I : Inp F) (G : Fin 7 → Vec F S1x64x1024 .bf16) : FVec F S256x1024 .f32 :=
  k0_pay133 (v1155 c I G) (v1176 c I) (v1185 c I G)
def v1209 (c : Dev nD) (I : Inp F) : FVec F S256x64 .bf16 :=
  k0_pay134 (v2 c I) (v47 c I) (v469 c I) (v1055 c I) (v1056 c I)
def v1219 (c : Dev nD) (I : Inp F) (G : Fin 7 → Vec F S1x64x1024 .bf16) : FVec F S64x1024 .bf16 :=
  k0_pay135 (v1218 c I G)

-- part 33
def v1251 (c : Dev nD) (I : Inp F) (G : Fin 7 → Vec F S1x64x1024 .bf16) : Vec F S1x64x1024 .bf16 :=
  G 5
def v1255 (c : Dev nD) (I : Inp F) : BitVec 32 :=
  Scalar.addi (v2 c I) 8#32
def v1254 (c : Dev nD) (I : Inp F) (G : Fin 7 → Vec F S1x64x1024 .bf16) : FVec F S256x1024 .f32 :=
  k0_pay136 (v2 c I) (v47 c I) (v469 c I) (v1055 c I) (v1056 c I) (v1188 c I G) (v1209 c I) (v1219 c I G) (v1251 c I G)
def c7_i32_638 (c : Dev nD) (I : Inp F) : BitVec 32 :=
  7#32

-- part 34
def v1284 (c : Dev nD) (I : Inp F) (G : Fin 7 → Vec F S1x64x1024 .bf16) : Vec F S1x64x1024 .bf16 :=
  G 6
/-- The block of the output device `c` computes, from its operands and the messages it receives. -/
def outF (c : Dev nD) (I : Inp F) (G : Fin 7 → Vec F S1x64x1024 .bf16) : Vec F S256x1024 .f32 := (k0_pay137 (v47 c I) (v469 c I) (v1055 c I) (v1056 c I) (v1254 c I G) (v1255 c I) (c7_i32_638 c I) (v1284 c I G))

-- part 35

end Cert.KernelIdeal.Run
-- ==== Proof.IdealParts1.lean ====
module

public import proofs.«01_k».proof.Proof.IdealProtocol
public import proofs.«01_k».proof.Proof.IdealValues
public import Idealize.ShloMosaic.Lib.VecWindow

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

/-- Device `c` holds the whole buffer `b`, with contents `f`. -/
abbrev held (c : Dev nD) (b : Ref sig .tc) (f : Buf (Elt F) ((Memref.whole b).view.loc (c : Thread nD τ))) : sProp 𝕄 :=
  (Memref.whole b).view.loc (c : Thread nD τ) ↦{fullShare} f

/-- The tables with their first `n` blocks in place. -/
abbrev st6 (c : Dev nD) (I : Inp F) (n : ℕ) : sProp 𝕄 :=
  iprop(∃ f, ⌜RowsUpto ((Memref.whole cc0_scratch2 : Memref sig .tc .vmem S2048x4 .bf16).view.read (Elt F) f) (MF c I) n⌝ ∗ held c cc0_scratch2 f)
abbrev st7 (c : Dev nD) (I : Inp F) (n : ℕ) : sProp 𝕄 :=
  iprop(∃ f, ⌜RowsUpto ((Memref.whole cc0_scratch3 : Memref sig .tc .vmem S2048x8 .bf16).view.read (Elt F) f) (AF c I) n⌝ ∗ held c cc0_scratch3 f)
abbrev st8 (c : Dev nD) (I : Inp F) (n : ℕ) : sProp 𝕄 :=
  iprop(∃ f, ⌜RowsUpto ((Memref.whole cc0_scratch4 : Memref sig .tc .vmem S2048x4 .f32).view.read (Elt F) f) (CF c I) n⌝ ∗ held c cc0_scratch4 f)
abbrev st9 (c : Dev nD) (I : Inp F) (n : ℕ) : sProp 𝕄 :=
  iprop(∃ f, ⌜PlanesUpto ((Memref.whole cc0_scratch5 : Memref sig .tc .vmem S4x2048x64 .bf16).view.read (Elt F) f) (QF c I) n⌝ ∗ held c cc0_scratch5 f)

/-- Two stores listed are two stores made. -/
theorem writes_two {κ : Kind} {sp : Space} {s : Shape} {e : EltTy} (v : View sig κ sp s e) (f : v.ty.Contents (Elt F)) (p q : View.Piece (Elt F) s e) :
    v.writes (Elt F) f [p, q] = v.writes (Elt F) (v.writes (Elt F) f [q]) [p] := rfl

/-- A returned value is handed to what follows. -/
theorem prog_ret_bind {E : Type → Type*} {α β : Type} (a : α) (k : α → Prog E β) : (Prog.ret a).bind k = k a := rfl

/-- A slot of the send scratch, stored, reads as what was stored. -/
theorem stored (k : Fin 7) (f : (cc0_scratch6 : Ref sig .tc).ty.Contents (Elt F)) (w : Vec F S1x64x1024 .bf16) :
    sndAt k ((Memref.whole cc0_scratch6 : Memref sig .tc .vmem S7x64x1024 .bf16).view.writes (Elt F) f [⟨slotR k, w⟩]) = w :=
  sndAt_stored k f w

set_option maxHeartbeats 800000 in
/-- Part 1 of the body on device `c`. -/
theorem body_part1 (c : Dev nD) (I : Inp F) (MSG : Dev nD → Fin 7 → Vec F S1x64x1024 .bf16) (K : Dev nD × CK → ℕ) (Kt : _ → sProp 𝕄) :
    iprop(records MSG K ∗ owesE (F := F) c (owedSig c 7) ∗ dutyTok ER (barCell (dest c 0)) 0 6 ∗ (∃ f, rcvPts (F := F) c 6 f) ∗ dutyTok ER (barCell (dest c 1)) 0 5 ∗ (∃ f, rcvPts (F := F) c 5 f) ∗ dutyTok ER (barCell (dest c 2)) 0 4 ∗ (∃ f, rcvPts (F := F) c 4 f) ∗ dutyTok ER (barCell (dest c 3)) 0 3 ∗ (∃ f, rcvPts (F := F) c 3 f) ∗ dutyTok ER (barCell (dest c 4)) 0 2 ∗ (∃ f, rcvPts (F := F) c 2 f))
      ⊢ iprop(((owesE (F := F) c (owedSig c 2)) -∗ Kt ⟨c, (v2 c I), (v3 c I), (v24 c I), (c8_i32_20 c I)⟩) -∗ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 ) Kt) := by
  rw [k0_part1_eq_skeleton]; unfold k0_part1_skel
  iintro ⟨#HR, HO, Ht0, Hr6, Ht1, Hr5, Ht2, Hr4, Ht3, Hr3, Ht4, Hr2⟩ Hk
  simp only [semSignalWord, semWaitWord, Prog.lift, Prog.bind_op, Prog.bind_ret, Prog.pure_eq_ret, wp_deviceId]
  iapply (step_signal MSG K c 0 _ (sig_dev c).1 7 6 rfl rfl 6 rfl _ rfl) $$ [HO Ht0 Hr6]
  · isplitr; · iexact HR
    isplitl [HO]; · iexact HO
    isplitl [Ht0]; · iexact Ht0
    iexact Hr6
  iintro HO
  iapply (step_signal MSG K c 1 _ (sig_dev c).2.1 6 5 rfl rfl 5 rfl _ rfl) $$ [HO Ht1 Hr5]
  · isplitr; · iexact HR
    isplitl [HO]; · iexact HO
    isplitl [Ht1]; · iexact Ht1
    iexact Hr5
  iintro HO
  iapply (step_signal MSG K c 2 _ (sig_dev c).2.2.1 5 4 rfl rfl 4 rfl _ rfl) $$ [HO Ht2 Hr4]
  · isplitr; · iexact HR
    isplitl [HO]; · iexact HO
    isplitl [Ht2]; · iexact Ht2
    iexact Hr4
  iintro HO
  iapply (step_signal MSG K c 3 _ (sig_dev c).2.2.2.1 4 3 rfl rfl 3 rfl _ rfl) $$ [HO Ht3 Hr3]
  · isplitr; · iexact HR
    isplitl [HO]; · iexact HO
    isplitl [Ht3]; · iexact Ht3
    iexact Hr3
  iintro HO
  iapply (step_signal MSG K c 4 _ (sig_dev c).2.2.2.2.1 3 2 rfl rfl 2 rfl _ rfl) $$ [HO Ht4 Hr2]
  · isplitr; · iexact HR
    isplitl [HO]; · iexact HO
    isplitl [Ht4]; · iexact Ht4
    iexact Hr2
  iintro HO
  sl_step
  show Entails' _ (Kt ⟨c, (v2 c I), (v3 c I), (v24 c I), (c8_i32_20 c I)⟩)
  iapply Hk
  iexact HO

set_option maxHeartbeats 800000 in
/-- Part 2 of the body on device `c`. -/
theorem body_part2 (c : Dev nD) (I : Inp F) (MSG : Dev nD → Fin 7 → Vec F S1x64x1024 .bf16) (K : Dev nD × CK → ℕ) (Kt : _ → sProp 𝕄) :
    iprop(records MSG K ∗ held c cc0_stg0_0 I.x ∗ (∃ f, held (F := F) c cc0_scratch0 f) ∗ held c cc0_stg2_0 I.w ∗ (∃ f, held (F := F) c cc0_scratch1 f) ∗ owesE (F := F) c (owedSig c 2) ∗ dutyTok ER (barCell (dest c 5)) 0 1 ∗ (∃ f, rcvPts (F := F) c 1 f) ∗ dutyTok ER (barCell (dest c 6)) 0 0 ∗ (∃ f, rcvPts (F := F) c 0 f) ∗ levAts L lv ∗ cred (tallyAt (barCell c) () 7) ∗ atPos ER (barCell c) 0 ∅ 0)
      ⊢ iprop(((held c cc0_stg0_0 I.x ∗ held c cc0_scratch0 (xb c I) ∗ held c cc0_stg2_0 I.w ∗ held c cc0_scratch1 (wb c I) ∗ owesE (F := F) c (owedSnd c 7) ∗ semVal (barCell c) 0 ∗ bigSep Finset.univ (barPay (F := F) c)) -∗ Kt ⟨(v47 c I), (v51 c I), (v52 c I), (v53 c I), (c4_i32_39 c I), (v55 c I), (v56 c I)⟩) -∗ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v2 c I) (v3 c I) (v24 c I) (c8_i32_20 c I)) Kt) := by
  rw [k0_part2_eq_skeleton]; unfold k0_part2_skel
  iintro ⟨#HR, H0, ⟨%f4, H4⟩, H2, ⟨%f5, H5⟩, HO, Ht5, Hr1, Ht6, Hr0, #Hlev, HcB, HaB⟩ Hk
  simp only [semSignalWord, semWaitWord, Prog.lift, Prog.bind_op, Prog.bind_ret, Prog.pure_eq_ret, wp_deviceId]
  iapply (step_signal MSG K c 5 _ (sig_dev c).2.2.2.2.2.1 2 1 rfl rfl 1 rfl _ rfl) $$ [HO Ht5 Hr1]
  · isplitr; · iexact HR
    isplitl [HO]; · iexact HO
    isplitl [Ht5]; · iexact Ht5
    iexact Hr1
  iintro HO
  iapply (step_signal MSG K c 6 _ (sig_dev c).2.2.2.2.2.2 1 0 rfl rfl 0 rfl _ rfl) $$ [HO Ht6 Hr0]
  · isplitr; · iexact HR
    isplitl [HO]; · iexact HO
    isplitl [Ht6]; · iexact Ht6
    iexact Hr0
  iintro HO
  iapply (step_barrier MSG K c _ rfl) $$ [HO HcB HaB]
  · isplitr; · iexact HR
    isplitr; · iexact Hlev
    isplitl [HcB]; · iexact HcB
    isplitl [HO]; · iexact HO
    iexact HaB
  iintro ⟨HO, HzB, HpB⟩
  sl_exec
  have e4 : (Memref.whole cc0_scratch0 : Memref sig .tc .vmem S2048x512 .bf16).view.writes (Elt F) f4 [⟨(Rect.unit (s := S2048x512) ![0, 0] S2048x512.size inb_S2048x512_S2048x512_0_0), (k0_pay1 (v32 c I))⟩] = xb c I := Memref.write_access_unit_zero_univ (Elt F) cc0_scratch0 (by funext i; fin_cases i <;> rfl) inb_S2048x512_S2048x512_0_0 f4 (k0_pay1 (v32 c I))
  have e5 : (Memref.whole cc0_scratch1 : Memref sig .tc .vmem S4x512x1024 .bf16).view.writes (Elt F) f5 [⟨(Rect.unit (s := S4x512x1024) ![0, 0, 0] S4x512x1024.size inb_S4x512x1024_S4x512x1024_0_0_0), (k0_pay2 (v37 c I))⟩] = wb c I := Memref.write_access_unit_zero_univ (Elt F) cc0_scratch1 (by funext i; fin_cases i <;> rfl) inb_S4x512x1024_S4x512x1024_0_0_0 f5 (k0_pay2 (v37 c I))
  sl_step
  show Entails' _ (Kt ⟨(v47 c I), (v51 c I), (v52 c I), (v53 c I), (c4_i32_39 c I), (v55 c I), (v56 c I)⟩)
  iapply Hk
  isplitl [H0]; · iexact H0
  isplitl [H4]; · iclear HR; iclear Hlev; istop; exact Entails.of_eq (congrArg (held c cc0_scratch0) e4) -- iexact H4
  isplitl [H2]; · iexact H2
  isplitl [H5]; · iclear HR; iclear Hlev; istop; exact Entails.of_eq (congrArg (held c cc0_scratch1) e5) -- iexact H5
  isplitl [HO]; · iexact HO
  isplitl [HzB]; · iexact HzB
  iexact HpB

set_option maxHeartbeats 800000 in
/-- Part 3 of the body on device `c`. -/
theorem body_part3 (c : Dev nD) (I : Inp F) (Kt : _ → sProp 𝕄) :
    iprop(held c cc0_stg1_0 I.r)
      ⊢ iprop(((held c cc0_stg1_0 I.r) -∗ Kt ⟨(v82 c I), (v83 c I), (v84 c I), (v91 c I), (v96 c I), (v99 c I), (v102 c I), (v104 c I)⟩) -∗ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v47 c I) (v51 c I) (v52 c I) (v53 c I) (c4_i32_39 c I) (v55 c I) (v56 c I)) Kt) := by
  rw [k0_part3_eq_skeleton]; unfold k0_part3_skel
  iintro H1 Hk
  sl_exec
  sl_step
  show Entails' _ (Kt ⟨(v82 c I), (v83 c I), (v84 c I), (v91 c I), (v96 c I), (v99 c I), (v102 c I), (v104 c I)⟩)
  iapply Hk
  iexact H1

set_option maxHeartbeats 800000 in
/-- Part 4 of the body on device `c`. -/
theorem body_part4 (c : Dev nD) (I : Inp F) (Kt : _ → sProp 𝕄) :
    iprop(st6 c I 0 ∗ st8 c I 0 ∗ st7 c I 0 ∗ held c cc0_stg1_0 I.r)
      ⊢ iprop(((st6 c I 1 ∗ st8 c I 1 ∗ st7 c I 1 ∗ held c cc0_stg1_0 I.r) -∗ Kt ⟨(v129 c I), (v133 c I), (v140 c I), (v145 c I), (v148 c I)⟩) -∗ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v47 c I) (v51 c I) (v52 c I) (v82 c I) (v83 c I) (v84 c I) (v91 c I) (v96 c I) (v99 c I) (v102 c I) (v104 c I)) Kt) := by
  rw [k0_part4_eq_skeleton]; unfold k0_part4_skel
  iintro ⟨⟨%f6, %h6, H6⟩, ⟨%f8, %h8, H8⟩, ⟨%f7, %h7, H7⟩, H1⟩ Hk
  sl_exec
  have up6 : RowsUpto ((Memref.whole cc0_scratch2 : Memref sig .tc .vmem S2048x4 .bf16).view.read (Elt F) ((Memref.whole cc0_scratch2 : Memref sig .tc .vmem S2048x4 .bf16).view.writes (Elt F) f6 [⟨(Rect.unit (s := S2048x4) ![0, 0] S256x4.size inb_S2048x4_S256x4_0_0), (k0_pay16 (v91 c I) (v104 c I))⟩])) (MF c I) 1 := RowsUpto.step (blk := mB c I) 0 h6 0 rfl _ _ rfl 1 rfl
  have up8 : RowsUpto ((Memref.whole cc0_scratch4 : Memref sig .tc .vmem S2048x4 .f32).view.read (Elt F) ((Memref.whole cc0_scratch4 : Memref sig .tc .vmem S2048x4 .f32).view.writes (Elt F) f8 [⟨(Rect.unit (s := S2048x4) ![0, 0] S256x4.size inb_S2048x4_S256x4_0_0), (k0_pay17 (v99 c I))⟩])) (CF c I) 1 := RowsUpto.step (blk := cB c I) 0 h8 0 rfl _ _ rfl 1 rfl
  have up7 : RowsUpto ((Memref.whole cc0_scratch3 : Memref sig .tc .vmem S2048x8 .bf16).view.read (Elt F) ((Memref.whole cc0_scratch3 : Memref sig .tc .vmem S2048x8 .bf16).view.writes (Elt F) f7 [⟨(Rect.unit (s := S2048x8) ![0, 0] S256x8.size inb_S2048x8_S256x8_0_0), (k0_pay18 (v82 c I) (v96 c I) (v102 c I))⟩])) (AF c I) 1 := RowsUpto.step (blk := aB c I) 0 h7 0 rfl _ _ rfl 1 rfl
  sl_step
  show Entails' _ (Kt ⟨(v129 c I), (v133 c I), (v140 c I), (v145 c I), (v148 c I)⟩)
  iapply Hk
  isplitl [H6]; · iexists ((Memref.whole cc0_scratch2 : Memref sig .tc .vmem S2048x4 .bf16).view.writes (Elt F) f6 [⟨(Rect.unit (s := S2048x4) ![0, 0] S256x4.size inb_S2048x4_S256x4_0_0), (k0_pay16 (v91 c I) (v104 c I))⟩]); isplitr; (ipureintro; exact up6); istop; exact Entails.rfl -- iexact H6
  isplitl [H8]; · iexists ((Memref.whole cc0_scratch4 : Memref sig .tc .vmem S2048x4 .f32).view.writes (Elt F) f8 [⟨(Rect.unit (s := S2048x4) ![0, 0] S256x4.size inb_S2048x4_S256x4_0_0), (k0_pay17 (v99 c I))⟩]); isplitr; (ipureintro; exact up8); istop; exact Entails.rfl -- iexact H8
  isplitl [H7]; · iexists ((Memref.whole cc0_scratch3 : Memref sig .tc .vmem S2048x8 .bf16).view.writes (Elt F) f7 [⟨(Rect.unit (s := S2048x8) ![0, 0] S256x8.size inb_S2048x8_S256x8_0_0), (k0_pay18 (v82 c I) (v96 c I) (v102 c I))⟩]); isplitr; (ipureintro; exact up7); istop; exact Entails.rfl -- iexact H7
  iexact H1

set_option maxHeartbeats 800000 in
/-- Part 5 of the body on device `c`. -/
theorem body_part5 (c : Dev nD) (I : Inp F) (Kt : _ → sProp 𝕄) :
    iprop(st6 c I 1 ∗ st8 c I 1 ∗ st7 c I 1 ∗ held c cc0_stg1_0 I.r)
      ⊢ iprop(((st6 c I 2 ∗ st8 c I 2 ∗ st7 c I 2 ∗ held c cc0_stg1_0 I.r) -∗ Kt ⟨(v178 c I), (v182 c I), (v189 c I), (v191 c I)⟩) -∗ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v47 c I) (v51 c I) (v52 c I) (v82 c I) (v129 c I) (v133 c I) (v140 c I) (v145 c I) (v148 c I)) Kt) := by
  rw [k0_part5_eq_skeleton]; unfold k0_part5_skel
  iintro ⟨⟨%f6, %h6, H6⟩, ⟨%f8, %h8, H8⟩, ⟨%f7, %h7, H7⟩, H1⟩ Hk
  sl_exec
  have up6 : RowsUpto ((Memref.whole cc0_scratch2 : Memref sig .tc .vmem S2048x4 .bf16).view.read (Elt F) ((Memref.whole cc0_scratch2 : Memref sig .tc .vmem S2048x4 .bf16).view.writes (Elt F) f6 [⟨(Rect.unit (s := S2048x4) ![256, 0] S256x4.size inb_S2048x4_S256x4_256_0), (k0_pay25 (v140 c I) (v148 c I))⟩])) (MF c I) 2 := RowsUpto.step (blk := mB c I) 1 h6 256 rfl _ _ rfl 2 rfl
  have up8 : RowsUpto ((Memref.whole cc0_scratch4 : Memref sig .tc .vmem S2048x4 .f32).view.read (Elt F) ((Memref.whole cc0_scratch4 : Memref sig .tc .vmem S2048x4 .f32).view.writes (Elt F) f8 [⟨(Rect.unit (s := S2048x4) ![256, 0] S256x4.size inb_S2048x4_S256x4_256_0), (k0_pay26 (v148 c I))⟩])) (CF c I) 2 := RowsUpto.step (blk := cB c I) 1 h8 256 rfl _ _ rfl 2 rfl
  have up7 : RowsUpto ((Memref.whole cc0_scratch3 : Memref sig .tc .vmem S2048x8 .bf16).view.read (Elt F) ((Memref.whole cc0_scratch3 : Memref sig .tc .vmem S2048x8 .bf16).view.writes (Elt F) f7 [⟨(Rect.unit (s := S2048x8) ![256, 0] S256x8.size inb_S2048x8_S256x8_256_0), (k0_pay27 (v47 c I) (v82 c I) (v133 c I) (v145 c I))⟩])) (AF c I) 2 := RowsUpto.step (blk := aB c I) 1 h7 256 rfl _ _ rfl 2 rfl
  sl_step
  show Entails' _ (Kt ⟨(v178 c I), (v182 c I), (v189 c I), (v191 c I)⟩)
  iapply Hk
  isplitl [H6]; · iexists ((Memref.whole cc0_scratch2 : Memref sig .tc .vmem S2048x4 .bf16).view.writes (Elt F) f6 [⟨(Rect.unit (s := S2048x4) ![256, 0] S256x4.size inb_S2048x4_S256x4_256_0), (k0_pay25 (v140 c I) (v148 c I))⟩]); isplitr; (ipureintro; exact up6); istop; exact Entails.rfl -- iexact H6
  isplitl [H8]; · iexists ((Memref.whole cc0_scratch4 : Memref sig .tc .vmem S2048x4 .f32).view.writes (Elt F) f8 [⟨(Rect.unit (s := S2048x4) ![256, 0] S256x4.size inb_S2048x4_S256x4_256_0), (k0_pay26 (v148 c I))⟩]); isplitr; (ipureintro; exact up8); istop; exact Entails.rfl -- iexact H8
  isplitl [H7]; · iexists ((Memref.whole cc0_scratch3 : Memref sig .tc .vmem S2048x8 .bf16).view.writes (Elt F) f7 [⟨(Rect.unit (s := S2048x8) ![256, 0] S256x8.size inb_S2048x8_S256x8_256_0), (k0_pay27 (v47 c I) (v82 c I) (v133 c I) (v145 c I))⟩]); isplitr; (ipureintro; exact up7); istop; exact Entails.rfl -- iexact H7
  iexact H1

set_option maxHeartbeats 800000 in
/-- Part 6 of the body on device `c`. -/
theorem body_part6 (c : Dev nD) (I : Inp F) (Kt : _ → sProp 𝕄) :
    iprop(st6 c I 2 ∗ st8 c I 2 ∗ st7 c I 2 ∗ held c cc0_stg1_0 I.r)
      ⊢ iprop(((st6 c I 3 ∗ st8 c I 3 ∗ st7 c I 3 ∗ held c cc0_stg1_0 I.r) -∗ Kt ⟨(v227 c I), (v231 c I), (v233 c I)⟩) -∗ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v47 c I) (v82 c I) (v178 c I) (v182 c I) (v189 c I) (v191 c I)) Kt) := by
  rw [k0_part6_eq_skeleton]; unfold k0_part6_skel
  iintro ⟨⟨%f6, %h6, H6⟩, ⟨%f8, %h8, H8⟩, ⟨%f7, %h7, H7⟩, H1⟩ Hk
  sl_exec
  have up6 : RowsUpto ((Memref.whole cc0_scratch2 : Memref sig .tc .vmem S2048x4 .bf16).view.read (Elt F) ((Memref.whole cc0_scratch2 : Memref sig .tc .vmem S2048x4 .bf16).view.writes (Elt F) f6 [⟨(Rect.unit (s := S2048x4) ![512, 0] S256x4.size inb_S2048x4_S256x4_512_0), (k0_pay35 (v47 c I) (v178 c I) (v189 c I))⟩])) (MF c I) 3 := RowsUpto.step (blk := mB c I) 2 h6 512 rfl _ _ rfl 3 rfl
  have up8 : RowsUpto ((Memref.whole cc0_scratch4 : Memref sig .tc .vmem S2048x4 .f32).view.read (Elt F) ((Memref.whole cc0_scratch4 : Memref sig .tc .vmem S2048x4 .f32).view.writes (Elt F) f8 [⟨(Rect.unit (s := S2048x4) ![512, 0] S256x4.size inb_S2048x4_S256x4_512_0), (k0_pay36 (v47 c I) (v178 c I) (v189 c I))⟩])) (CF c I) 3 := RowsUpto.step (blk := cB c I) 2 h8 512 rfl _ _ rfl 3 rfl
  have up7 : RowsUpto ((Memref.whole cc0_scratch3 : Memref sig .tc .vmem S2048x8 .bf16).view.read (Elt F) ((Memref.whole cc0_scratch3 : Memref sig .tc .vmem S2048x8 .bf16).view.writes (Elt F) f7 [⟨(Rect.unit (s := S2048x8) ![512, 0] S256x8.size inb_S2048x8_S256x8_512_0), (k0_pay37 (v47 c I) (v82 c I) (v182 c I) (v191 c I))⟩])) (AF c I) 3 := RowsUpto.step (blk := aB c I) 2 h7 512 rfl _ _ rfl 3 rfl
  sl_step
  show Entails' _ (Kt ⟨(v227 c I), (v231 c I), (v233 c I)⟩)
  iapply Hk
  isplitl [H6]; · iexists ((Memref.whole cc0_scratch2 : Memref sig .tc .vmem S2048x4 .bf16).view.writes (Elt F) f6 [⟨(Rect.unit (s := S2048x4) ![512, 0] S256x4.size inb_S2048x4_S256x4_512_0), (k0_pay35 (v47 c I) (v178 c I) (v189 c I))⟩]); isplitr; (ipureintro; exact up6); istop; exact Entails.rfl -- iexact H6
  isplitl [H8]; · iexists ((Memref.whole cc0_scratch4 : Memref sig .tc .vmem S2048x4 .f32).view.writes (Elt F) f8 [⟨(Rect.unit (s := S2048x4) ![512, 0] S256x4.size inb_S2048x4_S256x4_512_0), (k0_pay36 (v47 c I) (v178 c I) (v189 c I))⟩]); isplitr; (ipureintro; exact up8); istop; exact Entails.rfl -- iexact H8
  isplitl [H7]; · iexists ((Memref.whole cc0_scratch3 : Memref sig .tc .vmem S2048x8 .bf16).view.writes (Elt F) f7 [⟨(Rect.unit (s := S2048x8) ![512, 0] S256x8.size inb_S2048x8_S256x8_512_0), (k0_pay37 (v47 c I) (v82 c I) (v182 c I) (v191 c I))⟩]); isplitr; (ipureintro; exact up7); istop; exact Entails.rfl -- iexact H7
  iexact H1

set_option maxHeartbeats 800000 in
/-- Part 7 of the body on device `c`. -/
theorem body_part7 (c : Dev nD) (I : Inp F) (Kt : _ → sProp 𝕄) :
    iprop(st6 c I 3 ∗ st8 c I 3 ∗ st7 c I 3)
      ⊢ iprop(((st6 c I 4 ∗ st8 c I 4 ∗ st7 c I 4) -∗ Kt ⟨(v276 c I), (v277 c I)⟩) -∗ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v47 c I) (v51 c I) (v52 c I) (v82 c I) (v227 c I) (v231 c I) (v233 c I)) Kt) := by
  rw [k0_part7_eq_skeleton]; unfold k0_part7_skel
  iintro ⟨⟨%f6, %h6, H6⟩, ⟨%f8, %h8, H8⟩, ⟨%f7, %h7, H7⟩⟩ Hk
  sl_exec
  have up6 : RowsUpto ((Memref.whole cc0_scratch2 : Memref sig .tc .vmem S2048x4 .bf16).view.read (Elt F) ((Memref.whole cc0_scratch2 : Memref sig .tc .vmem S2048x4 .bf16).view.writes (Elt F) f6 [⟨(Rect.unit (s := S2048x4) ![768, 0] S256x4.size inb_S2048x4_S256x4_768_0), (k0_pay44 (v47 c I) (v51 c I) (v227 c I) (v233 c I))⟩])) (MF c I) 4 := RowsUpto.step (blk := mB c I) 3 h6 768 rfl _ _ rfl 4 rfl
  have up8 : RowsUpto ((Memref.whole cc0_scratch4 : Memref sig .tc .vmem S2048x4 .f32).view.read (Elt F) ((Memref.whole cc0_scratch4 : Memref sig .tc .vmem S2048x4 .f32).view.writes (Elt F) f8 [⟨(Rect.unit (s := S2048x4) ![768, 0] S256x4.size inb_S2048x4_S256x4_768_0), (k0_pay45 (v47 c I) (v51 c I) (v227 c I) (v233 c I))⟩])) (CF c I) 4 := RowsUpto.step (blk := cB c I) 3 h8 768 rfl _ _ rfl 4 rfl
  have up7 : RowsUpto ((Memref.whole cc0_scratch3 : Memref sig .tc .vmem S2048x8 .bf16).view.read (Elt F) ((Memref.whole cc0_scratch3 : Memref sig .tc .vmem S2048x8 .bf16).view.writes (Elt F) f7 [⟨(Rect.unit (s := S2048x8) ![768, 0] S256x8.size inb_S2048x8_S256x8_768_0), (k0_pay46 (v47 c I) (v52 c I) (v82 c I) (v231 c I) (v233 c I))⟩])) (AF c I) 4 := RowsUpto.step (blk := aB c I) 3 h7 768 rfl _ _ rfl 4 rfl
  sl_step
  show Entails' _ (Kt ⟨(v276 c I), (v277 c I)⟩)
  iapply Hk
  isplitl [H6]; · iexists ((Memref.whole cc0_scratch2 : Memref sig .tc .vmem S2048x4 .bf16).view.writes (Elt F) f6 [⟨(Rect.unit (s := S2048x4) ![768, 0] S256x4.size inb_S2048x4_S256x4_768_0), (k0_pay44 (v47 c I) (v51 c I) (v227 c I) (v233 c I))⟩]); isplitr; (ipureintro; exact up6); istop; exact Entails.rfl -- iexact H6
  isplitl [H8]; · iexists ((Memref.whole cc0_scratch4 : Memref sig .tc .vmem S2048x4 .f32).view.writes (Elt F) f8 [⟨(Rect.unit (s := S2048x4) ![768, 0] S256x4.size inb_S2048x4_S256x4_768_0), (k0_pay45 (v47 c I) (v51 c I) (v227 c I) (v233 c I))⟩]); isplitr; (ipureintro; exact up8); istop; exact Entails.rfl -- iexact H8
  iexists ((Memref.whole cc0_scratch3 : Memref sig .tc .vmem S2048x8 .bf16).view.writes (Elt F) f7 [⟨(Rect.unit (s := S2048x8) ![768, 0] S256x8.size inb_S2048x8_S256x8_768_0), (k0_pay46 (v47 c I) (v52 c I) (v82 c I) (v231 c I) (v233 c I))⟩]); isplitr; (ipureintro; exact up7); istop; exact Entails.rfl -- iexact H7

set_option maxHeartbeats 800000 in
/-- Part 8 of the body on device `c`. -/
theorem body_part8 (c : Dev nD) (I : Inp F) (Kt : _ → sProp 𝕄) :
    iprop(held c cc0_stg1_0 I.r ∗ st6 c I 4 ∗ st8 c I 4 ∗ st7 c I 4)
      ⊢ iprop(((held c cc0_stg1_0 I.r ∗ st6 c I 5 ∗ st8 c I 5 ∗ st7 c I 5) -∗ Kt ⟨(v280 c I), (v287 c I), (v292 c I)⟩) -∗ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v47 c I) (v51 c I) (v52 c I) (v82 c I) (v231 c I) (v276 c I) (v277 c I)) Kt) := by
  rw [k0_part8_eq_skeleton]; unfold k0_part8_skel
  iintro ⟨H1, ⟨%f6, %h6, H6⟩, ⟨%f8, %h8, H8⟩, ⟨%f7, %h7, H7⟩⟩ Hk
  sl_exec
  have up6 : RowsUpto ((Memref.whole cc0_scratch2 : Memref sig .tc .vmem S2048x4 .bf16).view.read (Elt F) ((Memref.whole cc0_scratch2 : Memref sig .tc .vmem S2048x4 .bf16).view.writes (Elt F) f6 [⟨(Rect.unit (s := S2048x4) ![1024, 0] S256x4.size inb_S2048x4_S256x4_1024_0), (k0_pay54 (v47 c I) (v51 c I) (v276 c I) (v281 c I))⟩])) (MF c I) 5 := RowsUpto.step (blk := mB c I) 4 h6 1024 rfl _ _ rfl 5 rfl
  have up8 : RowsUpto ((Memref.whole cc0_scratch4 : Memref sig .tc .vmem S2048x4 .f32).view.read (Elt F) ((Memref.whole cc0_scratch4 : Memref sig .tc .vmem S2048x4 .f32).view.writes (Elt F) f8 [⟨(Rect.unit (s := S2048x4) ![1024, 0] S256x4.size inb_S2048x4_S256x4_1024_0), (k0_pay55 (v47 c I) (v51 c I) (v276 c I) (v281 c I))⟩])) (CF c I) 5 := RowsUpto.step (blk := cB c I) 4 h8 1024 rfl _ _ rfl 5 rfl
  have up7 : RowsUpto ((Memref.whole cc0_scratch3 : Memref sig .tc .vmem S2048x8 .bf16).view.read (Elt F) ((Memref.whole cc0_scratch3 : Memref sig .tc .vmem S2048x8 .bf16).view.writes (Elt F) f7 [⟨(Rect.unit (s := S2048x8) ![1024, 0] S256x8.size inb_S2048x8_S256x8_1024_0), (k0_pay56 (v47 c I) (v52 c I) (v82 c I) (v231 c I) (v277 c I) (v281 c I))⟩])) (AF c I) 5 := RowsUpto.step (blk := aB c I) 4 h7 1024 rfl _ _ rfl 5 rfl
  sl_step
  show Entails' _ (Kt ⟨(v280 c I), (v287 c I), (v292 c I)⟩)
  iapply Hk
  isplitl [H1]; · iexact H1
  isplitl [H6]; · iexists ((Memref.whole cc0_scratch2 : Memref sig .tc .vmem S2048x4 .bf16).view.writes (Elt F) f6 [⟨(Rect.unit (s := S2048x4) ![1024, 0] S256x4.size inb_S2048x4_S256x4_1024_0), (k0_pay54 (v47 c I) (v51 c I) (v276 c I) (v281 c I))⟩]); isplitr; (ipureintro; exact up6); istop; exact Entails.rfl -- iexact H6
  isplitl [H8]; · iexists ((Memref.whole cc0_scratch4 : Memref sig .tc .vmem S2048x4 .f32).view.writes (Elt F) f8 [⟨(Rect.unit (s := S2048x4) ![1024, 0] S256x4.size inb_S2048x4_S256x4_1024_0), (k0_pay55 (v47 c I) (v51 c I) (v276 c I) (v281 c I))⟩]); isplitr; (ipureintro; exact up8); istop; exact Entails.rfl -- iexact H8
  iexists ((Memref.whole cc0_scratch3 : Memref sig .tc .vmem S2048x8 .bf16).view.writes (Elt F) f7 [⟨(Rect.unit (s := S2048x8) ![1024, 0] S256x8.size inb_S2048x8_S256x8_1024_0), (k0_pay56 (v47 c I) (v52 c I) (v82 c I) (v231 c I) (v277 c I) (v281 c I))⟩]); isplitr; (ipureintro; exact up7); istop; exact Entails.rfl -- iexact H7

set_option maxHeartbeats 800000 in
/-- Part 9 of the body on device `c`. -/
theorem body_part9 (c : Dev nD) (I : Inp F) (Kt : _ → sProp 𝕄) :
    iprop(held c cc0_stg1_0 I.r ∗ st6 c I 5 ∗ st8 c I 5)
      ⊢ iprop(((held c cc0_stg1_0 I.r ∗ st6 c I 6 ∗ st8 c I 6) -∗ Kt ⟨(v325 c I), (v329 c I), (v336 c I), (v341 c I), (v366 c I)⟩) -∗ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v47 c I) (v51 c I) (v52 c I) (v82 c I) (v276 c I) (v280 c I) (v287 c I) (v292 c I)) Kt) := by
  rw [k0_part9_eq_skeleton]; unfold k0_part9_skel
  iintro ⟨H1, ⟨%f6, %h6, H6⟩, ⟨%f8, %h8, H8⟩⟩ Hk
  sl_exec
  have up6 : RowsUpto ((Memref.whole cc0_scratch2 : Memref sig .tc .vmem S2048x4 .bf16).view.read (Elt F) ((Memref.whole cc0_scratch2 : Memref sig .tc .vmem S2048x4 .bf16).view.writes (Elt F) f6 [⟨(Rect.unit (s := S2048x4) ![1280, 0] S256x4.size inb_S2048x4_S256x4_1280_0), (k0_pay63 (v47 c I) (v51 c I) (v276 c I) (v287 c I) (v330 c I))⟩])) (MF c I) 6 := RowsUpto.step (blk := mB c I) 5 h6 1280 rfl _ _ rfl 6 rfl
  have up8 : RowsUpto ((Memref.whole cc0_scratch4 : Memref sig .tc .vmem S2048x4 .f32).view.read (Elt F) ((Memref.whole cc0_scratch4 : Memref sig .tc .vmem S2048x4 .f32).view.writes (Elt F) f8 [⟨(Rect.unit (s := S2048x4) ![1280, 0] S256x4.size inb_S2048x4_S256x4_1280_0), (k0_pay64 (v47 c I) (v51 c I) (v276 c I) (v287 c I) (v330 c I))⟩])) (CF c I) 6 := RowsUpto.step (blk := cB c I) 5 h8 1280 rfl _ _ rfl 6 rfl
  sl_step
  show Entails' _ (Kt ⟨(v325 c I), (v329 c I), (v336 c I), (v341 c I), (v366 c I)⟩)
  iapply Hk
  isplitl [H1]; · iexact H1
  isplitl [H6]; · iexists ((Memref.whole cc0_scratch2 : Memref sig .tc .vmem S2048x4 .bf16).view.writes (Elt F) f6 [⟨(Rect.unit (s := S2048x4) ![1280, 0] S256x4.size inb_S2048x4_S256x4_1280_0), (k0_pay63 (v47 c I) (v51 c I) (v276 c I) (v287 c I) (v330 c I))⟩]); isplitr; (ipureintro; exact up6); istop; exact Entails.rfl -- iexact H6
  iexists ((Memref.whole cc0_scratch4 : Memref sig .tc .vmem S2048x4 .f32).view.writes (Elt F) f8 [⟨(Rect.unit (s := S2048x4) ![1280, 0] S256x4.size inb_S2048x4_S256x4_1280_0), (k0_pay64 (v47 c I) (v51 c I) (v276 c I) (v287 c I) (v330 c I))⟩]); isplitr; (ipureintro; exact up8); istop; exact Entails.rfl -- iexact H8

set_option maxHeartbeats 800000 in
/-- Part 10 of the body on device `c`. -/
theorem body_part10 (c : Dev nD) (I : Inp F) (Kt : _ → sProp 𝕄) :
    iprop(st7 c I 5 ∗ held c cc0_stg1_0 I.r ∗ st6 c I 6)
      ⊢ iprop(((st7 c I 6 ∗ held c cc0_stg1_0 I.r ∗ st6 c I 7) -∗ Kt ⟨(v374 c I), (v378 c I), (v385 c I), (v390 c I), (v393 c I), (v408 c I)⟩) -∗ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v47 c I) (v51 c I) (v52 c I) (v325 c I) (v329 c I) (v336 c I) (v341 c I) (v366 c I)) Kt) := by
  rw [k0_part10_eq_skeleton]; unfold k0_part10_skel
  iintro ⟨⟨%f7, %h7, H7⟩, H1, ⟨%f6, %h6, H6⟩⟩ Hk
  sl_exec
  have up7 : RowsUpto ((Memref.whole cc0_scratch3 : Memref sig .tc .vmem S2048x8 .bf16).view.read (Elt F) ((Memref.whole cc0_scratch3 : Memref sig .tc .vmem S2048x8 .bf16).view.writes (Elt F) f7 [⟨(Rect.unit (s := S2048x8) ![1280, 0] S256x8.size inb_S2048x8_S256x8_1280_0), (k0_pay66 (v366 c I))⟩])) (AF c I) 6 := RowsUpto.step (blk := aB c I) 5 h7 1280 rfl _ _ rfl 6 rfl
  have up6 : RowsUpto ((Memref.whole cc0_scratch2 : Memref sig .tc .vmem S2048x4 .bf16).view.read (Elt F) ((Memref.whole cc0_scratch2 : Memref sig .tc .vmem S2048x4 .bf16).view.writes (Elt F) f6 [⟨(Rect.unit (s := S2048x4) ![1536, 0] S256x4.size inb_S2048x4_S256x4_1536_0), (k0_pay74 (v47 c I) (v51 c I) (v325 c I) (v336 c I) (v379 c I))⟩])) (MF c I) 7 := RowsUpto.step (blk := mB c I) 6 h6 1536 rfl _ _ rfl 7 rfl
  sl_step
  show Entails' _ (Kt ⟨(v374 c I), (v378 c I), (v385 c I), (v390 c I), (v393 c I), (v408 c I)⟩)
  iapply Hk
  isplitl [H7]; · iexists ((Memref.whole cc0_scratch3 : Memref sig .tc .vmem S2048x8 .bf16).view.writes (Elt F) f7 [⟨(Rect.unit (s := S2048x8) ![1280, 0] S256x8.size inb_S2048x8_S256x8_1280_0), (k0_pay66 (v366 c I))⟩]); isplitr; (ipureintro; exact up7); istop; exact Entails.rfl -- iexact H7
  isplitl [H1]; · iexact H1
  iexists ((Memref.whole cc0_scratch2 : Memref sig .tc .vmem S2048x4 .bf16).view.writes (Elt F) f6 [⟨(Rect.unit (s := S2048x4) ![1536, 0] S256x4.size inb_S2048x4_S256x4_1536_0), (k0_pay74 (v47 c I) (v51 c I) (v325 c I) (v336 c I) (v379 c I))⟩]); isplitr; (ipureintro; exact up6); istop; exact Entails.rfl -- iexact H6

set_option maxHeartbeats 800000 in
/-- Part 11 of the body on device `c`. -/
theorem body_part11 (c : Dev nD) (I : Inp F) (Kt : _ → sProp 𝕄) :
    iprop(st8 c I 6 ∗ st7 c I 6 ∗ held c cc0_stg1_0 I.r)
      ⊢ iprop(((st8 c I 7 ∗ st7 c I 7 ∗ held c cc0_stg1_0 I.r) -∗ Kt ⟨(v442 c I), (v451 c I), (v457 c I)⟩) -∗ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v47 c I) (v51 c I) (v52 c I) (v82 c I) (v374 c I) (v378 c I) (v385 c I) (v390 c I) (v393 c I) (v408 c I)) Kt) := by
  rw [k0_part11_eq_skeleton]; unfold k0_part11_skel
  iintro ⟨⟨%f8, %h8, H8⟩, ⟨%f7, %h7, H7⟩, H1⟩ Hk
  sl_exec
  have up8 : RowsUpto ((Memref.whole cc0_scratch4 : Memref sig .tc .vmem S2048x4 .f32).view.read (Elt F) ((Memref.whole cc0_scratch4 : Memref sig .tc .vmem S2048x4 .f32).view.writes (Elt F) f8 [⟨(Rect.unit (s := S2048x4) ![1536, 0] S256x4.size inb_S2048x4_S256x4_1536_0), (k0_pay75 (v393 c I))⟩])) (CF c I) 7 := RowsUpto.step (blk := cB c I) 6 h8 1536 rfl _ _ rfl 7 rfl
  have up7 : RowsUpto ((Memref.whole cc0_scratch3 : Memref sig .tc .vmem S2048x8 .bf16).view.read (Elt F) ((Memref.whole cc0_scratch3 : Memref sig .tc .vmem S2048x8 .bf16).view.writes (Elt F) f7 [⟨(Rect.unit (s := S2048x8) ![1536, 0] S256x8.size inb_S2048x8_S256x8_1536_0), (k0_pay76 (v82 c I) (v408 c I))⟩])) (AF c I) 7 := RowsUpto.step (blk := aB c I) 6 h7 1536 rfl _ _ rfl 7 rfl
  sl_step
  show Entails' _ (Kt ⟨(v442 c I), (v451 c I), (v457 c I)⟩)
  iapply Hk
  isplitl [H8]; · iexists ((Memref.whole cc0_scratch4 : Memref sig .tc .vmem S2048x4 .f32).view.writes (Elt F) f8 [⟨(Rect.unit (s := S2048x4) ![1536, 0] S256x4.size inb_S2048x4_S256x4_1536_0), (k0_pay75 (v393 c I))⟩]); isplitr; (ipureintro; exact up8); istop; exact Entails.rfl -- iexact H8
  isplitl [H7]; · iexists ((Memref.whole cc0_scratch3 : Memref sig .tc .vmem S2048x8 .bf16).view.writes (Elt F) f7 [⟨(Rect.unit (s := S2048x8) ![1536, 0] S256x8.size inb_S2048x8_S256x8_1536_0), (k0_pay76 (v82 c I) (v408 c I))⟩]); isplitr; (ipureintro; exact up7); istop; exact Entails.rfl -- iexact H7
  iexact H1

set_option maxHeartbeats 800000 in
/-- Part 12 of the body on device `c`. -/
theorem body_part12 (c : Dev nD) (I : Inp F) (Kt : _ → sProp 𝕄) :
    iprop(st6 c I 7 ∗ st8 c I 7 ∗ st7 c I 7 ∗ st9 c I 0 ∗ held c cc0_scratch0 (xb c I) ∗ held c cc0_scratch1 (wb c I))
      ⊢ iprop(((held c cc0_scratch2 (MF c I) ∗ held c cc0_scratch4 (CF c I) ∗ held c cc0_scratch3 (AF c I) ∗ st9 c I 1 ∗ held c cc0_scratch0 (xb c I) ∗ held c cc0_scratch1 (wb c I)) -∗ Kt ⟨(v469 c I), (v470 c I), (v491 c I)⟩) -∗ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v82 c I) (v442 c I) (v451 c I) (v457 c I)) Kt) := by
  rw [k0_part12_eq_skeleton]; unfold k0_part12_skel
  iintro ⟨⟨%f6, %h6, H6⟩, ⟨%f8, %h8, H8⟩, ⟨%f7, %h7, H7⟩, ⟨%f9, %h9, H9⟩, H4, H5⟩ Hk
  set_option sl_exec.maxSteps 6 in sl_exec
  have up6 : RowsUpto ((Memref.whole cc0_scratch2 : Memref sig .tc .vmem S2048x4 .bf16).view.read (Elt F) ((Memref.whole cc0_scratch2 : Memref sig .tc .vmem S2048x4 .bf16).view.writes (Elt F) f6 [⟨(Rect.unit (s := S2048x4) ![1792, 0] S256x4.size inb_S2048x4_S256x4_1792_0), (k0_pay82 (v451 c I))⟩])) (MF c I) 8 := RowsUpto.step (blk := mB c I) 7 h6 1792 rfl _ _ rfl 8 rfl
  have e6 : (Memref.whole cc0_scratch2 : Memref sig .tc .vmem S2048x4 .bf16).view.writes (Elt F) f6 [⟨(Rect.unit (s := S2048x4) ![1792, 0] S256x4.size inb_S2048x4_S256x4_1792_0), (k0_pay82 (v451 c I))⟩] = MF c I := (View.read_whole cc0_scratch2 ((Memref.whole cc0_scratch2 : Memref sig .tc .vmem S2048x4 .bf16).view.writes (Elt F) f6 [⟨(Rect.unit (s := S2048x4) ![1792, 0] S256x4.size inb_S2048x4_S256x4_1792_0), (k0_pay82 (v451 c I))⟩])).symm.trans up6.all
  have up8 : RowsUpto ((Memref.whole cc0_scratch4 : Memref sig .tc .vmem S2048x4 .f32).view.read (Elt F) ((Memref.whole cc0_scratch4 : Memref sig .tc .vmem S2048x4 .f32).view.writes (Elt F) f8 [⟨(Rect.unit (s := S2048x4) ![1792, 0] S256x4.size inb_S2048x4_S256x4_1792_0), (k0_pay83 (v442 c I))⟩])) (CF c I) 8 := RowsUpto.step (blk := cB c I) 7 h8 1792 rfl _ _ rfl 8 rfl
  have e8 : (Memref.whole cc0_scratch4 : Memref sig .tc .vmem S2048x4 .f32).view.writes (Elt F) f8 [⟨(Rect.unit (s := S2048x4) ![1792, 0] S256x4.size inb_S2048x4_S256x4_1792_0), (k0_pay83 (v442 c I))⟩] = CF c I := (View.read_whole cc0_scratch4 ((Memref.whole cc0_scratch4 : Memref sig .tc .vmem S2048x4 .f32).view.writes (Elt F) f8 [⟨(Rect.unit (s := S2048x4) ![1792, 0] S256x4.size inb_S2048x4_S256x4_1792_0), (k0_pay83 (v442 c I))⟩])).symm.trans up8.all
  have up7 : RowsUpto ((Memref.whole cc0_scratch3 : Memref sig .tc .vmem S2048x8 .bf16).view.read (Elt F) ((Memref.whole cc0_scratch3 : Memref sig .tc .vmem S2048x8 .bf16).view.writes (Elt F) f7 [⟨(Rect.unit (s := S2048x8) ![1792, 0] S256x8.size inb_S2048x8_S256x8_1792_0), (k0_pay84 (v82 c I) (v457 c I))⟩])) (AF c I) 8 := RowsUpto.step (blk := aB c I) 7 h7 1792 rfl _ _ rfl 8 rfl
  have e7 : (Memref.whole cc0_scratch3 : Memref sig .tc .vmem S2048x8 .bf16).view.writes (Elt F) f7 [⟨(Rect.unit (s := S2048x8) ![1792, 0] S256x8.size inb_S2048x8_S256x8_1792_0), (k0_pay84 (v82 c I) (v457 c I))⟩] = AF c I := (View.read_whole cc0_scratch3 ((Memref.whole cc0_scratch3 : Memref sig .tc .vmem S2048x8 .bf16).view.writes (Elt F) f7 [⟨(Rect.unit (s := S2048x8) ![1792, 0] S256x8.size inb_S2048x8_S256x8_1792_0), (k0_pay84 (v82 c I) (v457 c I))⟩])).symm.trans up7.all
  rw [e6, e7, e8]
  sl_exec
  have up9 : PlanesUpto ((Memref.whole cc0_scratch5 : Memref sig .tc .vmem S4x2048x64 .bf16).view.read (Elt F) ((Memref.whole cc0_scratch5 : Memref sig .tc .vmem S4x2048x64 .bf16).view.writes (Elt F) f9 [⟨(Rect.unit (s := S4x2048x64) ![0, 0, 0] S1x2048x64.size inb_S4x2048x64_S1x2048x64_0_0_0), (k0_pay86 (v471 c I) (v480 c I))⟩])) (QF c I) 1 := PlanesUpto.step (blk := qB c I) 0 h9 0 rfl _ _ rfl 1 rfl
  sl_step
  show Entails' _ (Kt ⟨(v469 c I), (v470 c I), (v491 c I)⟩)
  iapply Hk
  isplitl [H6]; · iexact H6
  isplitl [H8]; · iexact H8
  isplitl [H7]; · iexact H7
  isplitl [H9]; · iexists ((Memref.whole cc0_scratch5 : Memref sig .tc .vmem S4x2048x64 .bf16).view.writes (Elt F) f9 [⟨(Rect.unit (s := S4x2048x64) ![0, 0, 0] S1x2048x64.size inb_S4x2048x64_S1x2048x64_0_0_0), (k0_pay86 (v471 c I) (v480 c I))⟩]); isplitr; (ipureintro; exact up9); istop; exact Entails.rfl -- iexact H9
  isplitl [H4]; · iexact H4
  iexact H5

set_option maxHeartbeats 800000 in
/-- Part 13 of the body on device `c`. -/
theorem body_part13 (c : Dev nD) (I : Inp F) (Kt : _ → sProp 𝕄) :
    iprop(held c cc0_scratch4 (CF c I) ∗ held c cc0_scratch2 (MF c I) ∗ st9 c I 1 ∗ held c cc0_scratch0 (xb c I) ∗ held c cc0_scratch1 (wb c I))
      ⊢ iprop((∀ z, (held c cc0_scratch4 (CF c I) ∗ held c cc0_scratch2 (MF c I) ∗ st9 c I 2 ∗ held c cc0_scratch0 (xb c I) ∗ held c cc0_scratch1 (wb c I)) -∗ Kt ⟨(v492 c I), (v514 c I), (v526 c I), z⟩) -∗ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v470 c I) (v491 c I)) Kt) := by
  rw [k0_part13_eq_skeleton]; unfold k0_part13_skel
  iintro ⟨H8, H6, ⟨%f9, %h9, H9⟩, H4, H5⟩ Hk
  sl_exec
  have up9 : PlanesUpto ((Memref.whole cc0_scratch5 : Memref sig .tc .vmem S4x2048x64 .bf16).view.read (Elt F) ((Memref.whole cc0_scratch5 : Memref sig .tc .vmem S4x2048x64 .bf16).view.writes (Elt F) f9 [⟨(Rect.unit (s := S4x2048x64) ![1, 0, 0] S1x2048x64.size inb_S4x2048x64_S1x2048x64_1_0_0), (k0_pay90 (v470 c I) (v493 c I) (v502 c I))⟩])) (QF c I) 2 := PlanesUpto.step (blk := qB c I) 1 h9 1 rfl _ _ rfl 2 rfl
  sl_step
  show Entails' _ (Kt ⟨(v492 c I), (v514 c I), (v526 c I), _⟩)
  iapply Hk
  isplitl [H8]; · iexact H8
  isplitl [H6]; · iexact H6
  isplitl [H9]; · iexists ((Memref.whole cc0_scratch5 : Memref sig .tc .vmem S4x2048x64 .bf16).view.writes (Elt F) f9 [⟨(Rect.unit (s := S4x2048x64) ![1, 0, 0] S1x2048x64.size inb_S4x2048x64_S1x2048x64_1_0_0), (k0_pay90 (v470 c I) (v493 c I) (v502 c I))⟩]); isplitr; (ipureintro; exact up9); istop; exact Entails.rfl -- iexact H9
  isplitl [H4]; · iexact H4
  iexact H5

set_option maxHeartbeats 800000 in
/-- Part 14 of the body on device `c`. -/
theorem body_part14 (c : Dev nD) (I : Inp F) (z : Vec F S1x2048x64 .bf16) (Kt : _ → sProp 𝕄) :
    iprop(st9 c I 2 ∗ held c cc0_scratch0 (xb c I) ∗ held c cc0_scratch1 (wb c I) ∗ held c cc0_scratch4 (CF c I) ∗ held c cc0_scratch2 (MF c I))
      ⊢ iprop(((held c cc0_scratch5 (QF c I) ∗ held c cc0_scratch0 (xb c I) ∗ held c cc0_scratch1 (wb c I) ∗ held c cc0_scratch4 (CF c I) ∗ held c cc0_scratch2 (MF c I)) -∗ Kt ⟨(v536 c I), (v558 c I), (v560 c I), (c256_i32 c I)⟩) -∗ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v2 c I) (v470 c I) (v526 c I) z) Kt) := by
  rw [k0_part14_eq_skeleton]; unfold k0_part14_skel
  iintro ⟨⟨%f9, %h9, H9⟩, H4, H5, H8, H6⟩ Hk
  sl_exec
  have up9a : PlanesUpto ((Memref.whole cc0_scratch5 : Memref sig .tc .vmem S4x2048x64 .bf16).view.read (Elt F) ((Memref.whole cc0_scratch5 : Memref sig .tc .vmem S4x2048x64 .bf16).view.writes (Elt F) f9 [⟨(Rect.unit (s := S4x2048x64) ![2, 0, 0] S1x2048x64.size inb_S4x2048x64_S1x2048x64_2_0_0), (k0_pay93 (v526 c I))⟩])) (QF c I) 3 := PlanesUpto.step (blk := qB c I) 2 h9 2 rfl inb_S4x2048x64_S1x2048x64_2_0_0 (k0_pay93 (v526 c I)) rfl 3 rfl
  have up9 : PlanesUpto ((Memref.whole cc0_scratch5 : Memref sig .tc .vmem S4x2048x64 .bf16).view.read (Elt F) ((Memref.whole cc0_scratch5 : Memref sig .tc .vmem S4x2048x64 .bf16).view.writes (Elt F) ((Memref.whole cc0_scratch5 : Memref sig .tc .vmem S4x2048x64 .bf16).view.writes (Elt F) f9 [⟨(Rect.unit (s := S4x2048x64) ![2, 0, 0] S1x2048x64.size inb_S4x2048x64_S1x2048x64_2_0_0), (k0_pay93 (v526 c I))⟩]) [⟨(Rect.unit (s := S4x2048x64) ![3, 0, 0] S1x2048x64.size inb_S4x2048x64_S1x2048x64_3_0_0), (k0_pay96 (v470 c I) (v537 c I) (v546 c I))⟩])) (QF c I) 4 := PlanesUpto.step (v := (Memref.whole cc0_scratch5 : Memref sig .tc .vmem S4x2048x64 .bf16).view) (f := (Memref.whole cc0_scratch5 : Memref sig .tc .vmem S4x2048x64 .bf16).view.writes (Elt F) f9 [⟨(Rect.unit (s := S4x2048x64) ![2, 0, 0] S1x2048x64.size inb_S4x2048x64_S1x2048x64_2_0_0), (k0_pay93 (v526 c I))⟩]) (blk := qB c I) 3 up9a 3 rfl inb_S4x2048x64_S1x2048x64_3_0_0 (k0_pay96 (v470 c I) (v537 c I) (v546 c I)) rfl 4 rfl
  have e9a : (Memref.whole cc0_scratch5 : Memref sig .tc .vmem S4x2048x64 .bf16).view.writes (Elt F) ((Memref.whole cc0_scratch5 : Memref sig .tc .vmem S4x2048x64 .bf16).view.writes (Elt F) f9 [⟨(Rect.unit (s := S4x2048x64) ![2, 0, 0] S1x2048x64.size inb_S4x2048x64_S1x2048x64_2_0_0), (k0_pay93 (v526 c I))⟩]) [⟨(Rect.unit (s := S4x2048x64) ![3, 0, 0] S1x2048x64.size inb_S4x2048x64_S1x2048x64_3_0_0), (k0_pay96 (v470 c I) (v537 c I) (v546 c I))⟩] = QF c I := (View.read_whole cc0_scratch5 ((Memref.whole cc0_scratch5 : Memref sig .tc .vmem S4x2048x64 .bf16).view.writes (Elt F) ((Memref.whole cc0_scratch5 : Memref sig .tc .vmem S4x2048x64 .bf16).view.writes (Elt F) f9 [⟨(Rect.unit (s := S4x2048x64) ![2, 0, 0] S1x2048x64.size inb_S4x2048x64_S1x2048x64_2_0_0), (k0_pay93 (v526 c I))⟩]) [⟨(Rect.unit (s := S4x2048x64) ![3, 0, 0] S1x2048x64.size inb_S4x2048x64_S1x2048x64_3_0_0), (k0_pay96 (v470 c I) (v537 c I) (v546 c I))⟩])).symm.trans up9.all
  have e9 : (Memref.whole cc0_scratch5 : Memref sig .tc .vmem S4x2048x64 .bf16).view.writes (Elt F) f9 [⟨(Rect.unit (s := S4x2048x64) ![3, 0, 0] S1x2048x64.size inb_S4x2048x64_S1x2048x64_3_0_0), (k0_pay96 (v470 c I) (v537 c I) (v546 c I))⟩, ⟨(Rect.unit (s := S4x2048x64) ![2, 0, 0] S1x2048x64.size inb_S4x2048x64_S1x2048x64_2_0_0), (k0_pay93 (v526 c I))⟩] = QF c I := (writes_two (Memref.whole cc0_scratch5 : Memref sig .tc .vmem S4x2048x64 .bf16).view f9 _ _).trans e9a
  sl_step
  show Entails' _ (Kt ⟨(v536 c I), (v558 c I), (v560 c I), (c256_i32 c I)⟩)
  iapply Hk
  isplitl [H9]; · istop; exact Entails.of_eq (congrArg (held c cc0_scratch5) e9) -- iexact H9
  isplitl [H4]; · iexact H4
  isplitl [H5]; · iexact H5
  isplitl [H8]; · iexact H8
  iexact H6

end Cert.KernelIdeal.Run
-- ==== Proof.IdealParts2.lean ====
module

public import proofs.«01_k».proof.Proof.IdealProtocol
public import proofs.«01_k».proof.Proof.IdealValues
public import Idealize.ShloMosaic.Lib.VecWindow
public import proofs.«01_k».proof.Proof.IdealParts1

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

set_option maxHeartbeats 800000 in
/-- Part 15 of the body on device `c`. -/
theorem body_part15 (c : Dev nD) (I : Inp F) (Kt : _ → sProp 𝕄) :
    iprop(held c cc0_scratch2 (MF c I) ∗ held c cc0_scratch5 (QF c I))
      ⊢ iprop(((held c cc0_scratch2 (MF c I) ∗ held c cc0_scratch5 (QF c I)) -∗ Kt ⟨(v578 c I), (v595 c I), (v601 c I)⟩) -∗ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v47 c I) (v469 c I) (v492 c I) (v514 c I) (v560 c I) (c256_i32 c I)) Kt) := by
  rw [k0_part15_eq_skeleton]; unfold k0_part15_skel
  iintro ⟨H6, H9⟩ Hk
  sl_exec
  sl_step
  show Entails' _ (Kt ⟨(v578 c I), (v595 c I), (v601 c I)⟩)
  iapply Hk
  isplitl [H6]; · iexact H6
  iexact H9

set_option maxHeartbeats 800000 in
/-- Part 16 of the body on device `c`. -/
theorem body_part16 (c : Dev nD) (I : Inp F) (MSG : Dev nD → Fin 7 → Vec F S1x64x1024 .bf16) (K : Dev nD × CK → ℕ) (hM : ∀ k, MSG c k = msg c I k) (Kt : _ → sProp 𝕄) :
    iprop(records MSG K ∗ held c cc0_scratch5 (QF c I) ∗ held c cc0_scratch2 (MF c I) ∗ (∃ f, sndPts (F := F) c 0 f) ∗ owesE (F := F) c (owedSnd c 7) ∗ (∃ f, rcvPts (F := F) (dest c 0) 0 f) ∗ dutyTok ER (sndCell c 0) 0 0 ∗ dutyTok ER (rcvCell (dest c 0) 0) 0 0)
      ⊢ iprop(((held c cc0_scratch5 (QF c I) ∗ held c cc0_scratch2 (MF c I) ∗ owesE (F := F) c (owedSnd c 6) ∗ cred (tallyAt (sndCell c 0) () N)) -∗ Kt ⟨(v627 c I), (v634 c I), (cst_260 c I)⟩) -∗ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v2 c I) (v536 c I) (v558 c I) (v560 c I) (v578 c I) (v595 c I) (v601 c I)) Kt) := by
  rw [k0_part16_eq_skeleton]; unfold k0_part16_skel
  iintro ⟨#HR, H9, H6, ⟨%fs0, Hs0⟩, HO, ⟨%fr0, Hr0⟩, Hts0, Htr0⟩ Hk
  have hacc0 : ((Memref.whole cc0_scratch6 : Memref sig .tc .vmem S7x64x1024 .bf16).access (Rect.unit (s := S7x64x1024) ![0, 0, 0] S1x64x1024.size inb_S7x64x1024_S1x64x1024_0_0_0)).set ⊆ (sndM 0).view.set := snd_acc 0
  unfold sndPts
  sl_exec
  iapply (step_send MSG K c 0 _ (snd_dev c).1 7 6 rfl rfl _ _ rfl rfl _ _ rfl rfl ((Memref.whole cc0_scratch6 : Memref sig .tc .vmem S7x64x1024 .bf16).view.writes (Elt F) fs0 [⟨slotR 0, (k0_pay101 (v536 c I) (v558 c I) (v578 c I) (v595 c I) (v601 c I) (v606 c I))⟩]) ((stored 0 _ _).trans (show (k0_pay101 (v536 c I) (v558 c I) (v578 c I) (v595 c I) (v601 c I) (v606 c I)) = MSG c 0 from (hM 0).symm)) fr0) $$ [Hs0 Hr0 HO Hts0 Htr0]
  · isplitr; · iexact HR
    isplitl [Hs0]; · iclear HR; istop; exact Entails.rfl
    isplitl [Hr0]; · iexact Hr0
    isplitl [HO]; · iexact HO
    isplitl [Hts0]; · iexact Hts0
    iexact Htr0
  iintro ⟨Hc0, HO⟩
  try rw [prog_ret_bind]
  try sl_exec
  sl_step
  show Entails' _ (Kt ⟨(v627 c I), (v634 c I), (cst_260 c I)⟩)
  iapply Hk
  isplitl [H9]; · iexact H9
  isplitl [H6]; · iexact H6
  isplitl [HO]; · iexact HO
  iexact Hc0

set_option maxHeartbeats 800000 in
/-- Part 17 of the body on device `c`. -/
theorem body_part17 (c : Dev nD) (I : Inp F) (Kt : _ → sProp 𝕄) :
    iprop(held c cc0_scratch5 (QF c I))
      ⊢ iprop(((held c cc0_scratch5 (QF c I)) -∗ Kt ⟨(v645 c I), (v670 c I), (v674 c I)⟩) -∗ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v47 c I) (v469 c I) (v492 c I) (v514 c I) (v536 c I) (v627 c I) (v634 c I) (cst_260 c I)) Kt) := by
  rw [k0_part17_eq_skeleton]; unfold k0_part17_skel
  iintro H9 Hk
  sl_exec
  sl_step
  show Entails' _ (Kt ⟨(v645 c I), (v670 c I), (v674 c I)⟩)
  iapply Hk
  iexact H9

set_option maxHeartbeats 800000 in
/-- Part 18 of the body on device `c`. -/
theorem body_part18 (c : Dev nD) (I : Inp F) (MSG : Dev nD → Fin 7 → Vec F S1x64x1024 .bf16) (K : Dev nD × CK → ℕ) (hM : ∀ k, MSG c k = msg c I k) (Kt : _ → sProp 𝕄) :
    iprop(records MSG K ∗ held c cc0_scratch2 (MF c I) ∗ (∃ f, sndPts (F := F) c 1 f) ∗ owesE (F := F) c (owedSnd c 6) ∗ (∃ f, rcvPts (F := F) (dest c 1) 1 f) ∗ dutyTok ER (sndCell c 1) 0 0 ∗ dutyTok ER (rcvCell (dest c 1) 1) 0 0)
      ⊢ iprop(((held c cc0_scratch2 (MF c I) ∗ owesE (F := F) c (owedSnd c 5) ∗ cred (tallyAt (sndCell c 1) () N)) -∗ Kt ⟨(v694 c I), (v701 c I), (v710 c I)⟩) -∗ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v2 c I) (v47 c I) (v469 c I) (v558 c I) (v627 c I) (v645 c I) (v670 c I) (v674 c I)) Kt) := by
  rw [k0_part18_eq_skeleton]; unfold k0_part18_skel
  iintro ⟨#HR, H6, ⟨%fs1, Hs1⟩, HO, ⟨%fr1, Hr1⟩, Hts1, Htr1⟩ Hk
  have hacc1 : ((Memref.whole cc0_scratch6 : Memref sig .tc .vmem S7x64x1024 .bf16).access (Rect.unit (s := S7x64x1024) ![1, 0, 0] S1x64x1024.size inb_S7x64x1024_S1x64x1024_1_0_0)).set ⊆ (sndM 1).view.set := snd_acc 1
  unfold sndPts
  sl_exec
  iapply (step_send MSG K c 1 _ (snd_dev c).2.1 6 5 rfl rfl _ _ rfl rfl _ _ rfl rfl ((Memref.whole cc0_scratch6 : Memref sig .tc .vmem S7x64x1024 .bf16).view.writes (Elt F) fs1 [⟨slotR 1, (k0_pay106 (v558 c I) (v645 c I) (v670 c I) (v674 c I))⟩]) ((stored 1 _ _).trans (show (k0_pay106 (v558 c I) (v645 c I) (v670 c I) (v674 c I)) = MSG c 1 from (hM 1).symm)) fr1) $$ [Hs1 Hr1 HO Hts1 Htr1]
  · isplitr; · iexact HR
    isplitl [Hs1]; · iclear HR; istop; exact Entails.rfl
    isplitl [Hr1]; · iexact Hr1
    isplitl [HO]; · iexact HO
    isplitl [Hts1]; · iexact Hts1
    iexact Htr1
  iintro ⟨Hc1, HO⟩
  try rw [prog_ret_bind]
  try sl_exec
  sl_step
  show Entails' _ (Kt ⟨(v694 c I), (v701 c I), (v710 c I)⟩)
  iapply Hk
  isplitl [H6]; · iexact H6
  isplitl [HO]; · iexact HO
  iexact Hc1

set_option maxHeartbeats 800000 in
/-- Part 19 of the body on device `c`. -/
theorem body_part19 (c : Dev nD) (I : Inp F) (Kt : _ → sProp 𝕄) :
    iprop(held c cc0_scratch5 (QF c I))
      ⊢ iprop(((held c cc0_scratch5 (QF c I)) -∗ Kt (v746 c I)) -∗ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v492 c I) (v514 c I) (v536 c I) (v558 c I) (v694 c I) (v701 c I) (v710 c I)) Kt) := by
  rw [k0_part19_eq_skeleton]; unfold k0_part19_skel
  iintro H9 Hk
  sl_exec
  sl_step
  show Entails' _ (Kt (v746 c I))
  iapply Hk
  iexact H9

set_option maxHeartbeats 800000 in
/-- Part 20 of the body on device `c`. -/
theorem body_part20 (c : Dev nD) (I : Inp F) (MSG : Dev nD → Fin 7 → Vec F S1x64x1024 .bf16) (K : Dev nD × CK → ℕ) (hM : ∀ k, MSG c k = msg c I k) (Kt : _ → sProp 𝕄) :
    iprop(records MSG K ∗ held c cc0_scratch2 (MF c I) ∗ held c cc0_scratch5 (QF c I) ∗ (∃ f, sndPts (F := F) c 2 f) ∗ owesE (F := F) c (owedSnd c 5) ∗ (∃ f, rcvPts (F := F) (dest c 2) 2 f) ∗ dutyTok ER (sndCell c 2) 0 0 ∗ dutyTok ER (rcvCell (dest c 2) 2) 0 0)
      ⊢ iprop(((held c cc0_scratch2 (MF c I) ∗ held c cc0_scratch5 (QF c I) ∗ owesE (F := F) c (owedSnd c 4) ∗ cred (tallyAt (sndCell c 2) () N)) -∗ Kt ⟨(v761 c I), (v779 c I), (v780 c I), (v783 c I)⟩) -∗ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v2 c I) (v47 c I) (v469 c I) (v694 c I) (v746 c I)) Kt) := by
  rw [k0_part20_eq_skeleton]; unfold k0_part20_skel
  iintro ⟨#HR, H6, H9, ⟨%fs2, Hs2⟩, HO, ⟨%fr2, Hr2⟩, Hts2, Htr2⟩ Hk
  have hacc2 : ((Memref.whole cc0_scratch6 : Memref sig .tc .vmem S7x64x1024 .bf16).access (Rect.unit (s := S7x64x1024) ![2, 0, 0] S1x64x1024.size inb_S7x64x1024_S1x64x1024_2_0_0)).set ⊆ (sndM 2).view.set := snd_acc 2
  unfold sndPts
  sl_exec
  iapply (step_send MSG K c 2 _ (snd_dev c).2.2.1 5 4 rfl rfl _ _ rfl rfl _ _ rfl rfl ((Memref.whole cc0_scratch6 : Memref sig .tc .vmem S7x64x1024 .bf16).view.writes (Elt F) fs2 [⟨slotR 2, (k0_pay110 (v746 c I))⟩]) ((stored 2 _ _).trans (show (k0_pay110 (v746 c I)) = MSG c 2 from (hM 2).symm)) fr2) $$ [Hs2 Hr2 HO Hts2 Htr2]
  · isplitr; · iexact HR
    isplitl [Hs2]; · iclear HR; istop; exact Entails.rfl
    isplitl [Hr2]; · iexact Hr2
    isplitl [HO]; · iexact HO
    isplitl [Hts2]; · iexact Hts2
    iexact Htr2
  iintro ⟨Hc2, HO⟩
  try rw [prog_ret_bind]
  try sl_exec
  sl_step
  show Entails' _ (Kt ⟨(v761 c I), (v779 c I), (v780 c I), (v783 c I)⟩)
  iapply Hk
  isplitl [H6]; · iexact H6
  isplitl [H9]; · iexact H9
  isplitl [HO]; · iexact HO
  iexact Hc2

set_option maxHeartbeats 800000 in
/-- Part 21 of the body on device `c`. -/
theorem body_part21 (c : Dev nD) (I : Inp F) (Kt : _ → sProp 𝕄) :
    iprop(held c cc0_scratch5 (QF c I) ∗ (∃ f, sndPts (F := F) c 3 f))
      ⊢ iprop(((held c cc0_scratch5 (QF c I) ∗ (∃ f, ⌜sndAt 3 f = msg c I 3⌝ ∗ sndPts c 3 f)) -∗ Kt (v817 c I)) -∗ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v492 c I) (v514 c I) (v536 c I) (v558 c I) (v761 c I) (v779 c I) (v780 c I) (v783 c I)) Kt) := by
  rw [k0_part21_eq_skeleton]; unfold k0_part21_skel
  iintro ⟨H9, ⟨%fs3, Hs3⟩⟩ Hk
  have hacc3 : ((Memref.whole cc0_scratch6 : Memref sig .tc .vmem S7x64x1024 .bf16).access (Rect.unit (s := S7x64x1024) ![3, 0, 0] S1x64x1024.size inb_S7x64x1024_S1x64x1024_3_0_0)).set ⊆ (sndM 3).view.set := snd_acc 3
  unfold sndPts
  sl_exec
  sl_step
  show Entails' _ (Kt (v817 c I))
  iapply Hk
  isplitl [H9]; · iexact H9
  iexists ((Memref.whole cc0_scratch6 : Memref sig .tc .vmem S7x64x1024 .bf16).view.writes (Elt F) fs3 [⟨slotR 3, (k0_pay113 (v492 c I) (v514 c I) (v536 c I) (v558 c I) (v779 c I) (v780 c I) (v783 c I) (v791 c I) (v799 c I) (v807 c I))⟩]); isplitr; (ipureintro; exact stored 3 fs3 (k0_pay113 (v492 c I) (v514 c I) (v536 c I) (v558 c I) (v779 c I) (v780 c I) (v783 c I) (v791 c I) (v799 c I) (v807 c I))); istop; exact Entails.rfl -- iexact Hs3

set_option maxHeartbeats 800000 in
/-- Part 22 of the body on device `c`. -/
theorem body_part22 (c : Dev nD) (I : Inp F) (MSG : Dev nD → Fin 7 → Vec F S1x64x1024 .bf16) (K : Dev nD × CK → ℕ) (hM : ∀ k, MSG c k = msg c I k) (Kt : _ → sProp 𝕄) :
    iprop(records MSG K ∗ held c cc0_scratch2 (MF c I) ∗ held c cc0_scratch5 (QF c I) ∗ (∃ f, ⌜sndAt 3 f = msg c I 3⌝ ∗ sndPts c 3 f) ∗ owesE (F := F) c (owedSnd c 4) ∗ (∃ f, rcvPts (F := F) (dest c 3) 3 f) ∗ dutyTok ER (sndCell c 3) 0 0 ∗ dutyTok ER (rcvCell (dest c 3) 3) 0 0)
      ⊢ iprop(((held c cc0_scratch2 (MF c I) ∗ held c cc0_scratch5 (QF c I) ∗ owesE (F := F) c (owedSnd c 3) ∗ cred (tallyAt (sndCell c 3) () N)) -∗ Kt ⟨(v828 c I), (v846 c I), (v855 c I), (v856 c I)⟩) -∗ wp frame (wpE (defs₀ (F := F)) 𝒱₀ (c : Thread nD τ) none) Set.univ (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v2 c I) (v47 c I) (v469 c I) (v492 c I) (v817 c I)) Kt) := by
  rw [k0_part22_eq_skeleton]; unfold k0_part22_skel
  iintro ⟨#HR, H6, H9, ⟨%fs3, %hs3, Hs3⟩, HO, ⟨%fr3, Hr3⟩, Hts3, Htr3⟩ Hk
  iapply (step_send MSG K c 3 _ (snd_dev c).2.2.2.1 4 3 rfl rfl _ _ rfl rfl _ _ rfl rfl fs3 (hs3.trans (hM 3).symm) fr3) $$ [Hs3 Hr3 HO Hts3 Htr3]
  · isplitr; · iexact HR
    isplitl [Hs3]; · iexact Hs3
    isplitl [Hr3]; · iexact Hr3
    isplitl [HO]; · iexact HO
    isplitl [Hts3]; · iexact Hts3
    iexact Htr3
  iintro ⟨Hc3, HO⟩
  try rw [prog_ret_bind]
  try sl_exec
  sl_step
  show Entails' _ (Kt ⟨(v828 c I), (v846 c I), (v855 c I), (v856 c I)⟩)
  iapply Hk
  isplitl [H6]; · iexact H6
  isplitl [H9]; · iexact H9
  isplitl [HO]; · iexact HO
  iexact Hc3

set_option maxHeartbeats 800000 in
/-- Part 23 of the body on device `c`. -/
theorem body_part23 (c : Dev nD) (I : Inp F) (Kt : _ → sProp 𝕄) :
    iprop(held c cc0_scratch5 (QF c I) ∗ (∃ f, sndPts (F := F) c 4 f))
      ⊢ iprop(((held c cc0_scratch5 (QF c I) ∗ (∃ f, ⌜sndAt 4 f = msg c I 4⌝ ∗ sndPts c 4 f)) -∗ Kt ⟨⟩) -∗ wp frame (wpE (defs₀ (F := F)) 𝒱₀ (c : Thread nD τ) none) Set.univ (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v514 c I) (v536 c I) (v558 c I) (v828 c I) (v846 c I) (v855 c I) (v856 c I)) Kt) := by
  rw [k0_part23_eq_skeleton]; unfold k0_part23_skel
  iintro ⟨H9, ⟨%fs4, Hs4⟩⟩ Hk
  have hacc4 : ((Memref.whole cc0_scratch6 : Memref sig .tc .vmem S7x64x1024 .bf16).access (Rect.unit (s := S7x64x1024) ![4, 0, 0] S1x64x1024.size inb_S7x64x1024_S1x64x1024_4_0_0)).set ⊆ (sndM 4).view.set := snd_acc 4
  unfold sndPts
  sl_exec
  sl_step
  iapply Hk
  isplitl [H9]; · iexact H9
  iexists ((Memref.whole cc0_scratch6 : Memref sig .tc .vmem S7x64x1024 .bf16).view.writes (Elt F) fs4 [⟨slotR 4, (k0_pay116 (v514 c I) (v536 c I) (v558 c I) (v846 c I) (v855 c I) (v858 c I) (v866 c I) (v874 c I))⟩]); isplitr; (ipureintro; exact stored 4 fs4 (k0_pay116 (v514 c I) (v536 c I) (v558 c I) (v846 c I) (v855 c I) (v858 c I) (v866 c I) (v874 c I))); istop; exact Entails.rfl -- iexact Hs4

set_option maxHeartbeats 800000 in
/-- Part 24 of the body on device `c`. -/
theorem body_part24 (c : Dev nD) (I : Inp F) (MSG : Dev nD → Fin 7 → Vec F S1x64x1024 .bf16) (K : Dev nD × CK → ℕ) (hM : ∀ k, MSG c k = msg c I k) (Kt : _ → sProp 𝕄) :
    iprop(records MSG K ∗ held c cc0_scratch2 (MF c I) ∗ held c cc0_scratch5 (QF c I) ∗ (∃ f, ⌜sndAt 4 f = msg c I 4⌝ ∗ sndPts c 4 f) ∗ owesE (F := F) c (owedSnd c 3) ∗ (∃ f, rcvPts (F := F) (dest c 4) 4 f) ∗ dutyTok ER (sndCell c 4) 0 0 ∗ dutyTok ER (rcvCell (dest c 4) 4) 0 0)
      ⊢ iprop(((held c cc0_scratch2 (MF c I) ∗ held c cc0_scratch5 (QF c I) ∗ owesE (F := F) c (owedSnd c 2) ∗ cred (tallyAt (sndCell c 4) () N)) -∗ Kt ⟨(v895 c I), (v913 c I), (v930 c I)⟩) -∗ wp frame (wpE (defs₀ (F := F)) 𝒱₀ (c : Thread nD τ) none) Set.univ (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v2 c I) (v47 c I) (v469 c I) (v492 c I) (v514 c I)) Kt) := by
  rw [k0_part24_eq_skeleton]; unfold k0_part24_skel
  iintro ⟨#HR, H6, H9, ⟨%fs4, %hs4, Hs4⟩, HO, ⟨%fr4, Hr4⟩, Hts4, Htr4⟩ Hk
  iapply (step_send MSG K c 4 _ (snd_dev c).2.2.2.2.1 3 2 rfl rfl _ _ rfl rfl _ _ rfl rfl fs4 (hs4.trans (hM 4).symm) fr4) $$ [Hs4 Hr4 HO Hts4 Htr4]
  · isplitr; · iexact HR
    isplitl [Hs4]; · iexact Hs4
    isplitl [Hr4]; · iexact Hr4
    isplitl [HO]; · iexact HO
    isplitl [Hts4]; · iexact Hts4
    iexact Htr4
  iintro ⟨Hc4, HO⟩
  try rw [prog_ret_bind]
  try sl_exec
  sl_step
  show Entails' _ (Kt ⟨(v895 c I), (v913 c I), (v930 c I)⟩)
  iapply Hk
  isplitl [H6]; · iexact H6
  isplitl [H9]; · iexact H9
  isplitl [HO]; · iexact HO
  iexact Hc4

set_option maxHeartbeats 800000 in
/-- Part 25 of the body on device `c`. -/
theorem body_part25 (c : Dev nD) (I : Inp F) (MSG : Dev nD → Fin 7 → Vec F S1x64x1024 .bf16) (K : Dev nD × CK → ℕ) (hM : ∀ k, MSG c k = msg c I k) (Kt : _ → sProp 𝕄) :
    iprop(records MSG K ∗ held c cc0_scratch5 (QF c I) ∗ (∃ f, sndPts (F := F) c 5 f) ∗ owesE (F := F) c (owedSnd c 2) ∗ (∃ f, rcvPts (F := F) (dest c 5) 5 f) ∗ dutyTok ER (sndCell c 5) 0 0 ∗ dutyTok ER (rcvCell (dest c 5) 5) 0 0)
      ⊢ iprop(((held c cc0_scratch5 (QF c I) ∗ owesE (F := F) c (owedSnd c 1) ∗ cred (tallyAt (sndCell c 5) () N)) -∗ Kt ⟨(v962 c I), (c256_i32_460 c I)⟩) -∗ wp frame (wpE (defs₀ (F := F)) 𝒱₀ (c : Thread nD τ) none) Set.univ (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v2 c I) (v536 c I) (v558 c I) (v895 c I) (v913 c I) (v930 c I)) Kt) := by
  rw [k0_part25_eq_skeleton]; unfold k0_part25_skel
  iintro ⟨#HR, H9, ⟨%fs5, Hs5⟩, HO, ⟨%fr5, Hr5⟩, Hts5, Htr5⟩ Hk
  have hacc5 : ((Memref.whole cc0_scratch6 : Memref sig .tc .vmem S7x64x1024 .bf16).access (Rect.unit (s := S7x64x1024) ![5, 0, 0] S1x64x1024.size inb_S7x64x1024_S1x64x1024_5_0_0)).set ⊆ (sndM 5).view.set := snd_acc 5
  unfold sndPts
  sl_exec
  iapply (step_send MSG K c 5 _ (snd_dev c).2.2.2.2.2.1 2 1 rfl rfl _ _ rfl rfl _ _ rfl rfl ((Memref.whole cc0_scratch6 : Memref sig .tc .vmem S7x64x1024 .bf16).view.writes (Elt F) fs5 [⟨slotR 5, (k0_pay119 (v536 c I) (v558 c I) (v913 c I) (v930 c I) (v933 c I) (v941 c I))⟩]) ((stored 5 _ _).trans (show (k0_pay119 (v536 c I) (v558 c I) (v913 c I) (v930 c I) (v933 c I) (v941 c I)) = MSG c 5 from (hM 5).symm)) fr5) $$ [Hs5 Hr5 HO Hts5 Htr5]
  · isplitr; · iexact HR
    isplitl [Hs5]; · iclear HR; istop; exact Entails.rfl
    isplitl [Hr5]; · iexact Hr5
    isplitl [HO]; · iexact HO
    isplitl [Hts5]; · iexact Hts5
    iexact Htr5
  iintro ⟨Hc5, HO⟩
  try rw [prog_ret_bind]
  try sl_exec
  sl_step
  show Entails' _ (Kt ⟨(v962 c I), (c256_i32_460 c I)⟩)
  iapply Hk
  isplitl [H9]; · iexact H9
  isplitl [HO]; · iexact HO
  iexact Hc5

set_option maxHeartbeats 800000 in
/-- Part 26 of the body on device `c`. -/
theorem body_part26 (c : Dev nD) (I : Inp F) (Kt : _ → sProp 𝕄) :
    iprop(held c cc0_scratch2 (MF c I) ∗ held c cc0_scratch5 (QF c I))
      ⊢ iprop(((held c cc0_scratch2 (MF c I) ∗ held c cc0_scratch5 (QF c I)) -∗ Kt ⟨(v980 c I), (v997 c I), (v1003 c I)⟩) -∗ wp frame (wpE (defs₀ (F := F)) 𝒱₀ (c : Thread nD τ) none) Set.univ (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v47 c I) (v469 c I) (v492 c I) (v514 c I) (v962 c I) (c256_i32_460 c I)) Kt) := by
  rw [k0_part26_eq_skeleton]; unfold k0_part26_skel
  iintro ⟨H6, H9⟩ Hk
  sl_exec
  sl_step
  show Entails' _ (Kt ⟨(v980 c I), (v997 c I), (v1003 c I)⟩)
  iapply Hk
  isplitl [H6]; · iexact H6
  iexact H9

set_option maxHeartbeats 800000 in
/-- Part 27 of the body on device `c`. -/
theorem body_part27 (c : Dev nD) (I : Inp F) (MSG : Dev nD → Fin 7 → Vec F S1x64x1024 .bf16) (K : Dev nD × CK → ℕ) (hM : ∀ k, MSG c k = msg c I k) (Kt : _ → sProp 𝕄) :
    iprop(records MSG K ∗ held c cc0_scratch5 (QF c I) ∗ (∃ f, sndPts (F := F) c 6 f) ∗ owesE (F := F) c (owedSnd c 1) ∗ (∃ f, rcvPts (F := F) (dest c 6) 6 f) ∗ dutyTok ER (sndCell c 6) 0 0 ∗ dutyTok ER (rcvCell (dest c 6) 6) 0 0)
      ⊢ iprop(((held c cc0_scratch5 (QF c I) ∗ owesE (F := F) c (owedSnd c 0) ∗ cred (tallyAt (sndCell c 6) () N)) -∗ Kt ⟨(v1034 c I), (v1035 c I)⟩) -∗ wp frame (wpE (defs₀ (F := F)) 𝒱₀ (c : Thread nD τ) none) Set.univ (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v2 c I) (v492 c I) (v536 c I) (v558 c I) (v962 c I) (v980 c I) (v997 c I) (v1003 c I)) Kt) := by
  rw [k0_part27_eq_skeleton]; unfold k0_part27_skel
  iintro ⟨#HR, H9, ⟨%fs6, Hs6⟩, HO, ⟨%fr6, Hr6⟩, Hts6, Htr6⟩ Hk
  have hacc6 : ((Memref.whole cc0_scratch6 : Memref sig .tc .vmem S7x64x1024 .bf16).access (Rect.unit (s := S7x64x1024) ![6, 0, 0] S1x64x1024.size inb_S7x64x1024_S1x64x1024_6_0_0)).set ⊆ (sndM 6).view.set := snd_acc 6
  unfold sndPts
  sl_exec
  iapply (step_send MSG K c 6 _ (snd_dev c).2.2.2.2.2.2 1 0 rfl rfl _ _ rfl rfl _ _ rfl rfl ((Memref.whole cc0_scratch6 : Memref sig .tc .vmem S7x64x1024 .bf16).view.writes (Elt F) fs6 [⟨slotR 6, (k0_pay123 (v536 c I) (v558 c I) (v980 c I) (v997 c I) (v1003 c I) (v1008 c I))⟩]) ((stored 6 _ _).trans (show (k0_pay123 (v536 c I) (v558 c I) (v980 c I) (v997 c I) (v1003 c I) (v1008 c I)) = MSG c 6 from (hM 6).symm)) fr6) $$ [Hs6 Hr6 HO Hts6 Htr6]
  · isplitr; · iexact HR
    isplitl [Hs6]; · iclear HR; istop; exact Entails.rfl
    isplitl [Hr6]; · iexact Hr6
    isplitl [HO]; · iexact HO
    isplitl [Hts6]; · iexact Hts6
    iexact Htr6
  iintro ⟨Hc6, HO⟩
  try rw [prog_ret_bind]
  try sl_exec
  sl_step
  show Entails' _ (Kt ⟨(v1034 c I), (v1035 c I)⟩)
  iapply Hk
  isplitl [H9]; · iexact H9
  isplitl [HO]; · iexact HO
  iexact Hc6

set_option maxHeartbeats 800000 in
/-- Part 28 of the body on device `c`. -/
theorem body_part28 (c : Dev nD) (I : Inp F) (Kt : _ → sProp 𝕄) :
    iprop(held c cc0_scratch5 (QF c I) ∗ held c cc0_scratch3 (AF c I))
      ⊢ iprop(((held c cc0_scratch5 (QF c I) ∗ held c cc0_scratch3 (AF c I)) -∗ Kt ⟨(v1052 c I), (v1055 c I), (v1056 c I), (v1059 c I), (v1077 c I)⟩) -∗ wp frame (wpE (defs₀ (F := F)) 𝒱₀ (c : Thread nD τ) none) Set.univ (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c (v2 c I) (v47 c I) (v469 c I) (v514 c I) (v536 c I) (v558 c I) (v1034 c I) (v1035 c I)) Kt) := by
  rw [k0_part28_eq_skeleton]; unfold k0_part28_skel
  iintro ⟨H9, H7⟩ Hk
  sl_exec
  sl_step
  show Entails' _ (Kt ⟨(v1052 c I), (v1055 c I), (v1056 c I), (v1059 c I), (v1077 c I)⟩)
  iapply Hk
  isplitl [H9]; · iexact H9
  iexact H7

set_option maxHeartbeats 800000 in
/-- Part 29 of the body on device `c`. -/
theorem body_part29 (c : Dev nD) (I : Inp F) (MSG : Dev nD → Fin 7 → Vec F S1x64x1024 .bf16) (K : Dev nD × CK → ℕ) (G : Fin 7 → Vec F S1x64x1024 .bf16) (hG : ∀ k, MSG (orig c k) k = G k) (Kt : _ → sProp 𝕄) :
    iprop(records MSG K ∗ owesE (F := F) c 0 ∗ cred (tallyAt (rcvCell c 0) () N) ∗ atPos ER (rcvCell c 0) 0 ∅ 0)
      ⊢ iprop(((owesE (F := F) c 0 ∗ semVal (rcvCell c 0) 0 ∗ (∃ f, rcvPts (F := F) c 0 f)) -∗ Kt ⟨(v1089 c I G), (v1110 c I), (v1111 c I)⟩) -∗ wp frame (wpE (defs₀ (F := F)) 𝒱₀ (c : Thread nD τ) none) Set.univ (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v2 c I) (v47 c I) (v469 c I) (v1052 c I) (v1055 c I) (v1056 c I) (v1059 c I) (v1077 c I)) Kt) := by
  rw [k0_part29_eq_skeleton]; unfold k0_part29_skel
  iintro ⟨#HR, HO, Hc0, Ha0⟩ Hk
  iapply (step_recvWait MSG K c 0 _ rfl rfl) $$ [Hc0 HO Ha0]
  · isplitr; · iexact HR
    isplitl [Hc0]; · iexact Hc0
    isplitl [HO]; · iexact HO
    iexact Ha0
  iintro ⟨HO, Hz0, ⟨%fr0, %hr0, Hr0⟩⟩
  have hacc0 : ((Memref.whole cc0_scratch7 : Memref sig .tc .vmem S7x64x1024 .bf16).access (Rect.unit (s := S7x64x1024) ![0, 0, 0] S1x64x1024.size inb_S7x64x1024_S1x64x1024_0_0_0)).set ⊆ (rcvM 0).view.set := rcv_acc 0
  have hl0 : (Memref.whole cc0_scratch7 : Memref sig .tc .vmem S7x64x1024 .bf16).view.readAt (Elt F) (Rect.unit (s := S7x64x1024) ![0, 0, 0] S1x64x1024.size inb_S7x64x1024_S1x64x1024_0_0_0).toLoadRect fr0 = G 0 := (show rcvAt 0 fr0 = G 0 from hr0.trans (hG 0))
  try rw [prog_ret_bind]
  unfold rcvPts
  sl_exec
  sl_step
  show Entails' _ (Kt ⟨(v1089 c I G), (v1110 c I), (v1111 c I)⟩)
  iapply Hk
  isplitl [HO]; · iexact HO
  isplitl [Hz0]; · iexact Hz0
  iexists _; iexact Hr0

set_option maxHeartbeats 800000 in
/-- Part 30 of the body on device `c`. -/
theorem body_part30 (c : Dev nD) (I : Inp F) (MSG : Dev nD → Fin 7 → Vec F S1x64x1024 .bf16) (K : Dev nD × CK → ℕ) (G : Fin 7 → Vec F S1x64x1024 .bf16) (hG : ∀ k, MSG (orig c k) k = G k) (Kt : _ → sProp 𝕄) :
    iprop(records MSG K ∗ owesE (F := F) c 0 ∗ cred (tallyAt (rcvCell c 1) () N) ∗ atPos ER (rcvCell c 1) 0 ∅ 0)
      ⊢ iprop(((owesE (F := F) c 0 ∗ semVal (rcvCell c 1) 0 ∗ (∃ f, rcvPts (F := F) c 1 f)) -∗ Kt ⟨(v1122 c I G), (v1143 c I)⟩) -∗ wp frame (wpE (defs₀ (F := F)) 𝒱₀ (c : Thread nD τ) none) Set.univ (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v2 c I) (v47 c I) (v469 c I) (v1055 c I) (v1056 c I) (v1089 c I G) (v1110 c I) (v1111 c I)) Kt) := by
  rw [k0_part30_eq_skeleton]; unfold k0_part30_skel
  iintro ⟨#HR, HO, Hc1, Ha1⟩ Hk
  iapply (step_recvWait MSG K c 1 _ rfl rfl) $$ [Hc1 HO Ha1]
  · isplitr; · iexact HR
    isplitl [Hc1]; · iexact Hc1
    isplitl [HO]; · iexact HO
    iexact Ha1
  iintro ⟨HO, Hz1, ⟨%fr1, %hr1, Hr1⟩⟩
  have hacc1 : ((Memref.whole cc0_scratch7 : Memref sig .tc .vmem S7x64x1024 .bf16).access (Rect.unit (s := S7x64x1024) ![1, 0, 0] S1x64x1024.size inb_S7x64x1024_S1x64x1024_1_0_0)).set ⊆ (rcvM 1).view.set := rcv_acc 1
  have hl1 : (Memref.whole cc0_scratch7 : Memref sig .tc .vmem S7x64x1024 .bf16).view.readAt (Elt F) (Rect.unit (s := S7x64x1024) ![1, 0, 0] S1x64x1024.size inb_S7x64x1024_S1x64x1024_1_0_0).toLoadRect fr1 = G 1 := (show rcvAt 1 fr1 = G 1 from hr1.trans (hG 1))
  try rw [prog_ret_bind]
  unfold rcvPts
  sl_exec
  sl_step
  show Entails' _ (Kt ⟨(v1122 c I G), (v1143 c I)⟩)
  iapply Hk
  isplitl [HO]; · iexact HO
  isplitl [Hz1]; · iexact Hz1
  iexists _; iexact Hr1

set_option maxHeartbeats 800000 in
/-- Part 31 of the body on device `c`. -/
theorem body_part31 (c : Dev nD) (I : Inp F) (MSG : Dev nD → Fin 7 → Vec F S1x64x1024 .bf16) (K : Dev nD × CK → ℕ) (G : Fin 7 → Vec F S1x64x1024 .bf16) (hG : ∀ k, MSG (orig c k) k = G k) (Kt : _ → sProp 𝕄) :
    iprop(records MSG K ∗ owesE (F := F) c 0 ∗ cred (tallyAt (rcvCell c 2) () N) ∗ atPos ER (rcvCell c 2) 0 ∅ 0)
      ⊢ iprop(((owesE (F := F) c 0 ∗ semVal (rcvCell c 2) 0 ∗ (∃ f, rcvPts (F := F) c 2 f)) -∗ Kt ⟨(v1155 c I G), (v1176 c I)⟩) -∗ wp frame (wpE (defs₀ (F := F)) 𝒱₀ (c : Thread nD τ) none) Set.univ (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v2 c I) (v47 c I) (v469 c I) (v1055 c I) (v1056 c I) (v1122 c I G) (v1143 c I)) Kt) := by
  rw [k0_part31_eq_skeleton]; unfold k0_part31_skel
  iintro ⟨#HR, HO, Hc2, Ha2⟩ Hk
  iapply (step_recvWait MSG K c 2 _ rfl rfl) $$ [Hc2 HO Ha2]
  · isplitr; · iexact HR
    isplitl [Hc2]; · iexact Hc2
    isplitl [HO]; · iexact HO
    iexact Ha2
  iintro ⟨HO, Hz2, ⟨%fr2, %hr2, Hr2⟩⟩
  have hacc2 : ((Memref.whole cc0_scratch7 : Memref sig .tc .vmem S7x64x1024 .bf16).access (Rect.unit (s := S7x64x1024) ![2, 0, 0] S1x64x1024.size inb_S7x64x1024_S1x64x1024_2_0_0)).set ⊆ (rcvM 2).view.set := rcv_acc 2
  have hl2 : (Memref.whole cc0_scratch7 : Memref sig .tc .vmem S7x64x1024 .bf16).view.readAt (Elt F) (Rect.unit (s := S7x64x1024) ![2, 0, 0] S1x64x1024.size inb_S7x64x1024_S1x64x1024_2_0_0).toLoadRect fr2 = G 2 := (show rcvAt 2 fr2 = G 2 from hr2.trans (hG 2))
  try rw [prog_ret_bind]
  unfold rcvPts
  sl_exec
  sl_step
  show Entails' _ (Kt ⟨(v1155 c I G), (v1176 c I)⟩)
  iapply Hk
  isplitl [HO]; · iexact HO
  isplitl [Hz2]; · iexact Hz2
  iexists _; iexact Hr2

set_option maxHeartbeats 800000 in
/-- Part 32 of the body on device `c`. -/
theorem body_part32 (c : Dev nD) (I : Inp F) (MSG : Dev nD → Fin 7 → Vec F S1x64x1024 .bf16) (K : Dev nD × CK → ℕ) (G : Fin 7 → Vec F S1x64x1024 .bf16) (hG : ∀ k, MSG (orig c k) k = G k) (Kt : _ → sProp 𝕄) :
    iprop(records MSG K ∗ owesE (F := F) c 0 ∗ cred (tallyAt (rcvCell c 3) () N) ∗ atPos ER (rcvCell c 3) 0 ∅ 0 ∗ cred (tallyAt (rcvCell c 4) () N) ∗ atPos ER (rcvCell c 4) 0 ∅ 0)
      ⊢ iprop(((owesE (F := F) c 0 ∗ semVal (rcvCell c 3) 0 ∗ (∃ f, rcvPts (F := F) c 3 f) ∗ semVal (rcvCell c 4) 0 ∗ (∃ f, rcvPts (F := F) c 4 f)) -∗ Kt ⟨(v1188 c I G), (v1209 c I), (v1219 c I G)⟩) -∗ wp frame (wpE (defs₀ (F := F)) 𝒱₀ (c : Thread nD τ) none) Set.univ (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v2 c I) (v47 c I) (v469 c I) (v1055 c I) (v1056 c I) (v1155 c I G) (v1176 c I)) Kt) := by
  rw [k0_part32_eq_skeleton]; unfold k0_part32_skel
  iintro ⟨#HR, HO, Hc3, Ha3, Hc4, Ha4⟩ Hk
  iapply (step_recvWait MSG K c 3 _ rfl rfl) $$ [Hc3 HO Ha3]
  · isplitr; · iexact HR
    isplitl [Hc3]; · iexact Hc3
    isplitl [HO]; · iexact HO
    iexact Ha3
  iintro ⟨HO, Hz3, ⟨%fr3, %hr3, Hr3⟩⟩
  have hacc3 : ((Memref.whole cc0_scratch7 : Memref sig .tc .vmem S7x64x1024 .bf16).access (Rect.unit (s := S7x64x1024) ![3, 0, 0] S1x64x1024.size inb_S7x64x1024_S1x64x1024_3_0_0)).set ⊆ (rcvM 3).view.set := rcv_acc 3
  have hl3 : (Memref.whole cc0_scratch7 : Memref sig .tc .vmem S7x64x1024 .bf16).view.readAt (Elt F) (Rect.unit (s := S7x64x1024) ![3, 0, 0] S1x64x1024.size inb_S7x64x1024_S1x64x1024_3_0_0).toLoadRect fr3 = G 3 := (show rcvAt 3 fr3 = G 3 from hr3.trans (hG 3))
  try rw [prog_ret_bind]
  unfold rcvPts
  sl_exec
  iapply (step_recvWait MSG K c 4 _ rfl rfl) $$ [Hc4 HO Ha4]
  · isplitr; · iexact HR
    isplitl [Hc4]; · iexact Hc4
    isplitl [HO]; · iexact HO
    iexact Ha4
  iintro ⟨HO, Hz4, ⟨%fr4, %hr4, Hr4⟩⟩
  have hacc4 : ((Memref.whole cc0_scratch7 : Memref sig .tc .vmem S7x64x1024 .bf16).access (Rect.unit (s := S7x64x1024) ![4, 0, 0] S1x64x1024.size inb_S7x64x1024_S1x64x1024_4_0_0)).set ⊆ (rcvM 4).view.set := rcv_acc 4
  have hl4 : (Memref.whole cc0_scratch7 : Memref sig .tc .vmem S7x64x1024 .bf16).view.readAt (Elt F) (Rect.unit (s := S7x64x1024) ![4, 0, 0] S1x64x1024.size inb_S7x64x1024_S1x64x1024_4_0_0).toLoadRect fr4 = G 4 := (show rcvAt 4 fr4 = G 4 from hr4.trans (hG 4))
  try rw [prog_ret_bind]
  unfold rcvPts
  sl_exec
  sl_step
  show Entails' _ (Kt ⟨(v1188 c I G), (v1209 c I), (v1219 c I G)⟩)
  iapply Hk
  isplitl [HO]; · iexact HO
  isplitl [Hz3]; · iexact Hz3
  isplitl [Hr3]; · iexists _; iexact Hr3
  isplitl [Hz4]; · iexact Hz4
  iexists _; iexact Hr4

set_option maxHeartbeats 800000 in
/-- Part 33 of the body on device `c`. -/
theorem body_part33 (c : Dev nD) (I : Inp F) (MSG : Dev nD → Fin 7 → Vec F S1x64x1024 .bf16) (K : Dev nD × CK → ℕ) (G : Fin 7 → Vec F S1x64x1024 .bf16) (hG : ∀ k, MSG (orig c k) k = G k) (Kt : _ → sProp 𝕄) :
    iprop(records MSG K ∗ owesE (F := F) c 0 ∗ cred (tallyAt (rcvCell c 5) () N) ∗ atPos ER (rcvCell c 5) 0 ∅ 0)
      ⊢ iprop(((owesE (F := F) c 0 ∗ semVal (rcvCell c 5) 0 ∗ (∃ f, rcvPts (F := F) c 5 f)) -∗ Kt ⟨(v1254 c I G), (v1255 c I), (c7_i32_638 c I)⟩) -∗ wp frame (wpE (defs₀ (F := F)) 𝒱₀ (c : Thread nD τ) none) Set.univ (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v2 c I) (v47 c I) (v469 c I) (v1055 c I) (v1056 c I) (v1188 c I G) (v1209 c I) (v1219 c I G)) Kt) := by
  rw [k0_part33_eq_skeleton]; unfold k0_part33_skel
  iintro ⟨#HR, HO, Hc5, Ha5⟩ Hk
  iapply (step_recvWait MSG K c 5 _ rfl rfl) $$ [Hc5 HO Ha5]
  · isplitr; · iexact HR
    isplitl [Hc5]; · iexact Hc5
    isplitl [HO]; · iexact HO
    iexact Ha5
  iintro ⟨HO, Hz5, ⟨%fr5, %hr5, Hr5⟩⟩
  have hacc5 : ((Memref.whole cc0_scratch7 : Memref sig .tc .vmem S7x64x1024 .bf16).access (Rect.unit (s := S7x64x1024) ![5, 0, 0] S1x64x1024.size inb_S7x64x1024_S1x64x1024_5_0_0)).set ⊆ (rcvM 5).view.set := rcv_acc 5
  have hl5 : (Memref.whole cc0_scratch7 : Memref sig .tc .vmem S7x64x1024 .bf16).view.readAt (Elt F) (Rect.unit (s := S7x64x1024) ![5, 0, 0] S1x64x1024.size inb_S7x64x1024_S1x64x1024_5_0_0).toLoadRect fr5 = G 5 := (show rcvAt 5 fr5 = G 5 from hr5.trans (hG 5))
  try rw [prog_ret_bind]
  unfold rcvPts
  sl_exec
  sl_step
  show Entails' _ (Kt ⟨(v1254 c I G), (v1255 c I), (c7_i32_638 c I)⟩)
  iapply Hk
  isplitl [HO]; · iexact HO
  isplitl [Hz5]; · iexact Hz5
  iexists _; iexact Hr5

set_option maxHeartbeats 800000 in
/-- Part 34 of the body on device `c`. -/
theorem body_part34 (c : Dev nD) (I : Inp F) (MSG : Dev nD → Fin 7 → Vec F S1x64x1024 .bf16) (K : Dev nD × CK → ℕ) (G : Fin 7 → Vec F S1x64x1024 .bf16) (hG : ∀ k, MSG (orig c k) k = G k) (Kt : _ → sProp 𝕄) :
    iprop(records MSG K ∗ (∃ f, held (F := F) c cc0_stg3_0 f) ∗ owesE (F := F) c 0 ∗ cred (tallyAt (rcvCell c 6) () N) ∗ atPos ER (rcvCell c 6) 0 ∅ 0)
      ⊢ iprop(((held c cc0_stg3_0 (outF c I G) ∗ owesE (F := F) c 0 ∗ semVal (rcvCell c 6) 0 ∗ (∃ f, rcvPts (F := F) c 6 f)) -∗ Kt ⟨⟩) -∗ wp frame (wpE (defs₀ (F := F)) 𝒱₀ (c : Thread nD τ) none) Set.univ (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 (v47 c I) (v469 c I) (v1055 c I) (v1056 c I) (v1254 c I G) (v1255 c I) (c7_i32_638 c I)) Kt) := by
  rw [k0_part34_eq_skeleton]; unfold k0_part34_skel
  iintro ⟨#HR, ⟨%f3, H3⟩, HO, Hc6, Ha6⟩ Hk
  iapply (step_recvWait MSG K c 6 _ rfl rfl) $$ [Hc6 HO Ha6]
  · isplitr; · iexact HR
    isplitl [Hc6]; · iexact Hc6
    isplitl [HO]; · iexact HO
    iexact Ha6
  iintro ⟨HO, Hz6, ⟨%fr6, %hr6, Hr6⟩⟩
  have hacc6 : ((Memref.whole cc0_scratch7 : Memref sig .tc .vmem S7x64x1024 .bf16).access (Rect.unit (s := S7x64x1024) ![6, 0, 0] S1x64x1024.size inb_S7x64x1024_S1x64x1024_6_0_0)).set ⊆ (rcvM 6).view.set := rcv_acc 6
  have hl6 : (Memref.whole cc0_scratch7 : Memref sig .tc .vmem S7x64x1024 .bf16).view.readAt (Elt F) (Rect.unit (s := S7x64x1024) ![6, 0, 0] S1x64x1024.size inb_S7x64x1024_S1x64x1024_6_0_0).toLoadRect fr6 = G 6 := (show rcvAt 6 fr6 = G 6 from hr6.trans (hG 6))
  try rw [prog_ret_bind]
  unfold rcvPts
  sl_exec
  have e3 : (Memref.whole cc0_stg3_0 : Memref sig .tc .vmem S256x1024 .f32).view.writes (Elt F) f3 [⟨(Rect.unit (s := S256x1024) ![0, 0] S256x1024.size inb_S256x1024_S256x1024_0_0), (k0_pay137 (v47 c I) (v469 c I) (v1055 c I) (v1056 c I) (v1254 c I G) (v1255 c I) (c7_i32_638 c I) (v1284 c I G))⟩] = outF c I G := Memref.write_access_unit_zero_univ (Elt F) cc0_stg3_0 (by funext i; fin_cases i <;> rfl) inb_S256x1024_S256x1024_0_0 f3 (k0_pay137 (v47 c I) (v469 c I) (v1055 c I) (v1056 c I) (v1254 c I G) (v1255 c I) (c7_i32_638 c I) (v1284 c I G))
  sl_step
  iapply Hk
  isplitl [H3]; · iclear HR; istop; exact Entails.of_eq (congrArg (held c cc0_stg3_0) e3) -- iexact H3
  isplitl [HO]; · iexact HO
  isplitl [Hz6]; · iexact Hz6
  iexists _; iexact Hr6

set_option maxHeartbeats 800000 in
/-- Part 35 of the body on device `c`. -/
theorem body_part35 (c : Dev nD) (I : Inp F) (MSG : Dev nD → Fin 7 → Vec F S1x64x1024 .bf16) (K : Dev nD × CK → ℕ) (Kt : _ → sProp 𝕄) :
    iprop(records MSG K ∗ owesE (F := F) c 0 ∗ cred (tallyAt (sndCell c 0) () N) ∗ atPos ER (sndCell c 0) 0 ∅ 0 ∗ cred (tallyAt (sndCell c 1) () N) ∗ atPos ER (sndCell c 1) 0 ∅ 0 ∗ cred (tallyAt (sndCell c 2) () N) ∗ atPos ER (sndCell c 2) 0 ∅ 0 ∗ cred (tallyAt (sndCell c 3) () N) ∗ atPos ER (sndCell c 3) 0 ∅ 0)
      ⊢ iprop(((owesE (F := F) c 0 ∗ semVal (sndCell c 0) 0 ∗ (∃ f, sndPts (F := F) c 0 f) ∗ semVal (sndCell c 1) 0 ∗ (∃ f, sndPts (F := F) c 1 f) ∗ semVal (sndCell c 2) 0 ∗ (∃ f, sndPts (F := F) c 2 f) ∗ semVal (sndCell c 3) 0 ∗ (∃ f, sndPts (F := F) c 3 f)) -∗ Kt ⟨⟩) -∗ wp frame (wpE (defs₀ (F := F)) 𝒱₀ (c : Thread nD τ) none) Set.univ (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 ) Kt) := by
  rw [k0_part35_eq_skeleton]; unfold k0_part35_skel
  iintro ⟨#HR, HO, Hc0, Ha0, Hc1, Ha1, Hc2, Ha2, Hc3, Ha3⟩ Hk
  iapply (step_sendWait MSG K c 0 _ rfl rfl) $$ [Hc0 HO Ha0]
  · isplitr; · iexact HR
    isplitl [Hc0]; · iexact Hc0
    isplitl [HO]; · iexact HO
    iexact Ha0
  iintro ⟨HO, Hz0, Hs0⟩
  try rw [prog_ret_bind]
  iapply (step_sendWait MSG K c 1 _ rfl rfl) $$ [Hc1 HO Ha1]
  · isplitr; · iexact HR
    isplitl [Hc1]; · iexact Hc1
    isplitl [HO]; · iexact HO
    iexact Ha1
  iintro ⟨HO, Hz1, Hs1⟩
  try rw [prog_ret_bind]
  iapply (step_sendWait MSG K c 2 _ rfl rfl) $$ [Hc2 HO Ha2]
  · isplitr; · iexact HR
    isplitl [Hc2]; · iexact Hc2
    isplitl [HO]; · iexact HO
    iexact Ha2
  iintro ⟨HO, Hz2, Hs2⟩
  try rw [prog_ret_bind]
  iapply (step_sendWait MSG K c 3 _ rfl rfl) $$ [Hc3 HO Ha3]
  · isplitr; · iexact HR
    isplitl [Hc3]; · iexact Hc3
    isplitl [HO]; · iexact HO
    iexact Ha3
  iintro ⟨HO, Hz3, Hs3⟩
  try rw [prog_ret_bind]
  sl_step
  iapply Hk
  isplitl [HO]; · iexact HO
  isplitl [Hz0]; · iexact Hz0
  isplitl [Hs0]; · iexact Hs0
  isplitl [Hz1]; · iexact Hz1
  isplitl [Hs1]; · iexact Hs1
  isplitl [Hz2]; · iexact Hz2
  isplitl [Hs2]; · iexact Hs2
  isplitl [Hz3]; · iexact Hz3
  iexact Hs3

end Cert.KernelIdeal.Run
-- ==== Proof.IdealGhost.lean ====
module

public import proofs.«01_k».proof.Proof.IdealProtocol
public import proofs.«01_k».proof.Proof.IdealValues
public import Idealize.ShloMosaic.Lib.VecWindow
public import proofs.«01_k».proof.Proof.IdealParts1
public import proofs.«01_k».proof.Proof.Gen.KernelIdeal.Frame

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

/-- What the run of the body owns beside the buffers: the cells' records and positions, the duties it will pay, the
    credits of its waits. -/
def ghost (MSG : Dev nD → Fin 7 → Vec F S1x64x1024 .bf16) (K : Dev nD × CK → ℕ) (c : Dev nD) : sProp 𝕄 :=
  iprop(records MSG K ∗ levAts L lv
    ∗ bigSep Finset.univ (fun j : Fin 7 => dutyTok ER (barCell (dest c j)) 0 (rev j))
    ∗ bigSep Finset.univ (fun k : Fin 7 => dutyTok ER (sndCell c k) 0 0)
    ∗ bigSep Finset.univ (fun k : Fin 7 => dutyTok ER (rcvCell (dest c k) k) 0 0)
    ∗ cred (tallyAt (barCell c) () 7)
    ∗ bigSep Finset.univ (fun k : Fin 7 => cred (tallyAt (rcvCell c k) () N))
    ∗ atPos ER (barCell c) 0 ∅ 0
    ∗ bigSep Finset.univ (fun k : Fin 7 => atPos ER (sndCell c k) 0 ∅ 0)
    ∗ bigSep Finset.univ (fun k : Fin 7 => atPos ER (rcvCell c k) 0 ∅ 0))

/-- A device's scratch buffers, whatever they hold: six whole, the exchange's two by slots. -/
def scratch (c : Dev nD) : sProp 𝕄 :=
  iprop((∃ f, held (F := F) c cc0_scratch0 f) ∗ (∃ f, held (F := F) c cc0_scratch1 f) ∗ (∃ f, held (F := F) c cc0_scratch2 f)
    ∗ (∃ f, held (F := F) c cc0_scratch3 f) ∗ (∃ f, held (F := F) c cc0_scratch4 f) ∗ (∃ f, held (F := F) c cc0_scratch5 f)
    ∗ bigSep Finset.univ (fun k : Fin 7 => iprop(∃ f, sndPts (F := F) c k f))
    ∗ bigSep Finset.univ (fun k : Fin 7 => iprop(∃ f, rcvPts (F := F) c k f)))

/-- Every cell of the device back at zero. -/
def zeros (c : Dev nD) : sProp 𝕄 :=
  iprop(semVal (barCell c) 0 ∗ bigSep Finset.univ (fun k : Fin 7 => semVal (sndCell c k) 0)
    ∗ bigSep Finset.univ (fun k : Fin 7 => semVal (rcvCell c k) 0))

variable (MSG : Dev nD → Fin 7 → Vec F S1x64x1024 .bf16)

/-! ## The send and receive scratch, whole and by slots -/

/-- Different slots share no element. -/
theorem slot_disjoint (b b' : Fin 7) (h : b ≠ b') : Disjoint (slotR b).set (slotR b').set :=
  Ring.lead_disjoint (s := S7x64x1024) 0 1 (fun k : Fin 7 => ![k.val, 0, 0]) S1x64x1024.size slot_inb
    (fun b => by show b.val = 1 * b.val; omega) rfl b b' h
/-- The seven slots are the whole scratch. -/
theorem slot_cover : Finset.univ.biUnion (fun k : Fin 7 => (slotR k).set) = Finset.univ :=
  Ring.lead_cover (s := S7x64x1024) 0 1 (fun k : Fin 7 => ![k.val, 0, 0]) S1x64x1024.size slot_inb
    (fun b => by show b.val = 1 * b.val; omega) (fun b a ha => by fin_cases a; exact absurd rfl ha; rfl; rfl) rfl
    (fun a ha => by fin_cases a; exact absurd rfl ha; rfl; rfl) rfl

omit [FloatOps F] in
/-- The send scratch held whole is held slot by slot. -/
theorem snd_split (c : Dev nD) : iprop(∃ f : Buf (Elt F) ((c : Thread nD τ).loc cc0_scratch6), ((c : Thread nD τ).loc cc0_scratch6) ↦{fullShare} f)
    ⊢ (bigSep Finset.univ (fun k : Fin 7 => iprop(∃ f, sndPts (F := F) c k f)) : sProp 𝕄) := by
  iintro ⟨%f, H⟩
  ihave H' := (Entails.of_eq (Ring.pointsTo_blocks (ℓ := (c : Thread nD τ).loc cc0_scratch6) (fun k : Fin 7 => (slotR k).set) slot_disjoint slot_cover f)) $$ H
  have hm : (bigSep Finset.univ (fun k : Fin 7 => (((c : Thread nD τ).loc cc0_scratch6) ↦[(slotR k).set]{fullShare} f : sProp 𝕄)) : sProp 𝕄)
      ⊢ bigSep Finset.univ (fun k : Fin 7 => iprop(∃ f, sndPts (F := F) c k f)) := bigSep_mono fun k _ =>
    show iprop(((c : Thread nD τ).loc cc0_scratch6) ↦[(slotR k).set]{fullShare} f) ⊢ iprop(∃ f, sndPts (F := F) c k f) from by
      iintro H; iexists f; unfold sndPts; rw [snd_set]; iexact H
  iapply hm; iexact H'
omit [FloatOps F] in
/-- The receive scratch held whole is held slot by slot. -/
theorem rcv_split (c : Dev nD) : iprop(∃ f : Buf (Elt F) ((c : Thread nD τ).loc cc0_scratch7), ((c : Thread nD τ).loc cc0_scratch7) ↦{fullShare} f)
    ⊢ (bigSep Finset.univ (fun k : Fin 7 => iprop(∃ f, rcvPts (F := F) c k f)) : sProp 𝕄) := by
  iintro ⟨%f, H⟩
  ihave H' := (Entails.of_eq (Ring.pointsTo_blocks (ℓ := (c : Thread nD τ).loc cc0_scratch7) (fun k : Fin 7 => (slotR k).set) slot_disjoint slot_cover f)) $$ H
  have hm : (bigSep Finset.univ (fun k : Fin 7 => (((c : Thread nD τ).loc cc0_scratch7) ↦[(slotR k).set]{fullShare} f : sProp 𝕄)) : sProp 𝕄)
      ⊢ bigSep Finset.univ (fun k : Fin 7 => iprop(∃ f, rcvPts (F := F) c k f)) := bigSep_mono fun k _ =>
    show iprop(((c : Thread nD τ).loc cc0_scratch7) ↦[(slotR k).set]{fullShare} f) ⊢ iprop(∃ f, rcvPts (F := F) c k f) from by
      iintro H; iexists f; unfold rcvPts; rw [rcv_set]; iexact H
  iapply hm; iexact H'
/-- The send scratch held slot by slot is held whole. -/
theorem snd_join (c : Dev nD) : (bigSep Finset.univ (fun k : Fin 7 => iprop(∃ f, sndPts (F := F) c k f)) : sProp 𝕄)
    ⊢ iprop(∃ f : Buf (Elt F) ((c : Thread nD τ).loc cc0_scratch6), ((c : Thread nD τ).loc cc0_scratch6) ↦{fullShare} f) := by
  refine (bigSep_mono (s := Finset.univ) (Ψ := fun k : Fin 7 => (iprop(∃ f : Buf (Elt F) ((c : Thread nD τ).loc cc0_scratch6), ((c : Thread nD τ).loc cc0_scratch6) ↦[(slotR k).set]{fullShare} f) : sProp 𝕄)) fun k _ => ?_).trans
    (Ring.pointsTo_blocks_join_exists (ℓ := (c : Thread nD τ).loc cc0_scratch6) (fun k : Fin 7 => (slotR k).set) slot_disjoint slot_cover (fun _ => Classical.arbitrary _))
  unfold sndPts; rw [snd_set]; exact Entails.refl _
/-- The receive scratch held slot by slot is held whole. -/
theorem rcv_join (c : Dev nD) : (bigSep Finset.univ (fun k : Fin 7 => iprop(∃ f, rcvPts (F := F) c k f)) : sProp 𝕄)
    ⊢ iprop(∃ f : Buf (Elt F) ((c : Thread nD τ).loc cc0_scratch7), ((c : Thread nD τ).loc cc0_scratch7) ↦{fullShare} f) := by
  refine (bigSep_mono (s := Finset.univ) (Ψ := fun k : Fin 7 => (iprop(∃ f : Buf (Elt F) ((c : Thread nD τ).loc cc0_scratch7), ((c : Thread nD τ).loc cc0_scratch7) ↦[(slotR k).set]{fullShare} f) : sProp 𝕄)) fun k _ => ?_).trans
    (Ring.pointsTo_blocks_join_exists (ℓ := (c : Thread nD τ).loc cc0_scratch7) (fun k : Fin 7 => (slotR k).set) slot_disjoint slot_cover (fun _ => Classical.arbitrary _))
  unfold rcvPts; rw [rcv_set]; exact Entails.refl _

/-! ## The cells and tokens at launch -/

/-- The kernel's own semaphores: the seven send and the seven receive ones. -/
abbrev osem : Fin 7 ⊕ Fin 7 → SemLoc sig
  | .inl k => .dma (sndS k)
  | .inr k => .dma (rcvS k)
/-- The kernel's own semaphores are listed once each and are none of the pipeline's. -/
theorem ownSemFacts : Pipeline.OwnSemFacts cfg0.spec osem := by decide

/-- The exchange's cells of one device are different semaphores. -/
theorem csem_injective : Function.Injective (csem : CK → SemLoc sig) := by decide
/-- The exchange's cells of all devices are different. -/
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def exCells : Finset (GSem nD τ sig) := Finset.univ.map ⟨kcell, kcell_injective⟩

/-- The duties of a device's own cells: the barrier's seven, one of each send and each receive cell. -/
abbrev CT : Type := Fin 7 ⊕ (Fin 7 ⊕ Fin 7)
abbrev ctok : CT → SemLoc sig × Fin 7
  | .inl k => (.reg barS, k)
  | .inr (.inl k) => (.dma (sndS k), 0)
  | .inr (.inr k) => (.dma (rcvS k), 0)
/-- The duties of one device's cells are different. -/
theorem ctok_injective : Function.Injective (ctok : CT → SemLoc sig × Fin 7) := by decide
abbrev tokOf (cj : Dev nD × CT) : GSem nD τ sig × ℕ × Fin 7 := (((cj.1 : Thread nD τ), (ctok cj.2).1), 0, (ctok cj.2).2)
/-- The duties of all devices' cells are different. -/
theorem tokOf_injective : Function.Injective (tokOf : Dev nD × CT → GSem nD τ sig × ℕ × Fin 7) := by
  rintro ⟨c, j⟩ ⟨c', j'⟩ h
  have h1 : c = c' := congrArg (fun x : GSem nD τ sig × ℕ × Fin 7 => x.1.1.1) h
  have h2 : j = j' := ctok_injective (congrArg (fun x : GSem nD τ sig × ℕ × Fin 7 => (x.1.2, x.2.2)) h)
  rw [h1, h2]
def exToks : Finset (GSem nD τ sig × ℕ × Fin 7) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(bigSep Finset.univ (fun k : Fin 7 => dutyTok ER (barCell c) 0 k)
    ∗ bigSep Finset.univ (fun k : Fin 7 => dutyTok ER (sndCell c k) 0 0)
    ∗ bigSep Finset.univ (fun k : Fin 7 => dutyTok ER (rcvCell c k) 0 0))
/-- The tokens of the duties device `c` pays. -/
def payToks (c : Dev nD) : sProp 𝕄 :=
  iprop(bigSep Finset.univ (fun j : Fin 7 => dutyTok ER (barCell (dest c j)) 0 (rev j))
    ∗ bigSep Finset.univ (fun k : Fin 7 => dutyTok ER (sndCell c k) 0 0)
    ∗ bigSep Finset.univ (fun k : Fin 7 => dutyTok ER (rcvCell (dest c k) k) 0 0))
/-- Device `c`'s positions at round 0 of its own cells. -/
def atp (c : Dev nD) : sProp 𝕄 :=
  iprop(atPos ER (barCell c) 0 ∅ 0 ∗ bigSep Finset.univ (fun k : Fin 7 => atPos ER (sndCell c k) 0 ∅ 0)
    ∗ bigSep Finset.univ (fun k : Fin 7 => atPos ER (rcvCell c k) 0 ∅ 0))
/-- What the launch element deals device `c`. -/
def G (c : Dev nD) : sProp 𝕄 :=
  iprop((bigSep Finset.univ fun k : CK => roundState ER (rd MSG) (kcell (c, k)) 0)
    ∗ (bigSep Finset.univ fun k : CK => iprop(atPos ER (kcell (c, k)) 0 ∅ 0 ∗ reached ER (kcell (c, k)) 0)) ∗ toks c)
/-- What the global step makes of it. -/
def G' (c : Dev nD) : sProp 𝕄 := iprop(∃ K, records MSG K ∗ atp c ∗ payToks c)

omit [FloatOps F] in
/-- Something about each of a device's cells: about the barrier, the send cells and the receive cells. -/
theorem bigSep_CK (Φ : CK → sProp 𝕄) : bigSep Finset.univ Φ
    = iprop(Φ (.inl ()) ∗ bigSep Finset.univ (fun k : Fin 7 => Φ (.inr (.inl k))) ∗ bigSep Finset.univ (fun k : Fin 7 => Φ (.inr (.inr k)))) := by
  rw [bigSep_univ_sum, bigSep_univ_sum, bigSep_univ_eq_bigSepL [()] (by decide) (by decide)]; rfl
omit [FloatOps F] in
/-- Something about each duty of a device's cells: about those of the barrier, of the send and of the receive cells. -/
theorem bigSep_CT (Φ : CT → sProp 𝕄) : bigSep Finset.univ Φ
    = iprop(bigSep Finset.univ (fun k : Fin 7 => Φ (.inl k)) ∗ bigSep Finset.univ (fun k : Fin 7 => Φ (.inr (.inl k))) ∗ bigSep Finset.univ (fun k : Fin 7 => Φ (.inr (.inr k)))) := by
  rw [bigSep_univ_sum, bigSep_univ_sum]; rfl

omit [FloatOps F] in
/-- A position at each cell is the device's positions. -/
theorem atp_eq (c : Dev nD) : bigSep Finset.univ (fun k : CK => (atPos ER (kcell (c, k)) 0 ∅ 0 : sProp 𝕄)) = atp c := by
  unfold atp; rw [bigSep_CK]

omit [FloatOps F] in
/-- The launch element funds every device's cells and duties. -/
theorem fund_ex : BI.own (ER (initOf exCells exToks)) ⊢ (|==> bigSep Finset.univ (G MSG) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_CT]; rfl
  iintro HX
  imod (Rounds.fund ER (rd MSG) exCells exToks) $$ HX with ⟨Hst, Hr, Hat, Htok⟩
  imodintro
  ihave Hst' := (Entails.of_eq (hX fun g => roundState ER (rd MSG) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero are the send and the receive cells at zero. -/
theorem ownSems0_eq (c : Dev nD) : (Pipeline.ownSems0 (Ix := Unit) (Name := ℕ) (U := UU) (Lvl := ℕ) (Val := Elt F) (τ := τ) osem c : sProp 𝕄)
    = iprop(bigSep Finset.univ (fun k : Fin 7 => semVal (sndCell c k) 0) ∗ bigSep Finset.univ (fun k : Fin 7 => semVal (rcvCell c k) 0)) := by
  unfold Pipeline.ownSems0; rw [bigSep_univ_sum]; rfl
omit [FloatOps F] in
/-- The one semaphore outside the kernel's scope is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- Both together are all of a device's cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

omit [FloatOps F] in
/-- A device's cells at zero, with their round state, become invariants. -/
theorem core_alloc (c : Dev nD) :
    iprop(Pipeline.ownSems0 (Ix := Unit) (Name := ℕ) (U := UU) (Lvl := ℕ) (Val := Elt F) (τ := τ) osem c ∗ unscopedSems0 c ∗ G MSG c)
      ⊢ |={Set.univ}=> iprop((bigSep Finset.univ fun k : CK => iprop(∃ κ : ℕ, cellInv ER (rd MSG) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd MSG) (kcell (c, k)) 0)
      ⊢ (|={Set.univ}=> bigSep Finset.univ fun k : CK => iprop(∃ κ : ℕ, cellInv ER (rd MSG) κ (kcell (c, k))) : sProp 𝕄) from by
        rw [← bigSep_sep']
        exact (bigSep_mono fun k _ => (Rounds.body_intro ER (rd MSG) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A barrier's duty `k` is paid by the device `k + 1` further on; a receive cell's by the sender of its slot. -/
def barEquiv : Dev nD × Fin 7 ≃ Dev nD × Fin 7 where
  toFun cj := (dest cj.1 cj.2, rev cj.2)
  invFun cj := (dest cj.1 cj.2, rev cj.2)
  left_inv cj := Prod.ext (dest_dest_rev cj.1 cj.2) (rev_rev cj.2)
  right_inv cj := Prod.ext (dest_dest_rev cj.1 cj.2) (rev_rev cj.2)
def rcvEquiv : Dev nD × Fin 7 ≃ Dev nD × Fin 7 where
  toFun ck := (dest ck.1 ck.2, ck.2)
  invFun ck := (orig ck.1 ck.2, ck.2)
  left_inv ck := Prod.ext (orig_dest ck.1 ck.2) rfl
  right_inv ck := Prod.ext (dest_orig ck.1 ck.2) rfl

omit [FloatOps F] in
/-- The duty tokens, dealt by cell, are the same as dealt by payer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep']
  rw [← bigSep_univ_prod (fun ck : Dev nD × Fin 7 => (dutyTok ER (barCell ck.1) 0 ck.2 : sProp 𝕄)),
    ← bigSep_univ_prod (fun ck : Dev nD × Fin 7 => (dutyTok ER (rcvCell ck.1 ck.2) 0 0 : sProp 𝕄)),
    bigSep_univ_equiv barEquiv (fun ck : Dev nD × Fin 7 => (dutyTok ER (barCell ck.1) 0 ck.2 : sProp 𝕄)),
    bigSep_univ_equiv rcvEquiv (fun ck : Dev nD × Fin 7 => (dutyTok ER (rcvCell ck.1 ck.2) 0 0 : sProp 𝕄)),
    bigSep_univ_prod, bigSep_univ_prod]
  exact Entails.refl _

omit [FloatOps F] in
/-- What is persistent may be used at every index. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- What all devices got from the launch, brought to each device's share: all records, its positions, the duties it pays. -/
theorem regroup :
    (bigSep Finset.univ fun c : Dev nD => iprop((bigSep Finset.univ fun k : CK => iprop(∃ κ : ℕ, cellInv ER (rd MSG) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' MSG) := by
  rw [bigSep_sep', bigSep_sep', ← bigSep_univ_prod (fun ck : Dev nD × CK => iprop(∃ κ : ℕ, cellInv ER (rd MSG) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd MSG) κ (kcell ck) : sProp 𝕄))) $$ HI
  icases HK with ⟨%K, #HI⟩
  ihave Htk := (toks_around (F := F)) $$ Htok
  iapply (bigSep_with_persistent (R := records MSG K) (Φ := fun c => iprop(atp c ∗ payToks c)) fun c _ => show iprop(records MSG K ∗ atp c ∗ payToks c) ⊢ G' MSG c from by
    unfold G'; iintro H; iexists K; iexact H)
  isplitr
  · unfold records; isplitl; · iexact HI
    iexact HR
  · rw [bigSep_sep']
    isplitl [Hat]
    · have hm : (bigSep Finset.univ (fun c : Dev nD => bigSep Finset.univ fun k : CK => (atPos ER (kcell (c, k)) 0 ∅ 0 : sProp 𝕄)) : sProp 𝕄)
          ⊢ bigSep Finset.univ (fun c : Dev nD => atp c) := bigSep_mono fun c _ => Entails.of_eq (atp_eq c)
      iapply hm; iexact Hat
    iexact Htk

omit [FloatOps F] in
/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G MSG c) : sProp 𝕄)
    ⊢ |={Set.univ}=> bigSep Finset.univ (G' MSG) :=
  ((bigSep_mono fun c _ => core_alloc MSG c).trans (bigSep_fupd _ _)).trans (BI.fupd_mono (regroup MSG))

/-! ## The launch credit -/

/-- Barrier cells are equal only of the same device. -/
theorem bar_eq_iff {a b : Dev nD} : barCell a = barCell b ↔ a = b :=
  ⟨fun h => congrArg (fun g : GSem nD τ sig => g.1.1) h, fun h => h ▸ rfl⟩
/-- Receive cells are equal only of the same device and slot. -/
theorem rcv_eq_iff {a b : Dev nD} {j k : Fin 7} : rcvCell a j = rcvCell b k ↔ a = b ∧ j = k :=
  ⟨fun h => by
    have h' := kcell_injective (a₁ := (a, .inr (.inr j))) (a₂ := (b, .inr (.inr k))) h
    exact ⟨congrArg Prod.fst h', by injection congrArg Prod.snd h' with h1; injection h1⟩, fun h => by rw [h.1, h.2]⟩
/-- A receive cell is no barrier cell. -/
theorem rcv_ne_bar {a b : Dev nD} {k : Fin 7} : rcvCell a k ≠ barCell b := fun h => by
  have := kcell_injective (a₁ := (a, .inr (.inr k))) (a₂ := (b, .inl ())) h
  cases congrArg Prod.snd this

/-- A unit at one barrier, read at another. -/
theorem tb (a c : Dev nD) : (tallyAt (barCell a) () 1 : CellTallies nD τ sig Unit) (barCell c) () = if c = a then 1 else 0 := by
  rw [tallyAt_apply]; exact if_congr (by rw [bar_eq_iff]; exact and_iff_left rfl) rfl rfl
/-- A message's credit at one receive cell, read at another. -/
theorem tr (a c : Dev nD) (j k : Fin 7) : (tallyAt (rcvCell a j) () N : CellTallies nD τ sig Unit) (rcvCell c k) () = if c = a ∧ k = j then N else 0 := by
  rw [tallyAt_apply]; exact if_congr (by rw [rcv_eq_iff]; exact and_iff_left rfl) rfl rfl
/-- A unit at a barrier, read at a receive cell, is nothing. -/
theorem tbr (a c : Dev nD) (k : Fin 7) : (tallyAt (barCell a) () 1 : CellTallies nD τ sig Unit) (rcvCell c k) () = 0 := by
  rw [tallyAt_apply, if_neg fun h => rcv_ne_bar h.1]
/-- The messages owe nothing to a barrier. -/
theorem owedSnd_bar (d c : Dev nD) (n : ℕ) : owedSnd d n (barCell c) () = 0 := by
  by_contra h
  obtain ⟨a, k, e⟩ := owedSnd_pos (Nat.pos_of_ne_zero h)
  exact rcv_ne_bar e.symm

/-- One signal taken off what is owed, read at a cell. -/
theorem sig_at (d : Dev nD) (k : Fin 7) (a b : ℕ) (ha : a = 7 - k.val) (hb : b = 6 - k.val) (g : GSem nD τ sig) :
    owedSig d a g () = owedSig d b g () + (tallyAt (barCell (dest d k)) () 1 : CellTallies nD τ sig Unit) g () := by
  subst ha hb; rw [owedSig_step, Pi.add_apply, Finsupp.add_apply]
/-- One message taken off what is owed, read at a cell. -/
theorem snd_at (d : Dev nD) (k : Fin 7) (a b : ℕ) (ha : a = 7 - k.val) (hb : b = 6 - k.val) (g : GSem nD τ sig) :
    owedSnd d a g () = owedSnd d b g () + (tallyAt (rcvCell (dest d k) k) () N : CellTallies nD τ sig Unit) g () := by
  subst ha hb; rw [owedSnd_step, Pi.add_apply, Finsupp.add_apply]

/-- What device `d` owes at launch to device `c`'s barrier: a unit for each slot whose sender it is. -/
theorem owed_bar (d c : Dev nD) : O₀ d (barCell c) () = ∑ k : Fin 7, if d = orig c k then 1 else 0 := by
  have e (k : Fin 7) : (if c = dest d k then 1 else 0) = if d = orig c k then 1 else 0 :=
    if_congr ⟨fun h => by rw [h, orig_dest], fun h => by rw [h, dest_orig]⟩ rfl rfl
  unfold O₀
  rw [sig_at d 0 7 6 rfl rfl, sig_at d 1 6 5 rfl rfl, sig_at d 2 5 4 rfl rfl, sig_at d 3 4 3 rfl rfl, sig_at d 4 3 2 rfl rfl, sig_at d 5 2 1 rfl rfl,
    sig_at d 6 1 0 rfl rfl, show owedSig d 0 (barCell c) () = 0 from owedSnd_bar d c 7, tb, tb, tb, tb, tb, tb, tb, e, e, e, e, e, e, e, Fin.sum_univ_seven]
  omega
/-- What device `d` owes at launch to a receive cell: the message's credit, if it is the sender. -/
theorem owed_rcv (d c : Dev nD) (k : Fin 7) : O₀ d (rcvCell c k) () = if d = orig c k then N else 0 := by
  have e : (if d = orig c k then N else 0) = if c = dest d k then N else 0 :=
    if_congr ⟨fun h => by rw [h, dest_orig], fun h => by rw [h, orig_dest]⟩ rfl rfl
  unfold O₀
  rw [e, sig_at d 0 7 6 rfl rfl, sig_at d 1 6 5 rfl rfl, sig_at d 2 5 4 rfl rfl, sig_at d 3 4 3 rfl rfl, sig_at d 4 3 2 rfl rfl, sig_at d 5 2 1 rfl rfl,
    sig_at d 6 1 0 rfl rfl, show owedSig d 0 (rcvCell c k) () = owedSnd d 7 (rcvCell c k) () from rfl, tbr, tbr, tbr, tbr, tbr, tbr, tbr,
    snd_at d 0 7 6 rfl rfl, snd_at d 1 6 5 rfl rfl, snd_at d 2 5 4 rfl rfl, snd_at d 3 4 3 rfl rfl, snd_at d 4 3 2 rfl rfl, snd_at d 5 2 1 rfl rfl,
    snd_at d 6 1 0 rfl rfl, show owedSnd d 0 (rcvCell c k) () = 0 from rfl, tr, tr, tr, tr, tr, tr, tr]
  have key (j : Fin 7) (h : k ≠ j) : (if c = dest d j ∧ k = j then N else 0) = 0 := if_neg fun h' => h h'.2
  have key' : (if c = dest d k ∧ k = k then N else 0) = if c = dest d k then N else 0 := if_congr (and_iff_left rfl) rfl rfl
  generalize N = n at *
  fin_cases k <;>
    simp only [Fin.zero_eta, Fin.mk_one, Fin.reduceFinMk, Fin.isValue, and_true, Fin.reduceEq, and_false, if_false, Nat.add_zero, Nat.zero_add, zero_ne_one, one_ne_zero]

omit [FloatOps F] in
/-- All devices together owe a barrier seven units. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun (k : Fin 7) _ => (Finset.sum_ite_eq' Finset.univ (orig c k) fun _ => 1).trans (if_pos (Finset.mem_univ _)),
    Finset.sum_const, Finset.card_univ, Fintype.card_fin, smul_eq_mul]
omit [FloatOps F] in
/-- All devices together owe a receive cell one message's credit. -/
theorem launch_rcv (c : Dev nD) (k : Fin 7) :
    tallyOn (rcvCell c k) (launchCredit (Pipeline.owing O₀) 0 (rcvCell c k)) = (tallyAt (rcvCell c k) () N : CellTallies nD τ sig Unit) := by
  unfold tallyAt; refine congrArg _ (Finsupp.ext fun u => ?_); cases u
  rw [Pipeline.launchCredit_owing, Finsupp.single_eq_same, Finset.sum_congr rfl fun d _ => owed_rcv d c k, Finset.sum_ite_eq' Finset.univ (orig c k) fun _ => N,
    if_pos (Finset.mem_univ _)]

/-- The seven receive semaphores are different. -/
theorem rcvS_injective : Function.Injective (fun k : Fin 7 => (SemLoc.dma (rcvS k) : SemLoc sig)) := by decide

omit [FloatOps F] in
/-- The launch credit of a device covers its barrier wait and its seven receive waits. -/
theorem creds (c : Dev nD) :
    (Pipeline.launchCred O₀ c : sProp 𝕄) ⊢ iprop(cred (tallyAt (barCell c) () 7) ∗ bigSep Finset.univ (fun k : Fin 7 => cred (tallyAt (rcvCell c k) () N))) := by
  unfold Pipeline.launchCred
  rw [bigSep_univ_at _ (SemLoc.reg barS), launch_bar]
  refine sep_mono_right ?_
  refine (bigSep_subset (t := Finset.univ.map ⟨fun k : Fin 7 => (SemLoc.dma (rcvS k) : SemLoc sig), rcvS_injective⟩) (by decide)).trans ?_
  rw [bigSep_map]
  exact bigSep_mono fun k _ => Entails.of_eq (congrArg cred (launch_rcv c k))

end Cert.KernelIdeal.Run
-- ==== Proof.IdealBody.lean ====
module

public import proofs.«01_k».proof.Proof.IdealProtocol
public import proofs.«01_k».proof.Proof.IdealValues
public import Idealize.ShloMosaic.Lib.VecWindow
public import proofs.«01_k».proof.Proof.IdealParts2
public import proofs.«01_k».proof.Proof.IdealGhost

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

omit [FloatOps F] in
/-- The seven barrier duties a device pays, one by one. -/
theorem toks_bar (c : Dev nD) : bigSep Finset.univ (fun j : Fin 7 => (dutyTok ER (barCell (dest c j)) 0 (rev j) : sProp 𝕄))
    = iprop(dutyTok ER (barCell (dest c 0)) 0 6 ∗ dutyTok ER (barCell (dest c 1)) 0 5 ∗ dutyTok ER (barCell (dest c 2)) 0 4 ∗ dutyTok ER (barCell (dest c 3)) 0 3 ∗ dutyTok ER (barCell (dest c 4)) 0 2 ∗ dutyTok ER (barCell (dest c 5)) 0 1 ∗ dutyTok ER (barCell (dest c 6)) 0 0) := bigSep_fin7 _
omit [FloatOps F] in
/-- What the seven barrier units hand over, one by one: the peers' receive slots. -/
theorem pays_bar (c : Dev nD) : bigSep Finset.univ (barPay (F := F) c) = iprop((∃ f, rcvPts (F := F) (dest c 0) 0 f) ∗ (∃ f, rcvPts (F := F) (dest c 1) 1 f) ∗ (∃ f, rcvPts (F := F) (dest c 2) 2 f) ∗ (∃ f, rcvPts (F := F) (dest c 3) 3 f) ∗ (∃ f, rcvPts (F := F) (dest c 4) 4 f) ∗ (∃ f, rcvPts (F := F) (dest c 5) 5 f) ∗ (∃ f, rcvPts (F := F) (dest c 6) 6 f)) := bigSep_fin7 _

/-- Before the loop over blocks no row of the table of taken tokens need be in place. -/
theorem st_start6 (c : Dev nD) (I : Inp F) : iprop(∃ f, held (F := F) c cc0_scratch2 f) ⊢ st6 c I 0 := by
  iintro ⟨%f, H⟩; iexists f; isplitr; · ipureintro; exact RowsUpto.zero _ _
  iexact H
/-- The same of the table of tokens by device. -/
theorem st_start7 (c : Dev nD) (I : Inp F) : iprop(∃ f, held (F := F) c cc0_scratch3 f) ⊢ st7 c I 0 := by
  iintro ⟨%f, H⟩; iexists f; isplitr; · ipureintro; exact RowsUpto.zero _ _
  iexact H
/-- The same of the table of counts. -/
theorem st_start8 (c : Dev nD) (I : Inp F) : iprop(∃ f, held (F := F) c cc0_scratch4 f) ⊢ st8 c I 0 := by
  iintro ⟨%f, H⟩; iexists f; isplitr; · ipureintro; exact RowsUpto.zero _ _
  iexact H
/-- Before the loop over experts no plane of the table of slots need be in place. -/
theorem st_start9 (c : Dev nD) (I : Inp F) : iprop(∃ f, held (F := F) c cc0_scratch5 f) ⊢ st9 c I 0 := by
  iintro ⟨%f, H⟩; iexists f; isplitr; · ipureintro; exact PlanesUpto.zero _ _
  iexact H

set_option maxHeartbeats 8000000 in
/-- The body on device `c`, from its operands, its scratch and its share of the exchange: it leaves `outF` in the result's
    window — of its own operands and of the messages its peers send —, its scratch, its cells at zero, and owes nothing. -/
theorem body_run (c : Dev nD) (I : Inp F) (MSG : Dev nD → Fin 7 → Vec F S1x64x1024 .bf16) (K : Dev nD × CK → ℕ)
    (hM : ∀ k, MSG c k = msg c I k) (G : Fin 7 → Vec F S1x64x1024 .bf16) (hG : ∀ k, MSG (orig c k) k = G k) (Q : PUnit → sProp 𝕄) :
    iprop(ghost MSG K c ∗ owesE (F := F) c (owedSig c 7) ∗ held c cc0_stg0_0 I.x ∗ held c cc0_stg1_0 I.r ∗ held c cc0_stg2_0 I.w
        ∗ (∃ f, held (F := F) c cc0_stg3_0 f) ∗ scratch c)
      ⊢ iprop(((held c cc0_stg0_0 I.x ∗ held c cc0_stg1_0 I.r ∗ held c cc0_stg2_0 I.w ∗ held c cc0_stg3_0 (outF c I G) ∗ scratch c
            ∗ zeros c ∗ owesE (F := F) c 0) -∗ Q ⟨⟩)
          -∗ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9) Q) := by
  rw [cc0_body_eq_skeleton]; unfold cc0_body_skel
  rw [wp_bind, k0_part36_eq_skeleton]; unfold k0_part36_skel ghost scratch
  rw [toks_bar, bigSep_fin7, bigSep_fin7, bigSep_fin7, bigSep_fin7, bigSep_fin7, bigSep_fin7, bigSep_fin7]
  iintro ⟨⟨#HR, #Hlev, ⟨R1, R2, R3, R4, R5, R6, R7⟩, ⟨R8, R9, R10, R11, R12, R13, R14⟩, ⟨R15, R16, R17, R18, R19, R20, R21⟩, R22, ⟨R23, R24, R25, R26, R27, R28, R29⟩, R30, ⟨R31, R32, R33, R34, R35, R36, R37⟩, ⟨R38, R39, R40, R41, R42, R43, R44⟩⟩, R45, R46, R47, R48, R49, R50, R51, R52, R53, R54, R55, ⟨R56, R57, R58, R59, R60, R61, R62⟩, ⟨R63, R64, R65, R66, R67, R68, R69⟩⟩ HQ
  rw [wp_bind]
  iapply (body_part1 c I MSG K _) $$ [R45 R1 R69 R2 R68 R3 R67 R4 R66 R5 R65]
  · isplitr; · iexact HR
    isplitl [R45]; · iexact R45
    isplitl [R1]; · iexact R1
    isplitl [R69]; · iexact R69
    isplitl [R2]; · iexact R2
    isplitl [R68]; · iexact R68
    isplitl [R3]; · iexact R3
    isplitl [R67]; · iexact R67
    isplitl [R4]; · iexact R4
    isplitl [R66]; · iexact R66
    isplitl [R5]; · iexact R5
    iexact R65
  iintro R70
  try dsimp only
  rw [wp_bind]
  iapply (body_part2 c I MSG K _) $$ [R46 R50 R48 R51 R70 R6 R64 R7 R63 R22 R30]
  · isplitr; · iexact HR
    isplitl [R46]; · iexact R46
    isplitl [R50]; · iexact R50
    isplitl [R48]; · iexact R48
    isplitl [R51]; · iexact R51
    isplitl [R70]; · iexact R70
    isplitl [R6]; · iexact R6
    isplitl [R64]; · iexact R64
    isplitl [R7]; · iexact R7
    isplitl [R63]; · iexact R63
    isplitr; · iexact Hlev
    isplitl [R22]; · iexact R22
    iexact R30
  iintro ⟨R71, R72, R73, R74, R75, R76, R77⟩
  try dsimp only
  ihave RB := (Entails.of_eq (pays_bar (F := F) c)) $$ R77
  icases RB with ⟨R78, R79, R80, R81, R82, R83, R84⟩
  rw [wp_bind]
  iapply (body_part3 c I _) $$ [R47]
  · iexact R47
  iintro R85
  try dsimp only
  rw [wp_bind]
  iapply (body_part4 c I _) $$ [R52 R54 R53 R85]
  · isplitl [R52]; · iapply (st_start6 c I) $$ R52
    isplitl [R54]; · iapply (st_start8 c I) $$ R54
    isplitl [R53]; · iapply (st_start7 c I) $$ R53
    iexact R85
  iintro ⟨R86, R87, R88, R89⟩
  try dsimp only
  rw [wp_bind]
  iapply (body_part5 c I _) $$ [R86 R87 R88 R89]
  · isplitl [R86]; · iexact R86
    isplitl [R87]; · iexact R87
    isplitl [R88]; · iexact R88
    iexact R89
  iintro ⟨R90, R91, R92, R93⟩
  try dsimp only
  rw [wp_bind]
  iapply (body_part6 c I _) $$ [R90 R91 R92 R93]
  · isplitl [R90]; · iexact R90
    isplitl [R91]; · iexact R91
    isplitl [R92]; · iexact R92
    iexact R93
  iintro ⟨R94, R95, R96, R97⟩
  try dsimp only
  rw [wp_bind]
  iapply (body_part7 c I _) $$ [R94 R95 R96]
  · isplitl [R94]; · iexact R94
    isplitl [R95]; · iexact R95
    iexact R96
  iintro ⟨R98, R99, R100⟩
  try dsimp only
  rw [wp_bind]
  iapply (body_part8 c I _) $$ [R97 R98 R99 R100]
  · isplitl [R97]; · iexact R97
    isplitl [R98]; · iexact R98
    isplitl [R99]; · iexact R99
    iexact R100
  iintro ⟨R101, R102, R103, R104⟩
  try dsimp only
  rw [wp_bind]
  iapply (body_part9 c I _) $$ [R101 R102 R103]
  · isplitl [R101]; · iexact R101
    isplitl [R102]; · iexact R102
    iexact R103
  iintro ⟨R105, R106, R107⟩
  try dsimp only
  rw [wp_bind]
  iapply (body_part10 c I _) $$ [R104 R105 R106]
  · isplitl [R104]; · iexact R104
    isplitl [R105]; · iexact R105
    iexact R106
  iintro ⟨R108, R109, R110⟩
  try dsimp only
  rw [wp_bind]
  iapply (body_part11 c I _) $$ [R107 R108 R109]
  · isplitl [R107]; · iexact R107
    isplitl [R108]; · iexact R108
    iexact R109
  iintro ⟨R111, R112, R113⟩
  try dsimp only
  rw [wp_bind]
  iapply (body_part12 c I _) $$ [R110 R111 R112 R55 R72 R74]
  · isplitl [R110]; · iexact R110
    isplitl [R111]; · iexact R111
    isplitl [R112]; · iexact R112
    isplitl [R55]; · iapply (st_start9 c I) $$ R55
    isplitl [R72]; · iexact R72
    iexact R74
  iintro ⟨R114, R115, R116, R117, R118, R119⟩
  try dsimp only
  rw [wp_bind]
  iapply (body_part13 c I _) $$ [R115 R114 R117 R118 R119]
  · isplitl [R115]; · iexact R115
    isplitl [R114]; · iexact R114
    isplitl [R117]; · iexact R117
    isplitl [R118]; · iexact R118
    iexact R119
  iintro %z ⟨R120, R121, R122, R123, R124⟩
  try dsimp only
  rw [wp_bind]
  iapply (body_part14 c I z _) $$ [R122 R123 R124 R120 R121]
  · isplitl [R122]; · iexact R122
    isplitl [R123]; · iexact R123
    isplitl [R124]; · iexact R124
    isplitl [R120]; · iexact R120
    iexact R121
  iintro ⟨R125, R126, R127, R128, R129⟩
  try dsimp only
  rw [wp_bind]
  iapply (body_part15 c I _) $$ [R129 R125]
  · isplitl [R129]; · iexact R129
    iexact R125
  iintro ⟨R130, R131⟩
  try dsimp only
  rw [wp_bind]
  iapply (body_part16 c I MSG K hM _) $$ [R131 R130 R56 R75 R78 R8 R15]
  · isplitr; · iexact HR
    isplitl [R131]; · iexact R131
    isplitl [R130]; · iexact R130
    isplitl [R56]; · iexact R56
    isplitl [R75]; · iexact R75
    isplitl [R78]; · iexact R78
    isplitl [R8]; · iexact R8
    iexact R15
  iintro ⟨R132, R133, R134, R135⟩
  try dsimp only
  rw [wp_bind]
  iapply (body_part17 c I _) $$ [R132]
  · iexact R132
  iintro R136
  try dsimp only
  rw [wp_bind]
  iapply (body_part18 c I MSG K hM _) $$ [R133 R57 R134 R79 R9 R16]
  · isplitr; · iexact HR
    isplitl [R133]; · iexact R133
    isplitl [R57]; · iexact R57
    isplitl [R134]; · iexact R134
    isplitl [R79]; · iexact R79
    isplitl [R9]; · iexact R9
    iexact R16
  iintro ⟨R137, R138, R139⟩
  try dsimp only
  rw [wp_bind]
  iapply (body_part19 c I _) $$ [R136]
  · iexact R136
  iintro R140
  try dsimp only
  rw [wp_bind]
  iapply (body_part20 c I MSG K hM _) $$ [R137 R140 R58 R138 R80 R10 R17]
  · isplitr; · iexact HR
    isplitl [R137]; · iexact R137
    isplitl [R140]; · iexact R140
    isplitl [R58]; · iexact R58
    isplitl [R138]; · iexact R138
    isplitl [R80]; · iexact R80
    isplitl [R10]; · iexact R10
    iexact R17
  iintro ⟨R141, R142, R143, R144⟩
  try dsimp only
  rw [wp_bind]
  iapply (body_part21 c I _) $$ [R142 R59]
  · isplitl [R142]; · iexact R142
    iexact R59
  iintro ⟨R145, R146⟩
  try dsimp only
  rw [wp_bind]
  iapply (body_part22 c I MSG K hM _) $$ [R141 R145 R146 R143 R81 R11 R18]
  · isplitr; · iexact HR
    isplitl [R141]; · iexact R141
    isplitl [R145]; · iexact R145
    isplitl [R146]; · iexact R146
    isplitl [R143]; · iexact R143
    isplitl [R81]; · iexact R81
    isplitl [R11]; · iexact R11
    iexact R18
  iintro ⟨R147, R148, R149, R150⟩
  try dsimp only
  rw [wp_bind]
  iapply (body_part23 c I _) $$ [R148 R60]
  · isplitl [R148]; · iexact R148
    iexact R60
  iintro ⟨R151, R152⟩
  try dsimp only
  rw [wp_bind]
  iapply (body_part24 c I MSG K hM _) $$ [R147 R151 R152 R149 R82 R12 R19]
  · isplitr; · iexact HR
    isplitl [R147]; · iexact R147
    isplitl [R151]; · iexact R151
    isplitl [R152]; · iexact R152
    isplitl [R149]; · iexact R149
    isplitl [R82]; · iexact R82
    isplitl [R12]; · iexact R12
    iexact R19
  iintro ⟨R153, R154, R155, R156⟩
  try dsimp only
  rw [wp_bind]
  iapply (body_part25 c I MSG K hM _) $$ [R154 R61 R155 R83 R13 R20]
  · isplitr; · iexact HR
    isplitl [R154]; · iexact R154
    isplitl [R61]; · iexact R61
    isplitl [R155]; · iexact R155
    isplitl [R83]; · iexact R83
    isplitl [R13]; · iexact R13
    iexact R20
  iintro ⟨R157, R158, R159⟩
  try dsimp only
  rw [wp_bind]
  iapply (body_part26 c I _) $$ [R153 R157]
  · isplitl [R153]; · iexact R153
    iexact R157
  iintro ⟨R160, R161⟩
  try dsimp only
  rw [wp_bind]
  iapply (body_part27 c I MSG K hM _) $$ [R161 R62 R158 R84 R14 R21]
  · isplitr; · iexact HR
    isplitl [R161]; · iexact R161
    isplitl [R62]; · iexact R62
    isplitl [R158]; · iexact R158
    isplitl [R84]; · iexact R84
    isplitl [R14]; · iexact R14
    iexact R21
  iintro ⟨R162, R163, R164⟩
  try dsimp only
  rw [show owedSnd c 0 = 0 from rfl]
  rw [wp_bind]
  iapply (body_part28 c I _) $$ [R162 R116]
  · isplitl [R162]; · iexact R162
    iexact R116
  iintro ⟨R165, R166⟩
  try dsimp only
  rw [wp_bind]
  iapply (body_part29 c I MSG K G hG _) $$ [R163 R23 R38]
  · isplitr; · iexact HR
    isplitl [R163]; · iexact R163
    isplitl [R23]; · iexact R23
    iexact R38
  iintro ⟨R167, R168, R169⟩
  try dsimp only
  rw [wp_bind]
  iapply (body_part30 c I MSG K G hG _) $$ [R167 R24 R39]
  · isplitr; · iexact HR
    isplitl [R167]; · iexact R167
    isplitl [R24]; · iexact R24
    iexact R39
  iintro ⟨R170, R171, R172⟩
  try dsimp only
  rw [wp_bind]
  iapply (body_part31 c I MSG K G hG _) $$ [R170 R25 R40]
  · isplitr; · iexact HR
    isplitl [R170]; · iexact R170
    isplitl [R25]; · iexact R25
    iexact R40
  iintro ⟨R173, R174, R175⟩
  try dsimp only
  rw [wp_bind]
  iapply (body_part32 c I MSG K G hG _) $$ [R173 R26 R41 R27 R42]
  · isplitr; · iexact HR
    isplitl [R173]; · iexact R173
    isplitl [R26]; · iexact R26
    isplitl [R41]; · iexact R41
    isplitl [R27]; · iexact R27
    iexact R42
  iintro ⟨R176, R177, R178, R179, R180⟩
  try dsimp only
  rw [wp_bind]
  iapply (body_part33 c I MSG K G hG _) $$ [R176 R28 R43]
  · isplitr; · iexact HR
    isplitl [R176]; · iexact R176
    isplitl [R28]; · iexact R28
    iexact R43
  iintro ⟨R181, R182, R183⟩
  try dsimp only
  rw [wp_bind]
  iapply (body_part34 c I MSG K G hG _) $$ [R49 R181 R29 R44]
  · isplitr; · iexact HR
    isplitl [R49]; · iexact R49
    isplitl [R181]; · iexact R181
    isplitl [R29]; · iexact R29
    iexact R44
  iintro ⟨R184, R185, R186, R187⟩
  try dsimp only
  rw [wp_bind]
  iapply (body_part35 c I MSG K _) $$ [R185 R135 R31 R139 R32 R144 R33 R150 R34]
  · isplitr; · iexact HR
    isplitl [R185]; · iexact R185
    isplitl [R135]; · iexact R135
    isplitl [R31]; · iexact R31
    isplitl [R139]; · iexact R139
    isplitl [R32]; · iexact R32
    isplitl [R144]; · iexact R144
    isplitl [R33]; · iexact R33
    isplitl [R150]; · iexact R150
    iexact R34
  iintro ⟨R188, R189, R190, R191, R192, R193, R194, R195, R196⟩
  try dsimp only
  iapply (step_sendWait MSG K c 4 _ rfl rfl) $$ [R156 R188 R35]
  · isplitr; · iexact HR
    isplitl [R156]; · iexact R156
    isplitl [R188]; · iexact R188
    iexact R35
  iintro ⟨R197, R198, R199⟩
  try rw [prog_ret_bind]
  try dsimp only
  sl_step
  try dsimp only
  iapply (step_sendWait MSG K c 5 _ rfl rfl) $$ [R159 R197 R36]
  · isplitr; · iexact HR
    isplitl [R159]; · iexact R159
    isplitl [R197]; · iexact R197
    iexact R36
  iintro ⟨R200, R201, R202⟩
  try rw [prog_ret_bind]
  iapply (step_sendWait MSG K c 6 _ rfl rfl) $$ [R164 R200 R37]
  · isplitr; · iexact HR
    isplitl [R164]; · iexact R164
    isplitl [R200]; · iexact R200
    iexact R37
  iintro ⟨R203, R204, R205⟩
  try rw [prog_ret_bind]
  try dsimp only
  sl_step
  iapply HQ
  unfold zeros
  rw [bigSep_fin7, bigSep_fin7]
  isplitl [R71]
  · iexact R71
  isplitl [R113]
  · iexact R113
  isplitl [R73]
  · iexact R73
  isplitl [R184]
  · iexact R184
  isplitl [R126 R127 R160 R166 R128 R165 R190 R192 R194 R196 R199 R202 R205 R169 R172 R175 R178 R180 R183 R187]
  · isplitl [R126]
    · iexists _; iexact R126
    isplitl [R127]
    · iexists _; iexact R127
    isplitl [R160]
    · iexists _; iexact R160
    isplitl [R166]
    · iexists _; iexact R166
    isplitl [R128]
    · iexists _; iexact R128
    isplitl [R165]
    · iexists _; iexact R165
    isplitl [R190 R192 R194 R196 R199 R202 R205]
    · isplitl [R190]
      · iexact R190
      isplitl [R192]
      · iexact R192
      isplitl [R194]
      · iexact R194
      isplitl [R196]
      · iexact R196
      isplitl [R199]
      · iexact R199
      isplitl [R202]
      · iexact R202
      iexact R205
    isplitl [R169]
    · iexact R169
    isplitl [R172]
    · iexact R172
    isplitl [R175]
    · iexact R175
    isplitl [R178]
    · iexact R178
    isplitl [R180]
    · iexact R180
    isplitl [R183]
    · iexact R183
    iexact R187
  isplitl [R76 R189 R191 R193 R195 R198 R201 R204 R168 R171 R174 R177 R179 R182 R186]
  · isplitl [R76]
    · iexact R76
    isplitl [R189 R191 R193 R195 R198 R201 R204]
    · isplitl [R189]
      · iexact R189
      isplitl [R191]
      · iexact R191
      isplitl [R193]
      · iexact R193
      isplitl [R195]
      · iexact R195
      isplitl [R198]
      · iexact R198
      isplitl [R201]
      · iexact R201
      iexact R204
    isplitl [R168]
    · iexact R168
    isplitl [R171]
    · iexact R171
    isplitl [R174]
    · iexact R174
    isplitl [R177]
    · iexact R177
    isplitl [R179]
    · iexact R179
    isplitl [R182]
    · iexact R182
    iexact R186
  iexact R203

end Cert.KernelIdeal.Run
-- ==== Proof.IdealLaunch.lean ====
module

public import proofs.«01_k».proof.Proof.IdealProtocol
public import proofs.«01_k».proof.Proof.IdealValues
public import Idealize.ShloMosaic.Lib.VecWindow
public import proofs.«01_k».proof.Proof.IdealBody
public import proofs.«01_k».proof.Proof.IdealGhost
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## The pipeline's proof data -/

/-- The grid has one point. -/
theorem cfg0_N : cfg0.N = 1 := N_0
def t₀ : Fin cfg0.N := ⟨0, by rw [cfg0_N]; decide⟩
/-- Every point is the one. -/
theorem fin_N (t : Fin cfg0.N) : t = t₀ := by
  obtain ⟨t, ht⟩ := t; have := cfg0_N; exact Fin.ext (by simp only [t₀]; omega)

/-- Device `c`'s operands, as its windows stage them. -/
def inp (c : Dev nD) : Inp F := ⟨iblk m c 0 t₀, iblk m c 1 t₀, iblk m c 2 t₀⟩
/-- The message device `c` sends in slot `k`. -/
def MSGm (c : Dev nD) (k : Fin 7) : Vec F S1x64x1024 .bf16 := msg c (inp m c) k
/-- Device `c`'s result: of its operands and of the messages it receives. -/
def res (c : Dev nD) : Vec F S256x1024 .f32 := outF c (inp m c) (fun k => MSGm m (orig c k) k)

/-- What device `c`'s body starts from, and what it ends with. -/
def Φ₀ (c : Dev nD) : sProp 𝕄 := iprop((∃ K, ghost (MSGm m) K c) ∗ scratch c)
def Φ₁ (c : Dev nD) : sProp 𝕄 := iprop(scratch (F := F) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => iblk m c 0 t₀
    | ⟨1, _⟩ => iblk m c 1 t₀
    | ⟨2, _⟩ => iblk m c 2 t₀
    | ⟨3, _⟩ => res m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- Something about each of the four windows. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
/-- To own a whole buffer is to hold it at its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ (F := F) c ∗ (dats m ρ 0 c).owesAt () t₀.succ ∗ stg c cc0_stg0_0 (iblk m c 0 t₀) ∗ stg c cc0_stg1_0 (iblk m c 1 t₀)
    ∗ stg c cc0_stg2_0 (iblk m c 2 t₀) ∗ stg c cc0_stg3_0 (res m c))

/-- The body from what the pipeline hands it to what the pipeline takes back. -/
theorem sound_body (c : Dev nD) :
    bodyPre m ρ c ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9) (fun _ => bodyPost m ρ c) := by
  unfold bodyPre Φ₀
  iintro ⟨⟨⟨%K, Hg⟩, Hs⟩, Ho, ⟨%d0, %g0, %hg0, H0⟩, ⟨%d1, %g1, %hg1, H1⟩, ⟨%d2, %g2, %hg2, H2⟩, ⟨%d3, %g3, %hg3, H3⟩⟩
  have h0 : g0 = iblk m c 0 t₀ := by rw [hg0]; unfold Dat.before; rw [if_pos (fetch0_0 t₀)]; rfl
  have h1 : g1 = iblk m c 1 t₀ := by rw [hg1]; unfold Dat.before; rw [if_pos (fetch0_1 t₀)]; rfl
  have h2 : g2 = iblk m c 2 t₀ := by rw [hg2]; unfold Dat.before; rw [if_pos (fetch0_2 t₀)]; rfl
  subst h0 h1 h2
  unfold Dat.owesAt Pipeline.owesWithin
  icases Ho with ⟨%W, %hW, HO⟩
  rw [show (dats m ρ 0 c).owed t₀.castSucc = owedSig c 7 from rfl]
  iapply (body_run c (inp m c) (MSGm m) K (fun _ => rfl) (fun k => MSGm m (orig c k) k) (fun _ => rfl) (fun _ => bodyPost m ρ c)) $$ [Hg HO H0 H1 H2 H3 Hs]
  · isplitl [Hg]; · iexact Hg
    isplitl [HO]; · unfold owesE; iexists W; iexact HO
    isplitl [H0]; · iexact H0
    isplitl [H1]; · iexact H1
    isplitl [H2]; · iexact H2
    isplitl [H3]; · iexists g3; iexact H3
    iexact Hs
  iintro ⟨H0, H1, H2, H3, Hs, Hz, HO⟩
  unfold bodyPost Φ₁ Dat.owesAt Pipeline.owesWithin owesE
  rw [show (dats m ρ 0 c).owed t₀.succ = 0 from rfl]
  icases HO with ⟨%W', HO⟩
  isplitl [Hs Hz]
  · isplitl [Hs] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9) (fun _ => bodyPost m ρ c)
  exact sound_body m ρ c

/-! ## The launch -/

/-- Every window holds its array in full. -/
theorem share_eq (c : Dev nD) (w : Fin cfg0.W) : (dats m ρ 0 c).share w = fullShare := by unfold Dat.share; split <;> rfl

/-- What goes into the pipeline's invariant at the launch. -/
def start (c : Dev nD) : sProp 𝕄 := iprop(∃ K, ghost (MSGm m) K c)

/-- The launch gives a device its share of the exchange. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (MSGm m) c)
      ⊢ |={Set.univ}=> iprop(start m c ∗ Pipeline.unscopedRestP Pipeline.Prefetch.none cfg0.spec c (fun b => m ((c : Thread nD τ).loc b))) := by
  unfold G'
  iintro ⟨HU, Hlev, Hcr, -, ⟨%K, HR, HA, HT⟩⟩
  ihave Hc := (creds (F := F) c) $$ Hcr
  icases Hc with ⟨H1, HN⟩
  imodintro
  isplitr [HU]
  · unfold start
    iexists K
    unfold ghost atp payToks
    icases HA with ⟨A1, A2, A3⟩
    icases HT with ⟨T1, T2, T3⟩
    isplitl [HR]; · iexact HR
    isplitl [Hlev]; · iexact Hlev
    isplitl [T1]; · iexact T1
    isplitl [T2]; · iexact T2
    isplitl [T3]; · iexact T3
    isplitl [H1]; · iexact H1
    isplitl [HN]; · iexact HN
    isplitl [A1]; · iexact A1
    isplitl [A2]; · iexact A2
    iexact A3
  · iexact HU

/-- With the scratch this is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start scratch
  iintro ⟨Hs, -, R0, R1, R2, R3, R4, R5, R6, R7⟩
  isplitl [Hs]; · iexact Hs
  isplitl [R0]; · iexact R0
  isplitl [R1]; · iexact R1
  isplitl [R2]; · iexact R2
  isplitl [R3]; · iexact R3
  isplitl [R4]; · iexact R4
  isplitl [R5]; · iexact R5
  isplitl [R6]; · iapply (snd_split (F := F) c); iexact R6
  iapply (rcv_split (F := F) c); iexact R7

/-- What the body ends with gives back the scratch and every semaphore at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch zeros
  iintro ⟨⟨R0, R1, R2, R3, R4, R5, R6, R7⟩, HB, HS, HV⟩
  isplitl [HB]; · iexact HB
  isplitl [HS HV]
  · isplitl [HS] <;> iassumption
  isplitl [R0]; · iexact R0
  isplitl [R1]; · iexact R1
  isplitl [R2]; · iexact R2
  isplitl [R3]; · iexact R3
  isplitl [R4]; · iexact R4
  isplitl [R5]; · iexact R5
  isplitl [R6]; · iapply (snd_join (F := F) c); iexact R6
  iapply (rcv_join (F := F) c); iexact R7

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- The end of the run: the windows' arrays at the computed contents, the operand no window stages as it was. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- At the mesh of eight devices, for any float values, from any memory with zero counters: every weakly fair execution
    terminates, and every final state has each device's result at `res`, the arguments unchanged, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (MSGm m)) (G' := G' (MSGm m)) (u₀ := u₀)
    (hu₀ := by
      unfold u₀
      iintro Hu
      ihave H := (ownU_pair _ _) $$ Hu
      icases H with ⟨HP, HX⟩
      imod (fund_ex (MSGm m)) $$ HX with HG
      imodintro
      isplitl [HP] <;> iassumption)
    (hglob := glob (MSGm m))
    (hA := fun _ _ => rfl) (hpf := fun _ k => k.elim0)
    (X := start m) (Y := fun c => unscopedSems0 c)
    (Z := fun c => Pipeline.unscopedRestP Pipeline.Prefetch.none cfg0.spec c (fun b => m ((c : Thread nD τ).loc b)))
    (hX := start_intro m ρ) (hin := phi0_intro m ρ) (hout := phi1_exit m ρ)
    (QY := fun c s => (∀ sm : SemLoc sig, sm.isScoped .tc = false → s.sem ((c.tc : Thread nD τ), sm) = 0)
      ∧ ∀ b ∈ Pipeline.restRefsP sig Pipeline.Prefetch.none cfg0.spec, s.mem ((c.tc : Thread nD τ).loc b) = m ((c.tc : Thread nD τ).loc b))
    (hY := fun c s' => by
      iintro ⟨Hu, HU, HSI⟩
      imod (Pipeline.unscopedSems0_read (X := unscopedSems0 c) (c := c) fupd_intro s') $$ [Hu HSI] with ⟨%h1, HSI⟩
      · isplitl [Hu] <;> iassumption
      unfold Pipeline.unscopedRestP
      ihave H := (pointsTo_read_all (Pipeline.restRefsP sig Pipeline.Prefetch.none cfg0.spec) (fun b => (c.tc : Thread nD τ).loc b) (fun b => m ((c : Thread nD τ).loc b)) s') $$ [HU HSI]
      · isplitl [HU] <;> iassumption
      icases H with ⟨%h2, HSI⟩
      imodintro
      isplitr; · ipureintro; exact ⟨h1, h2⟩
      iexact HSI)
    (hQ := fun _ h hs => ⟨fun c => ⟨fun w => (h c).1 w, (h c).2.2.2 main_arg1 (by decide)⟩, sem_eq_zero hs fun c => (h c).2.2.1⟩)

/-- The staged operands are unchanged. -/
theorem finalA_0 (c : Dev nD) : finalA m ρ c (0 : Fin 4) = (s₀ m ρ).mem (win0_0.arr.view.loc (c : Thread nD τ)) :=
  (dats (F := F) m ρ 0 c).arrAt_in (0 : Fin 4) rfl _
/-- The table of routes is unchanged. -/
theorem finalA_1 (c : Dev nD) : finalA m ρ c (1 : Fin 4) = (s₀ m ρ).mem (win0_1.arr.view.loc (c : Thread nD τ)) :=
  (dats (F := F) m ρ 0 c).arrAt_in (1 : Fin 4) rfl _
/-- The experts are unchanged. -/
theorem finalA_2 (c : Dev nD) : finalA m ρ c (2 : Fin 4) = (s₀ m ρ).mem (win0_2.arr.view.loc (c : Thread nD τ)) :=
  (dats (F := F) m ρ 0 c).arrAt_in (2 : Fin 4) rfl _

/-- The arguments are unchanged and every counter is at zero: the frame. -/
theorem run_frame : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 0).trans (finalA_0 m ρ c), (h.1 c).2, ((h.1 c).1 1).trans (finalA_1 m ρ c),
    ((h.1 c).1 2).trans (finalA_2 m ρ c)⟩, h.2⟩) (run_main m ρ)

end Cert.KernelIdeal.Run
-- ==== Proof.ValMath.lean ====
/-
# Truth values, counts and one-hot sums on the extended reals

What the tables of the kernel are made of: `b01 p` is one where `p` holds and zero elsewhere, `cnt P n` is the number of
naturals below `n` with `P`. A sum of truth values that hold at most once is again a truth value; a sum weighted by them is
the one entry that they select.
-/
module

public import Idealize.ShloMosaic.Lib.Pointwise

@[expose] public section

noncomputable section

namespace Cert.Val

open Idealize.ShloMosaic

open Classical in
/-- A truth value as an extended real: one or zero. -/
def b01 (p : Prop) : EReal := if p then 1 else 0

open Classical in
/-- `x` where `p` holds, zero elsewhere. -/
def sel (p : Prop) (x : EReal) : EReal := if p then x else 0

open Classical in
/-- How many naturals below `n` have `P`. -/
def cnt (P : ℕ → Prop) (n : ℕ) : ℕ := Nat.count P n

/-- A true statement reads one. -/
theorem b01_pos {p : Prop} (h : p) : b01 p = 1 := if_pos h
/-- A false statement reads zero. -/
theorem b01_neg {p : Prop} (h : ¬p) : b01 p = 0 := if_neg h
/-- Under a true statement the value stays. -/
theorem sel_pos {p : Prop} {x : EReal} (h : p) : sel p x = x := if_pos h
/-- Under a false statement the value is zero. -/
theorem sel_neg {p : Prop} {x : EReal} (h : ¬p) : sel p x = 0 := if_neg h

/-- Equivalent statements read alike. -/
theorem b01_congr {p q : Prop} (h : p ↔ q) : b01 p = b01 q := congrArg b01 (propext h)

/-- The product of two truth values is their conjunction. -/
theorem b01_mul (p q : Prop) : b01 p * b01 q = b01 (p ∧ q) := by
  by_cases hp : p
  · by_cases hq : q
    · rw [b01_pos hp, b01_pos hq, b01_pos ⟨hp, hq⟩, one_mul]
    · rw [b01_neg hq, b01_neg (p := p ∧ q) fun h => hq h.2, mul_zero]
  · rw [b01_neg hp, b01_neg (p := p ∧ q) fun h => hp h.1, zero_mul]

/-- A comparison's bit, widened and read as a float, is the truth value of what it compared. -/
theorem sitofp_ofBool {φ : FTy} (b : Bool) :
    (FloatOps.sitofp φ (BitVec.setWidth 32 (BitVec.ofBool b)) : Ideal φ) = b01 (b = true) := by
  cases b
  · rw [b01_neg (by decide)]
    show (((BitVec.setWidth 32 (BitVec.ofBool false)).toInt : ℝ) : EReal) = 0
    rw [show (BitVec.setWidth 32 (BitVec.ofBool false)).toInt = 0 from by decide]
    norm_num
  · rw [b01_pos rfl]
    show (((BitVec.setWidth 32 (BitVec.ofBool true)).toInt : ℝ) : EReal) = 1
    rw [show (BitVec.setWidth 32 (BitVec.ofBool true)).toInt = 1 from by decide]
    norm_num

/-- The same of an equality of words. -/
theorem sitofp_eq {φ : FTy} {w : ℕ} (a b : BitVec w) :
    (FloatOps.sitofp φ (BitVec.setWidth 32 (IntOp.cmpi .eq a b)) : Ideal φ) = b01 (a = b) := by
  show (FloatOps.sitofp φ (BitVec.setWidth 32 (BitVec.ofBool (a == b))) : Ideal φ) = _
  rw [sitofp_ofBool]
  exact b01_congr (by simp)

/-- The same of a signed comparison of two small naturals' words. -/
theorem sitofp_sge {φ : FTy} (a b : ℕ) (ha : a < 256) (hb : b < 256) :
    (FloatOps.sitofp φ (BitVec.setWidth 32 (IntOp.cmpi .sge (BitVec.ofNat 32 a) (BitVec.ofNat 32 b))) : Ideal φ)
      = b01 (b ≤ a) := by
  have h : IntOp.cmpi .sge (BitVec.ofNat 32 a) (BitVec.ofNat 32 b) = BitVec.ofBool (decide (b ≤ a)) := by
    show BitVec.ofBool (BitVec.sle (BitVec.ofNat 32 b) (BitVec.ofNat 32 a)) = _
    congr 1
    rw [BitVec.sle_eq_decide]
    congr 1
    rw [BitVec.toInt_ofNat', BitVec.toInt_ofNat']
    apply propext
    have e1 : ((b : ℤ).bmod (2 ^ 32)) = b := by
      rw [Int.bmod_def]; omega
    have e2 : ((a : ℤ).bmod (2 ^ 32)) = a := by
      rw [Int.bmod_def]; omega
    first
      | (rw [e1, e2]; omega)
      | omega
  rw [h, sitofp_ofBool]
  exact b01_congr (by simp)

/-- The constant 51. -/
theorem ofBits_51 : Ideal.ofBits .f32 0x424C0000#32 = ((51 : ℕ) : EReal) := by
  rw [show (((51 : ℕ) : EReal)) = ((51 : ℝ) : EReal) by norm_cast]
  simp [Ideal.ofBits, Ideal.ieee, -EReal.coe_mul]; norm_num

/-- A count compared with 51. -/
theorem cmp_51 (n : ℕ) : Ideal.cmp .ole ((n : ℕ) : EReal) (Ideal.ofBits .f32 0x424C0000#32) = BitVec.ofBool (decide (n ≤ 51)) := by
  rw [ofBits_51]
  show BitVec.ofBool (decide ((n : EReal) ≤ ((51 : ℕ) : EReal))) = _
  congr 1
  exact decide_eq_decide.mpr (by exact_mod_cast Iff.rfl)

/-- A small count read back as a word. -/
theorem fptosi_nat (n : ℕ) (h : n < 4096) : Ideal.fptosi 32 ((n : ℕ) : EReal) = BitVec.ofNat 32 n := by
  have e : ((n : ℕ) : EReal) = ((n : ℝ) : EReal) := by norm_cast
  rw [e]
  unfold Ideal.fptosi
  rw [Ideal.toIntClamped_coe, if_pos (Nat.cast_nonneg n), Int.floor_natCast, min_eq_right (by norm_num; omega), max_eq_right (by norm_num)]
  exact BitVec.ofInt_natCast 32 n

/-- One below a count is the word of `p` exactly when the count is one above `p`. -/
theorem sub_one_eq (n p : ℕ) (hn : n < 4096) (hp : p < 64) :
    IntOp.subi (BitVec.ofNat 32 n) 1#32 = BitVec.ofNat 32 p ↔ n = p + 1 := by
  show BitVec.ofNat 32 n - 1#32 = BitVec.ofNat 32 p ↔ _
  rw [← BitVec.toNat_inj, BitVec.toNat_sub, BitVec.toNat_ofNat, BitVec.toNat_ofNat, BitVec.toNat_ofNat]
  omega

/-- A one-hot entry: the count, taken one down and compared with slot `p`. -/
theorem hot (φ : FTy) (n p : ℕ) (hn : n < 4096) (hp : p < 64) :
    (FloatOps.sitofp φ (BitVec.setWidth 32 (IntOp.cmpi .eq (IntOp.subi (FloatOps.fptosi (F := Ideal) (φ := .f32) 32 ((n : ℕ) : EReal)) 1#32)
      (BitVec.ofNat 32 p))) : Ideal φ) = b01 (n = p + 1) := by
  rw [sitofp_eq]
  refine b01_congr ?_
  rw [show FloatOps.fptosi (F := Ideal) (φ := .f32) 32 ((n : ℕ) : EReal) = BitVec.ofNat 32 n from fptosi_nat n hn]
  exact sub_one_eq n p hn hp

/-- A sum weighted by statements of which exactly one holds is the entry it selects. -/
theorem sum_sel {n : ℕ} (Q : Fin n → Prop) (f : Fin n → EReal) (j : Fin n) (hj : Q j) (hu : ∀ i, Q i → i = j) :
    ∑ i, b01 (Q i) * f i = f j := by
  rw [Finset.sum_eq_single j]
  · rw [b01_pos hj, one_mul]
  · intro i _ hi
    rw [b01_neg fun h => hi (hu i h), zero_mul]
  · intro h
    exact absurd (Finset.mem_univ j) h

/-- A sum weighted by statements none of which holds is zero. -/
theorem sum_none {n : ℕ} (Q : Fin n → Prop) (f : Fin n → EReal) (hn : ∀ i, ¬Q i) : ∑ i, b01 (Q i) * f i = 0 :=
  Finset.sum_eq_zero fun i _ => by rw [b01_neg (hn i), zero_mul]

/-- A sum of statements of which at most one holds says whether one does. -/
theorem sum_b01 {n : ℕ} (Q : Fin n → Prop) (hu : ∀ i j, Q i → Q j → i = j) : ∑ i, b01 (Q i) = b01 (∃ i, Q i) := by
  by_cases h : ∃ i, Q i
  · obtain ⟨j, hj⟩ := h
    have := sum_sel Q (fun _ => 1) j hj fun i hi => hu i j hi hj
    simp only [mul_one] at this
    rw [this, b01_pos ⟨j, hj⟩]
  · rw [b01_neg h]
    exact Finset.sum_eq_zero fun i _ => b01_neg fun hi => h ⟨i, hi⟩

/-- A count over one more number. -/
theorem cnt_succ (P : ℕ → Prop) (n : ℕ) (h : P n) : cnt P (n + 1) = cnt P n + 1 := by
  classical
  unfold cnt
  rw [Nat.count_succ, if_pos h]

/-- A count is at most the number of numbers counted. -/
theorem cnt_le (P : ℕ → Prop) (n : ℕ) : cnt P n ≤ n := by
  classical
  unfold cnt
  exact Nat.count_le P

/-- A count grows with its bound. -/
theorem cnt_mono (P : ℕ → Prop) {m n : ℕ} (h : m ≤ n) : cnt P m ≤ cnt P n := by
  classical
  unfold cnt
  exact Nat.count_monotone P h

/-- A count in two stretches. -/
theorem cnt_add (P : ℕ → Prop) (a b : ℕ) : cnt P (a + b) = cnt P a + cnt (fun k => P (a + k)) b := by
  classical
  unfold cnt
  exact Nat.count_add P a b

/-- Two numbers with `P` that are counted alike are the same. -/
theorem cnt_inj (P : ℕ → Prop) {m n : ℕ} (hm : P m) (hn : P n) (h : cnt P (m + 1) = cnt P (n + 1)) : m = n := by
  classical
  rw [cnt_succ P m hm, cnt_succ P n hn] at h
  unfold cnt at h
  exact Nat.count_injective hm hn (by omega)

/-- Statements that agree below the bound count alike. -/
theorem cnt_congr {P Q : ℕ → Prop} (n : ℕ) (h : ∀ k, k < n → (P k ↔ Q k)) : cnt P n = cnt Q n := by
  classical
  unfold cnt
  rw [Nat.count_eq_card_filter_range, Nat.count_eq_card_filter_range]
  exact congrArg Finset.card (Finset.filter_congr fun k hk => h k (Finset.mem_range.mp hk))

/-- A sum of truth values is a count. -/
theorem sum_cnt (P : ℕ → Prop) (n : ℕ) : ∑ j : Fin n, b01 (P j.val) = ((cnt P n : ℕ) : EReal) := by
  classical
  rw [Fin.sum_univ_eq_sum_range (fun j => b01 (P j))]
  unfold cnt
  induction n with
  | zero => simp
  | succ n ih =>
    rw [Finset.sum_range_succ, ih, Nat.count_succ]
    by_cases h : P n
    · rw [b01_pos h, if_pos h]; push_cast; rfl
    · rw [b01_neg h, if_neg h, add_zero, add_zero]

/-- The sum of the truth values up to row `i` is the count through `i`. -/
theorem sum_tri (P : ℕ → Prop) (n : ℕ) (i : ℕ) (hi : i < n) :
    ∑ j : Fin n, b01 (j.val ≤ i) * b01 (P j.val) = ((cnt P (i + 1) : ℕ) : EReal) := by
  have h1 : ∑ j : Fin n, b01 (j.val ≤ i) * b01 (P j.val) = ∑ j : Fin n, b01 ((fun k => k ≤ i ∧ P k) j.val) :=
    Finset.sum_congr rfl fun j _ => b01_mul _ _
  rw [h1, sum_cnt (fun k => k ≤ i ∧ P k) n]
  have h2 : n = (i + 1) + (n - (i + 1)) := by omega
  have h3 : cnt (fun k => k ≤ i ∧ P k) n = cnt P (i + 1) := by
    rw [h2, cnt_add]
    have h4 : cnt (fun k => (i + 1) + k ≤ i ∧ P ((i + 1) + k)) (n - (i + 1)) = cnt (fun _ => False) (n - (i + 1)) :=
      cnt_congr _ fun k _ => ⟨fun h => absurd h.1 (by omega), False.elim⟩
    have h5 : cnt (fun _ => False) (n - (i + 1)) = 0 := by
      classical
      unfold cnt
      rw [Nat.count_eq_card_filter_range]
      simp
    rw [h4, h5, Nat.add_zero]
    exact cnt_congr _ fun k hk => ⟨fun h => h.2, fun h => ⟨by omega, h⟩⟩
  rw [h3]

end Cert.Val

end
-- ==== Proof.ValTables.lean ====
/-
# The kernel's tables, read at an entry

At the ideal instance: which of a device's experts take a token (`MF`), how many tokens of an expert come through a token
(`CF`), and which device's experts take a token (`AF`). The kernel builds them 256 rows at a time, adding a running base;
the statements below give an entry in terms of `taken` and `place`, which speak of the whole list of tokens.
-/
module

public import proofs.«01_k».proof.Proof.IdealValues
public import proofs.«01_k».proof.Proof.ValMath
public import Idealize.ShloMosaic.Lib.Pointwise

@[expose] public section

set_option maxRecDepth 16384

noncomputable section

namespace Cert.Val

open Cert.KernelIdeal Cert.KernelIdeal.Gen Cert.KernelIdeal.Run
open Idealize.ShloMosaic

/-! ## Which expert takes a token -/

/-- The word that names token `t`'s expert. -/
def wd (r : IVec S2048x1 32) (t : ℕ) : BitVec 32 := r (ix2 ⟨t % 2048, Nat.mod_lt _ (by decide)⟩ 0)
/-- Token `t` is routed to expert `e`. -/
def chosen (r : IVec S2048x1 32) (e t : ℕ) : Prop := wd r t = BitVec.ofNat 32 e
/-- How many of the tokens `0 … t` are routed to expert `e`. -/
def place (r : IVec S2048x1 32) (e t : ℕ) : ℕ := cnt (chosen r e) (t + 1)
/-- Expert `e` takes token `t`: it is one of the first 51 routed to it. -/
def taken (r : IVec S2048x1 32) (e t : ℕ) : Prop := chosen r e t ∧ place r e t ≤ 51
/-- One of device `d`'s four experts takes token `t`. -/
def takenBy (r : IVec S2048x1 32) (d t : ℕ) : Prop := ∃ l : Fin 4, taken r (4 * d + l.val) t

/-- A token is routed to at most one expert. -/
theorem chosen_inj {r : IVec S2048x1 32} {e e' t : ℕ} (he : e < 32) (he' : e' < 32) (h : chosen r e t) (h' : chosen r e' t) :
    e = e' := by
  have h1 : BitVec.ofNat 32 e = BitVec.ofNat 32 e' := h.symm.trans h'
  have h2 := congrArg BitVec.toNat h1
  rw [BitVec.toNat_ofNat, BitVec.toNat_ofNat] at h2
  omega

/-- A count of tokens is small. -/
theorem place_lt (r : IVec S2048x1 32) (e t : ℕ) (ht : t < 2048) : place r e t < 4096 :=
  lt_of_le_of_lt (cnt_le _ _) (by omega)

/-- The count through row `i` of block `b` is the count of the blocks before and the count inside the block. -/
theorem place_block (r : IVec S2048x1 32) (e b i : ℕ) :
    place r e (256 * b + i) = cnt (chosen r e) (256 * b) + cnt (fun k => chosen r e (256 * b + k)) (i + 1) := by
  unfold place
  rw [Nat.add_assoc, cnt_add]

/-! ## The kernel's vectors, one block of 256 rows -/

/-- The running counts of four experts in a block: the base and the count inside the block. -/
def cnt4 (tri : FVec Ideal S256x256 .bf16) (base : FVec Ideal S1x4 .f32) (oh : FVec Ideal S256x4 .bf16) : FVec Ideal S256x4 .f32 :=
  addf (broadcastTo S256x4 base broadcasts_S1x4_S256x4)
    (matmul dot_S256x256_S256x4_S256x4_1_0_0_1_n_n none tri oh (constant S256x4 .f32 0x00000000#32))
/-- The same of all 32 experts. -/
def cnt32 (tri : FVec Ideal S256x256 .bf16) (base : FVec Ideal S1x32 .f32) (oh : FVec Ideal S256x32 .bf16) : FVec Ideal S256x32 .f32 :=
  addf (broadcastTo S256x32 base broadcasts_S1x32_S256x32)
    (matmul dot_S256x256_S256x32_S256x32_1_0_0_1_n_n none tri oh (constant S256x32 .f32 0x00000000#32))
/-- Which of four experts take a row: routed there, and the count is at most 51. -/
def keep4 (oh : FVec Ideal S256x4 .bf16) (n : FVec Ideal S256x4 .f32) : FVec Ideal S256x4 .bf16 :=
  k0_pay16 oh (cmpf .ole n (broadcast S256x4 (Scalar.ofBits .f32 0x424C0000#32)))

/-- The eight blocks of the routing column. -/
def rB (c : Dev nD) (I : Inp Ideal) (b : Fin 8) : IVec S256x1 32 := match b with
  | 0 => v85 c I
  | 1 => v134 c I
  | 2 => v183 c I
  | 3 => v232 c I
  | 4 => v281 c I
  | 5 => v330 c I
  | 6 => v379 c I
  | 7 => v428 c I
/-- Block `b`'s one-hot rows over the device's experts. -/
def o4 (c : Dev nD) (I : Inp Ideal) (b : Fin 8) : FVec Ideal S256x4 .bf16 := k0_pay11 (v51 c I) (rB c I b)
/-- Block `b`'s one-hot rows over all experts. -/
def o32 (c : Dev nD) (I : Inp Ideal) (b : Fin 8) : FVec Ideal S256x32 .bf16 := k0_pay12 (v52 c I) (rB c I b)
/-- The base of block `b`: the counts of the device's experts in the blocks before. -/
def b4 (c : Dev nD) (I : Inp Ideal) (b : Fin 8) : FVec Ideal S1x4 .f32 := match b with
  | 0 => v83 c I
  | 1 => v129 c I
  | 2 => v178 c I
  | 3 => v227 c I
  | 4 => v276 c I
  | 5 => v325 c I
  | 6 => v374 c I
  | 7 => k0_pay19 (v374 c I) (v385 c I)
/-- The same over all experts. -/
def b32 (c : Dev nD) (I : Inp Ideal) (b : Fin 8) : FVec Ideal S1x32 .f32 := match b with
  | 0 => v84 c I
  | 1 => v133 c I
  | 2 => v182 c I
  | 3 => v231 c I
  | 4 => v280 c I
  | 5 => v329 c I
  | 6 => v378 c I
  | 7 => k0_pay20 (v378 c I) (v390 c I)

/-- The next block's base adds this block's rows. -/
theorem b4_succ (c : Dev nD) (I : Inp Ideal) : ∀ b : Fin 7, b4 c I b.succ = k0_pay19 (b4 c I b.castSucc) (o4 c I b.castSucc)
  | 0 => rfl
  | 1 => rfl
  | 2 => rfl
  | 3 => rfl
  | 4 => rfl
  | 5 => rfl
  | 6 => rfl
/-- The same over all experts. -/
theorem b32_succ (c : Dev nD) (I : Inp Ideal) : ∀ b : Fin 7, b32 c I b.succ = k0_pay20 (b32 c I b.castSucc) (o32 c I b.castSucc)
  | 0 => rfl
  | 1 => rfl
  | 2 => rfl
  | 3 => rfl
  | 4 => rfl
  | 5 => rfl
  | 6 => rfl
/-- Each stored block of counts is the one recipe. -/
theorem cB_eq (c : Dev nD) (I : Inp Ideal) : ∀ b : Fin 8, cB c I b = k0_pay17 (cnt4 (v47 c I) (b4 c I b) (o4 c I b))
  | 0 => rfl
  | 1 => rfl
  | 2 => rfl
  | 3 => rfl
  | 4 => rfl
  | 5 => rfl
  | 6 => rfl
  | 7 => rfl
/-- Each stored block of the device's own table is the one recipe. -/
theorem mB_eq (c : Dev nD) (I : Inp Ideal) : ∀ b : Fin 8, mB c I b = keep4 (o4 c I b) (cnt4 (v47 c I) (b4 c I b) (o4 c I b))
  | 0 => rfl
  | 1 => rfl
  | 2 => rfl
  | 3 => rfl
  | 4 => rfl
  | 5 => rfl
  | 6 => rfl
  | 7 => rfl
/-- Each stored block of the table of devices is the one recipe. -/
theorem aB_eq (c : Dev nD) (I : Inp Ideal) : ∀ b : Fin 8,
    aB c I b = k0_pay18 (v82 c I) (o32 c I b) (cnt32 (v47 c I) (b32 c I b) (o32 c I b))
  | 0 => rfl
  | 1 => rfl
  | 2 => rfl
  | 3 => rfl
  | 4 => rfl
  | 5 => rfl
  | 6 => rfl
  | 7 => rfl

/-! ## Their entries -/

/-- The lower triangle of ones. -/
theorem tri_apply (c : Dev nD) (I : Inp Ideal) (i j : Fin 256) : v47 c I (ix2 i j) = b01 (j.val ≤ i.val) := by
  unfold v47
  pointwise [k0_pay3]
  exact sitofp_sge i.val j.val i.isLt j.isLt

/-- The routing column's block `b`. -/
theorem rB_apply (c : Dev nD) (I : Inp Ideal) (b : Fin 8) (i : Fin 256) : rB c I b (ix2 i 0) = wd I.r (256 * b.val + i.val) := by
  have hb := b.isLt
  have hi := i.isLt
  have e : ∀ (o : ℕ) (inb : ∀ a : Fin 2, (![o, 0] : Fin 2 → ℕ) a + S256x1.size a ≤ S2048x1.size a), o = 256 * b.val →
      (Memref.whole cc0_stg1_0 : Memref sig .tc .vmem S2048x1 .i32).view.readAt (Elt Ideal)
        (Rect.unit (s := S2048x1) ![o, 0] S256x1.size inb).toLoadRect I.r (ix2 i 0) = wd I.r (256 * b.val + i.val) := by
    intro o inb ho
    unfold wd
    show I.r _ = I.r _
    congr 1
    funext a
    apply Fin.ext
    match a with
    | 0 =>
      show o + 1 * i.val = (256 * b.val + i.val) % 2048
      omega
    | 1 => rfl
  match b with
  | 0 => exact e 0 _ rfl
  | 1 => exact e 256 _ rfl
  | 2 => exact e 512 _ rfl
  | 3 => exact e 768 _ rfl
  | 4 => exact e 1024 _ rfl
  | 5 => exact e 1280 _ rfl
  | 6 => exact e 1536 _ rfl
  | 7 => exact e 1792 _ rfl

/-- The numbers of the device's experts. -/
theorem e4_apply (c : Dev nD) (I : Inp Ideal) (i : Fin 256) (l : Fin 4) : v51 c I (ix2 i l) = BitVec.ofNat 32 (4 * c.val + l.val) := by
  have h : ∀ (c : Dev nD) (l : Fin 4), IntOp.addi (Scalar.muli (Scalar.remsi (Scalar.divsi (Dev.word c) 1#32) 8#32) 4#32) (BitVec.ofNat 32 l.val)
      = BitVec.ofNat 32 (4 * c.val + l.val) := by decide
  unfold v51 v2 v1 v0
  pointwise [k0_pay4]
  exact h c l

/-- One-hot rows over the device's experts. -/
theorem o4_apply (c : Dev nD) (I : Inp Ideal) (b : Fin 8) (i : Fin 256) (l : Fin 4) :
    o4 c I b (ix2 i l) = b01 (chosen I.r (4 * c.val + l.val) (256 * b.val + i.val)) := by
  unfold o4
  pointwise [k0_pay11, k0_pay10]
  rw [rB_apply, e4_apply]
  exact sitofp_eq _ _

/-- One-hot rows over all experts. -/
theorem o32_apply (c : Dev nD) (I : Inp Ideal) (b : Fin 8) (i : Fin 256) (e : Fin 32) :
    o32 c I b (ix2 i e) = b01 (chosen I.r e.val (256 * b.val + i.val)) := by
  unfold o32 v52
  pointwise [k0_pay12, k0_pay10]
  rw [rB_apply]
  exact sitofp_eq _ _

/-- The base of block `b` counts the tokens before it. -/
theorem b4_apply (c : Dev nD) (I : Inp Ideal) (l : Fin 4) : ∀ b : Fin 8,
    b4 c I b (ix2 0 l) = ((cnt (chosen I.r (4 * c.val + l.val)) (256 * b.val) : ℕ) : EReal) := by
  intro b
  induction b using Fin.induction with
  | zero =>
    show v83 c I (ix2 0 l) = _
    unfold v83
    pointwise [k0_pay8]
    simp [cnt]
  | succ b ih =>
    rw [b4_succ]
    pointwise [k0_pay19]
    rw [ih]
    have h : ∑ j : Fin 256, o4 c I b.castSucc (ix2 j l)
        = ((cnt (fun k => chosen I.r (4 * c.val + l.val) (256 * b.val + k)) 256 : ℕ) : EReal) := by
      rw [← sum_cnt]
      exact Finset.sum_congr rfl fun j _ => o4_apply c I b.castSucc j l
    rw [h]
    rw [show 256 * (b.succ : Fin 8).val = 256 * b.val + 256 from by rw [Fin.val_succ]; omega, cnt_add]
    push_cast
    rfl

/-- The same over all experts. -/
theorem b32_apply (c : Dev nD) (I : Inp Ideal) (e : Fin 32) : ∀ b : Fin 8,
    b32 c I b (ix2 0 e) = ((cnt (chosen I.r e.val) (256 * b.val) : ℕ) : EReal) := by
  intro b
  induction b using Fin.induction with
  | zero =>
    show v84 c I (ix2 0 e) = _
    unfold v84
    pointwise [k0_pay9]
    simp [cnt]
  | succ b ih =>
    rw [b32_succ]
    pointwise [k0_pay20]
    rw [ih]
    have h : ∑ j : Fin 256, o32 c I b.castSucc (ix2 j e)
        = ((cnt (fun k => chosen I.r e.val (256 * b.val + k)) 256 : ℕ) : EReal) := by
      rw [← sum_cnt]
      exact Finset.sum_congr rfl fun j _ => o32_apply c I b.castSucc j e
    rw [h]
    rw [show 256 * (b.succ : Fin 8).val = 256 * b.val + 256 from by rw [Fin.val_succ]; omega, cnt_add]
    push_cast
    rfl

/-- The running counts of the device's experts. -/
theorem cnt4_apply (c : Dev nD) (I : Inp Ideal) (b : Fin 8) (i : Fin 256) (l : Fin 4) :
    cnt4 (v47 c I) (b4 c I b) (o4 c I b) (ix2 i l) = ((place I.r (4 * c.val + l.val) (256 * b.val + i.val) : ℕ) : EReal) := by
  pointwise [cnt4]
  rw [b4_apply, place_block]
  have h : ∑ j : Fin 256, v47 c I (ix2 i j) * o4 c I b (ix2 j l)
      = ((cnt (fun k => chosen I.r (4 * c.val + l.val) (256 * b.val + k)) (i.val + 1) : ℕ) : EReal) := by
    rw [← sum_tri _ 256 i.val i.isLt]
    exact Finset.sum_congr rfl fun j _ => by rw [tri_apply, o4_apply]
  rw [h]
  push_cast
  rfl

/-- The running counts of all experts. -/
theorem cnt32_apply (c : Dev nD) (I : Inp Ideal) (b : Fin 8) (i : Fin 256) (e : Fin 32) :
    cnt32 (v47 c I) (b32 c I b) (o32 c I b) (ix2 i e) = ((place I.r e.val (256 * b.val + i.val) : ℕ) : EReal) := by
  pointwise [cnt32]
  rw [b32_apply, place_block]
  have h : ∑ j : Fin 256, v47 c I (ix2 i j) * o32 c I b (ix2 j e)
      = ((cnt (fun k => chosen I.r e.val (256 * b.val + k)) (i.val + 1) : ℕ) : EReal) := by
    rw [← sum_tri _ 256 i.val i.isLt]
    exact Finset.sum_congr rfl fun j _ => by rw [tri_apply, o32_apply]
  rw [h]
  push_cast
  rfl

/-- An entry of the stored counts. -/
theorem cB_apply (c : Dev nD) (I : Inp Ideal) (b : Fin 8) (i : Fin 256) (l : Fin 4) :
    cB c I b (ix2 i l) = ((place I.r (4 * c.val + l.val) (256 * b.val + i.val) : ℕ) : EReal) := by
  rw [cB_eq]
  pointwise [k0_pay17]
  exact cnt4_apply c I b i l

/-- An entry of the stored table of the device's experts: does the expert take the token. -/
theorem mB_apply (c : Dev nD) (I : Inp Ideal) (b : Fin 8) (i : Fin 256) (l : Fin 4) :
    mB c I b (ix2 i l) = b01 (taken I.r (4 * c.val + l.val) (256 * b.val + i.val)) := by
  rw [mB_eq]
  pointwise [keep4, k0_pay16]
  rw [o4_apply, cnt4_apply]
  have h : ∀ n : ℕ, (FloatOps.sitofp .f32 (BitVec.setWidth 32 (BitVec.ofBool (decide (((n : ℕ) : EReal) ≤ Ideal.ofBits .f32 0x424C0000#32)))) : Ideal .f32)
      = b01 (n ≤ 51) := by
    intro n
    rw [sitofp_ofBool]
    refine b01_congr ?_
    rw [decide_eq_true_iff, ofBits_51]
    exact_mod_cast Iff.rfl
  refine (congrArg _ (h _)).trans ?_
  exact b01_mul _ _

/-- The table that sends an expert to its device. -/
theorem grp_apply (c : Dev nD) (I : Inp Ideal) (e : Fin 32) (d : Fin 8) : v82 c I (ix2 e d) = b01 (e.val / 4 = d.val) := by
  unfold v82 v53 v55 v56 c4_i32_39
  pointwise [k0_pay7, k0_pay5, k0_pay6]
  rw [sitofp_eq]
  refine b01_congr ?_
  revert e d
  decide +kernel

/-- An entry of the stored table of devices: does one of the device's experts take the token. -/
theorem aB_apply (c : Dev nD) (I : Inp Ideal) (b : Fin 8) (i : Fin 256) (d : Fin 8) :
    aB c I b (ix2 i d) = b01 (takenBy I.r d.val (256 * b.val + i.val)) := by
  rw [aB_eq]
  pointwise [k0_pay18]
  have h : ∀ n : ℕ, (FloatOps.sitofp .f32 (BitVec.setWidth 32 (BitVec.ofBool (decide (((n : ℕ) : EReal) ≤ Ideal.ofBits .f32 0x424C0000#32)))) : Ideal .f32)
      = b01 (n ≤ 51) := by
    intro n
    rw [sitofp_ofBool]
    refine b01_congr ?_
    rw [decide_eq_true_iff, ofBits_51]
    exact_mod_cast Iff.rfl
  simp only [o32_apply, cnt32_apply, h, grp_apply, b01_mul]
  rw [sum_b01]
  · refine b01_congr ⟨?_, ?_⟩
    · rintro ⟨e, ⟨hc, hp⟩, hd⟩
      refine ⟨⟨e.val % 4, Nat.mod_lt _ (by decide)⟩, ?_⟩
      show taken I.r (4 * d.val + e.val % 4) _
      rw [show 4 * d.val + e.val % 4 = e.val from by omega]
      exact ⟨hc, hp⟩
    · rintro ⟨l, hl⟩
      have := d.isLt
      have := l.isLt
      exact ⟨⟨4 * d.val + l.val, by omega⟩, ⟨hl.1, hl.2⟩, by show (4 * d.val + l.val) / 4 = d.val; omega⟩
  · intro e e' he he'
    exact Fin.ext (chosen_inj e.isLt e'.isLt he.1.1 he'.1.1)

end Cert.Val

end
-- ==== Proof.ValMessages.lean ====
/-
# The slots of an expert, and the messages

At the ideal instance. Each local expert has 64 slots; its one-hot table `QF` puts the `s`-th token that the expert takes
into slot `s`, and `yB` holds the products of those tokens with the expert's weights. The message for a device gathers,
for the tokens of that device's chunk in their order, what this device's experts make of them.
-/
module

public import proofs.«01_k».proof.Proof.ValTables
public import proofs.«01_k».proof.Proof.IdealProtocol

@[expose] public section

set_option maxRecDepth 16384

noncomputable section

namespace Cert.Val

open Cert.KernelIdeal Cert.KernelIdeal.Gen Cert.KernelIdeal.Run
open Idealize.ShloMosaic

/-- Token `t`'s row of `x` times plane `l` of the weights. -/
def prod (I : Inp Ideal) (t : Fin 2048) (l : Fin 4) (f : Fin 1024) : EReal := ∑ d : Fin 512, I.x (ix2 t d) * I.w (ix3 l d f)
/-- What device `c`'s local expert `l` makes of token `t`: the product where it takes the token, zero elsewhere. -/
def part (c : ℕ) (I : Inp Ideal) (t : Fin 2048) (l : Fin 4) (f : Fin 1024) : EReal :=
  sel (taken I.r (4 * c + l.val) t.val) (prod I t l f)
/-- What device `c`'s four experts make of token `t`, in the order in which the kernel adds. -/
def parts (c : ℕ) (I : Inp Ideal) (t : Fin 2048) (f : Fin 1024) : EReal :=
  part c I t 0 f + part c I t 1 f + part c I t 2 f + part c I t 3 f

/-- Token `i` of chunk `b`. -/
def tok (b : Fin 8) (i : Fin 256) : Fin 2048 := ⟨256 * b.val + i.val, by have := b.isLt; have := i.isLt; omega⟩

/-- A device no expert of which takes the token makes zero of it. -/
theorem parts_none {c : ℕ} {I : Inp Ideal} {t : Fin 2048} {f : Fin 1024} (h : ¬takenBy I.r c t.val) : parts c I t f = 0 := by
  have : ∀ l, part c I t l f = 0 := fun l => sel_neg fun hl => h ⟨l, hl⟩
  simp only [parts, this, add_zero]

/-! ## Tables of the whole list of tokens -/

/-- The counts of the device's experts. -/
theorem CF_apply (c : Dev nD) (I : Inp Ideal) (t : Fin 2048) (l : Fin 4) :
    CF c I (ix2 t l) = ((place I.r (4 * c.val + l.val) t.val : ℕ) : EReal) := by
  have h := cB_apply c I ⟨t.val / 256, by have := t.isLt; omega⟩ ⟨t.val % 256, Nat.mod_lt _ (by decide)⟩ l
  rw [show 256 * (⟨t.val / 256, by have := t.isLt; omega⟩ : Fin 8).val + (⟨t.val % 256, Nat.mod_lt _ (by decide)⟩ : Fin 256).val = t.val from
    Nat.div_add_mod _ _] at h
  exact h
/-- The device's experts that take a token. -/
theorem MF_apply (c : Dev nD) (I : Inp Ideal) (t : Fin 2048) (l : Fin 4) :
    MF c I (ix2 t l) = b01 (taken I.r (4 * c.val + l.val) t.val) := by
  have h := mB_apply c I ⟨t.val / 256, by have := t.isLt; omega⟩ ⟨t.val % 256, Nat.mod_lt _ (by decide)⟩ l
  rw [show 256 * (⟨t.val / 256, by have := t.isLt; omega⟩ : Fin 8).val + (⟨t.val % 256, Nat.mod_lt _ (by decide)⟩ : Fin 256).val = t.val from
    Nat.div_add_mod _ _] at h
  exact h
/-- The devices that take a token. -/
theorem AF_apply (c : Dev nD) (I : Inp Ideal) (t : Fin 2048) (d : Fin 8) :
    AF c I (ix2 t d) = b01 (takenBy I.r d.val t.val) := by
  have h := aB_apply c I ⟨t.val / 256, by have := t.isLt; omega⟩ ⟨t.val % 256, Nat.mod_lt _ (by decide)⟩ d
  rw [show 256 * (⟨t.val / 256, by have := t.isLt; omega⟩ : Fin 8).val + (⟨t.val % 256, Nat.mod_lt _ (by decide)⟩ : Fin 256).val = t.val from
    Nat.div_add_mod _ _] at h
  exact h

/-! ## The slots -/

/-- The column of counts of local expert `l`. -/
def cC (c : Dev nD) (I : Inp Ideal) (l : Fin 4) : Vec Ideal S2048x1 .f32 := match l with
  | 0 => v471 c I
  | 1 => v493 c I
  | 2 => v515 c I
  | 3 => v537 c I
/-- The column of tokens that local expert `l` takes. -/
def mC (c : Dev nD) (I : Inp Ideal) (l : Fin 4) : Vec Ideal S2048x1 .bf16 := match l with
  | 0 => v480 c I
  | 1 => v502 c I
  | 2 => v524 c I
  | 3 => v546 c I
/-- The weights of local expert `l`. -/
def wC (c : Dev nD) (I : Inp Ideal) (l : Fin 4) : Vec Ideal S1x512x1024 .bf16 := match l with
  | 0 => v489 c I
  | 1 => v511 c I
  | 2 => v533 c I
  | 3 => v555 c I
/-- The products of the tokens in local expert `l`'s slots with its weights. -/
def yB (c : Dev nD) (I : Inp Ideal) (l : Fin 4) : FVec Ideal S64x1024 .bf16 := match l with
  | 0 => v492 c I
  | 1 => v514 c I
  | 2 => v536 c I
  | 3 => v558 c I

/-- Each table of slots is the one recipe. -/
theorem qB_eq (c : Dev nD) (I : Inp Ideal) : ∀ l : Fin 4, qB c I l = k0_pay86 (cC c I l) (mC c I l)
  | 0 => rfl
  | 1 => rfl
  | 2 => rfl
  | 3 => rfl
/-- Each table of products is the one recipe. -/
theorem yB_eq (c : Dev nD) (I : Inp Ideal) : ∀ l : Fin 4,
    yB c I l = k0_pay88 (k0_pay87 (cC c I l) (mC c I l) (v486 c I) (wC c I l))
  | 0 => rfl
  | 1 => rfl
  | 2 => rfl
  | 3 => rfl

/-- An entry of a column of counts. -/
theorem cC_apply (c : Dev nD) (I : Inp Ideal) (l : Fin 4) (t : Fin 2048) :
    cC c I l (ix2 t 0) = ((place I.r (4 * c.val + l.val) t.val : ℕ) : EReal) := by
  rw [← CF_apply c I t l]
  have e : ∀ (o : ℕ) (inb : ∀ a : Fin 2, (![0, o] : Fin 2 → ℕ) a + S2048x1.size a ≤ S2048x4.size a), o = l.val →
      (Memref.whole cc0_scratch4 : Memref sig .tc .vmem S2048x4 .f32).view.readAt (Elt Ideal)
        (Rect.unit (s := S2048x4) ![0, o] S2048x1.size inb).toLoadRect (CF c I) (ix2 t 0) = CF c I (ix2 t l) := by
    intro o inb ho
    show CF c I _ = CF c I _
    congr 1
    funext a
    apply Fin.ext
    match a with
    | 0 =>
      show 0 + 1 * t.val = t.val
      omega
    | 1 =>
      show o + 1 * 0 = l.val
      omega
  match l with
  | 0 => exact e 0 _ rfl
  | 1 => exact e 1 _ rfl
  | 2 => exact e 2 _ rfl
  | 3 => exact e 3 _ rfl

/-- An entry of a column of taken tokens. -/
theorem mC_apply (c : Dev nD) (I : Inp Ideal) (l : Fin 4) (t : Fin 2048) :
    mC c I l (ix2 t 0) = b01 (taken I.r (4 * c.val + l.val) t.val) := by
  rw [← MF_apply c I t l]
  have e : ∀ (o : ℕ) (inb : ∀ a : Fin 2, (![0, o] : Fin 2 → ℕ) a + S2048x1.size a ≤ S2048x4.size a), o = l.val →
      (Memref.whole cc0_scratch2 : Memref sig .tc .vmem S2048x4 .bf16).view.readAt (Elt Ideal)
        (Rect.unit (s := S2048x4) ![0, o] S2048x1.size inb).toLoadRect (MF c I) (ix2 t 0) = MF c I (ix2 t l) := by
    intro o inb ho
    show MF c I _ = MF c I _
    congr 1
    funext a
    apply Fin.ext
    match a with
    | 0 =>
      show 0 + 1 * t.val = t.val
      omega
    | 1 =>
      show o + 1 * 0 = l.val
      omega
  match l with
  | 0 => exact e 0 _ rfl
  | 1 => exact e 1 _ rfl
  | 2 => exact e 2 _ rfl
  | 3 => exact e 3 _ rfl

/-- The tokens, copied. -/
theorem x_apply (c : Dev nD) (I : Inp Ideal) (t : Fin 2048) (d : Fin 512) : v486 c I (ix2 t d) = I.x (ix2 t d) := by
  have e1 : v32 c I = I.x := Memref.readAt_unit_zero (Elt Ideal) cc0_stg0_0 (funext fun a => by match a with | 0 => rfl | 1 => rfl) _ _
  have e2 : v486 c I = xb c I := Memref.readAt_unit_zero (Elt Ideal) cc0_scratch0 (funext fun a => by match a with | 0 => rfl | 1 => rfl) _ _
  rw [e2]
  unfold xb
  pointwise [k0_pay1]
  rw [e1]

/-- The weights, copied. -/
theorem w_apply (c : Dev nD) (I : Inp Ideal) (l : Fin 4) (d : Fin 512) (f : Fin 1024) : wC c I l (ix3 0 d f) = I.w (ix3 l d f) := by
  have e1 : v37 c I = I.w := Memref.readAt_unit_zero (Elt Ideal) cc0_stg2_0 (funext fun a => by match a with | 0 => rfl | 1 => rfl | 2 => rfl) _ _
  have e2 : wb c I = I.w := by
    funext i
    idx_vars i
    unfold wb
    pointwise [k0_pay2]
    rw [e1]
  have e : ∀ (o : ℕ) (inb : ∀ a : Fin 3, (![o, 0, 0] : Fin 3 → ℕ) a + S1x512x1024.size a ≤ S4x512x1024.size a), o = l.val →
      (Memref.whole cc0_scratch1 : Memref sig .tc .vmem S4x512x1024 .bf16).view.readAt (Elt Ideal)
        (Rect.unit (s := S4x512x1024) ![o, 0, 0] S1x512x1024.size inb).toLoadRect (wb c I) (ix3 0 d f) = I.w (ix3 l d f) := by
    intro o inb ho
    rw [e2]
    show I.w _ = I.w _
    congr 1
    funext a
    apply Fin.ext
    match a with
    | 0 =>
      show o + 1 * 0 = l.val
      omega
    | 1 =>
      show 0 + 1 * d.val = d.val
      omega
    | 2 =>
      show 0 + 1 * f.val = f.val
      omega
  match l with
  | 0 => exact e 0 _ rfl
  | 1 => exact e 1 _ rfl
  | 2 => exact e 2 _ rfl
  | 3 => exact e 3 _ rfl

/-- Token `t` sits in slot `s` of expert `e`. -/
def inSlot (r : IVec S2048x1 32) (e t s : ℕ) : Prop := place r e t = s + 1 ∧ taken r e t

/-- An entry of the one-hot table before it is stored. -/
theorem q_hot (c : Dev nD) (I : Inp Ideal) (l : Fin 4) (t : Fin 2048) (s : Fin 64) :
    k0_pay85 (cC c I l) (mC c I l) (ix2 t s) = b01 (inSlot I.r (4 * c.val + l.val) t.val s.val) := by
  pointwise [k0_pay85]
  rw [cC_apply, mC_apply]
  refine (congrArg (· * _) (hot .f32 _ s.val (place_lt _ _ _ t.isLt) s.isLt)).trans ?_
  exact b01_mul _ _

/-- An entry of the one-hot table. -/
theorem qB_apply (c : Dev nD) (I : Inp Ideal) (l : Fin 4) (t : Fin 2048) (s : Fin 64) :
    qB c I l (ix3 0 t s) = b01 (inSlot I.r (4 * c.val + l.val) t.val s.val) := by
  rw [qB_eq]
  pointwise [k0_pay86]
  exact q_hot c I l t s

/-- An entry of the four one-hot tables. -/
theorem QF_apply (c : Dev nD) (I : Inp Ideal) (l : Fin 4) (t : Fin 2048) (s : Fin 64) :
    QF c I (ix3 l t s) = b01 (inSlot I.r (4 * c.val + l.val) t.val s.val) := qB_apply c I l t s

/-- A slot holds at most one token. -/
theorem inSlot_inj {r : IVec S2048x1 32} {e t t' s : ℕ} (h : inSlot r e t s) (h' : inSlot r e t' s) : t = t' :=
  cnt_inj (chosen r e) h.2.1 h'.2.1 (h.1.trans h'.1.symm)

/-- The slot of token `t` holds its product. -/
theorem yB_apply (c : Dev nD) (I : Inp Ideal) (l : Fin 4) (t : Fin 2048) (s : Fin 64) (f : Fin 1024)
    (h : inSlot I.r (4 * c.val + l.val) t.val s.val) : yB c I l (ix2 s f) = prod I t l f := by
  rw [yB_eq]
  pointwise [k0_pay88, k0_pay87]
  unfold prod
  refine Finset.sum_congr rfl fun d _ => ?_
  rw [w_apply]
  refine congrArg (· * _) ?_
  simp only [q_hot, x_apply]
  exact sum_sel (fun t : Fin 2048 => inSlot I.r (4 * c.val + l.val) t.val s.val) (fun t => I.x (ix2 t d)) t h
    fun i hi => Fin.ext (inSlot_inj hi h)

/-- A token's one-hot row times the products is what the expert makes of the token. -/
theorem row_part (c : Dev nD) (I : Inp Ideal) (l : Fin 4) (t : Fin 2048) (f : Fin 1024) :
    ∑ s : Fin 64, b01 (inSlot I.r (4 * c.val + l.val) t.val s.val) * yB c I l (ix2 s f) = part c.val I t l f := by
  unfold part
  by_cases h : taken I.r (4 * c.val + l.val) t.val
  · rw [sel_pos h]
    have hp : place I.r (4 * c.val + l.val) t.val = cnt (chosen I.r (4 * c.val + l.val)) t.val + 1 := cnt_succ _ _ h.1
    have h51 := h.2
    have hs : inSlot I.r (4 * c.val + l.val) t.val (⟨cnt (chosen I.r (4 * c.val + l.val)) t.val, by omega⟩ : Fin 64).val := ⟨hp, h⟩
    rw [sum_sel (fun s : Fin 64 => inSlot I.r (4 * c.val + l.val) t.val s.val) (fun s => yB c I l (ix2 s f)) _ hs
      fun s h' => Fin.ext (by have := hs.1; have := h'.1; omega)]
    exact yB_apply c I l t _ f hs
  · rw [sel_neg h]
    exact sum_none (fun s : Fin 64 => inSlot I.r (4 * c.val + l.val) t.val s.val) (fun s => yB c I l (ix2 s f)) fun s h' => h h'.2

/-! ## The compaction of a chunk -/

/-- Row `i` of chunk `b` is the `p`-th one that device `d`'s experts take of it. -/
def inLine (r : IVec S2048x1 32) (d b i p : ℕ) : Prop :=
  cnt (fun j => takenBy r d (256 * b + j)) (i + 1) = p + 1 ∧ takenBy r d (256 * b + i)

/-- A place in the line holds at most one row. -/
theorem inLine_inj {r : IVec S2048x1 32} {d b i i' p : ℕ} (h : inLine r d b i p) (h' : inLine r d b i' p) : i = i' :=
  cnt_inj (fun j => takenBy r d (256 * b + j)) h.2 h'.2 (h.1.trans h'.1.symm)

/-- The one-hot table of the line, from the column of rows taken. -/
theorem line_hot (c : Dev nD) (I : Inp Ideal) (d b : ℕ) (i : Fin 256) (p : Fin 64) (m : Fin 256 → EReal)
    (hm : ∀ j : Fin 256, m j = b01 (takenBy I.r d (256 * b + j.val))) :
    (FloatOps.sitofp .f32 (BitVec.setWidth 32 (IntOp.cmpi .eq (IntOp.subi (FloatOps.fptosi (F := Ideal) (φ := .f32) 32
      (∑ j : Fin 256, v47 c I (ix2 i j) * m j)) 1#32) (BitVec.ofNat 32 p.val))) : Ideal .f32) * m i
      = b01 (inLine I.r d b i.val p.val) := by
  have h : ∑ j : Fin 256, v47 c I (ix2 i j) * m j = ((cnt (fun k => takenBy I.r d (256 * b + k)) (i.val + 1) : ℕ) : EReal) := by
    rw [← sum_tri _ 256 i.val i.isLt]
    exact Finset.sum_congr rfl fun j _ => by rw [tri_apply, hm]
  rw [h, hm]
  refine (congrArg (· * _) (hot .f32 _ p.val ?_ p.isLt)).trans (b01_mul _ _)
  exact lt_of_le_of_lt (cnt_le _ _) (by have := i.isLt; omega)

/-- The four local experts' columns add up to the device's. -/
theorem sum_taken (r : IVec S2048x1 32) (d : Dev nD) (t : ℕ) : ∑ l : Fin 4, b01 (taken r (4 * d.val + l.val) t) = b01 (takenBy r d.val t) := by
  have hd : d.val < 8 := d.isLt
  refine sum_b01 _ fun l l' h h' => Fin.ext ?_
  have hl := l.isLt
  have hl' := l'.isLt
  have := chosen_inj (by omega) (by omega) h.1 h'.1
  omega

end Cert.Val

end
-- ==== Proof.ValOut.lean ====
/-
# The messages and the output at an index

At the ideal instance. Row `p` of the message for device `b` is what the sender's experts make of the `p`-th token of
chunk `b` that they take; the output block of device `c` is, row by row, what all the devices' experts make of the tokens
of chunk `c`, as long as no device has more than 64 of them to send.
-/
module

public import proofs.«01_k».proof.Proof.ValMessages

@[expose] public section

set_option maxRecDepth 16384

noncomputable section

namespace Cert.Val

open Cert.KernelIdeal Cert.KernelIdeal.Gen Cert.KernelIdeal.Run
open Idealize.ShloMosaic

/-! ## The chunk that a message is about -/

/-- The rows of the destination's chunk in the table of taken tokens. -/
def mR (c : Dev nD) (I : Inp Ideal) (k : Fin 7) : Vec Ideal S256x4 .bf16 :=
  (Memref.whole cc0_scratch2 : Memref sig .tc .vmem S2048x4 .bf16).view.readAt (Elt Ideal)
    (Rect.unit (s := S2048x4) (k0_off1 c (BitVec.ofNat 32 (1 + k.val))) S256x4.size (k0_off1_inb c k)).toLoadRect (MF c I)
/-- The rows of the destination's chunk in expert 0's table of slots. -/
def qR0 (c : Dev nD) (I : Inp Ideal) (k : Fin 7) : Vec Ideal S1x256x64 .bf16 :=
  (Memref.whole cc0_scratch5 : Memref sig .tc .vmem S4x2048x64 .bf16).view.readAt (Elt Ideal)
    (Rect.unit (s := S4x2048x64) (k0_off2 c (BitVec.ofNat 32 (1 + k.val))) S1x256x64.size (k0_off2_inb c k)).toLoadRect (QF c I)
/-- The rows of the destination's chunk in expert 1's table of slots. -/
def qR1 (c : Dev nD) (I : Inp Ideal) (k : Fin 7) : Vec Ideal S1x256x64 .bf16 :=
  (Memref.whole cc0_scratch5 : Memref sig .tc .vmem S4x2048x64 .bf16).view.readAt (Elt Ideal)
    (Rect.unit (s := S4x2048x64) (k0_off3 c (BitVec.ofNat 32 (1 + k.val))) S1x256x64.size (k0_off3_inb c k)).toLoadRect (QF c I)
/-- The rows of the destination's chunk in expert 2's table of slots. -/
def qR2 (c : Dev nD) (I : Inp Ideal) (k : Fin 7) : Vec Ideal S1x256x64 .bf16 :=
  (Memref.whole cc0_scratch5 : Memref sig .tc .vmem S4x2048x64 .bf16).view.readAt (Elt Ideal)
    (Rect.unit (s := S4x2048x64) (k0_off4 c (BitVec.ofNat 32 (1 + k.val))) S1x256x64.size (k0_off4_inb c k)).toLoadRect (QF c I)
/-- The rows of the destination's chunk in expert 3's table of slots. -/
def qR3 (c : Dev nD) (I : Inp Ideal) (k : Fin 7) : Vec Ideal S1x256x64 .bf16 :=
  (Memref.whole cc0_scratch5 : Memref sig .tc .vmem S4x2048x64 .bf16).view.readAt (Elt Ideal)
    (Rect.unit (s := S4x2048x64) (k0_off5 c (BitVec.ofNat 32 (1 + k.val))) S1x256x64.size (k0_off5_inb c k)).toLoadRect (QF c I)

/-- The one-hot table that compacts the destination's chunk. -/
def pt (c : Dev nD) (I : Inp Ideal) (k : Fin 7) : FVec Ideal S256x64 .bf16 := k0_pay98 (v47 c I) (v469 c I) (mR c I k)

/-- A message, by the one recipe. -/
def msgC (c : Dev nD) (I : Inp Ideal) (k : Fin 7) : Vec Ideal S1x64x1024 .bf16 :=
  k0_pay101 (yB c I 2) (yB c I 3) (pt c I k) (k0_pay99 (v47 c I) (v469 c I) (yB c I 0) (yB c I 1) (mR c I k) (qR0 c I k) (qR1 c I k))
    (k0_pay100 (v47 c I) (v469 c I) (mR c I k) (qR2 c I k)) (qR3 c I k)

/-- Every message is by the one recipe. -/
theorem msg_eq (c : Dev nD) (I : Inp Ideal) : ∀ k : Fin 7, msg c I k = msgC c I k
  | 0 => rfl
  | 1 => rfl
  | 2 => rfl
  | 3 => rfl
  | 4 => rfl
  | 5 => rfl
  | 6 => rfl

/-- Where the destination's chunk starts in the table of taken tokens. -/
theorem off1_eq : ∀ (c : Dev nD) (k : Fin 7), k0_off1 c (BitVec.ofNat 32 (1 + k.val)) = ![256 * (dest c k).val, 0] := by decide
/-- Where the destination's chunk starts in the four tables of slots. -/
theorem off2_eq : ∀ (c : Dev nD) (k : Fin 7), k0_off2 c (BitVec.ofNat 32 (1 + k.val)) = ![0, 256 * (dest c k).val, 0] := by decide
/-- The same for the second expert. -/
theorem off3_eq : ∀ (c : Dev nD) (k : Fin 7), k0_off3 c (BitVec.ofNat 32 (1 + k.val)) = ![1, 256 * (dest c k).val, 0] := by decide
/-- The same for the third expert. -/
theorem off4_eq : ∀ (c : Dev nD) (k : Fin 7), k0_off4 c (BitVec.ofNat 32 (1 + k.val)) = ![2, 256 * (dest c k).val, 0] := by decide
/-- The same for the fourth expert. -/
theorem off5_eq : ∀ (c : Dev nD) (k : Fin 7), k0_off5 c (BitVec.ofNat 32 (1 + k.val)) = ![3, 256 * (dest c k).val, 0] := by decide
/-- Where the device's own chunk starts. -/
theorem off6_eq : ∀ c : Dev nD, k0_off6 c = ![0, 256 * c.val, 0] := by decide
/-- The same for the second expert. -/
theorem off7_eq : ∀ c : Dev nD, k0_off7 c = ![1, 256 * c.val, 0] := by decide
/-- The same for the third expert. -/
theorem off8_eq : ∀ c : Dev nD, k0_off8 c = ![2, 256 * c.val, 0] := by decide
/-- The same for the fourth expert. -/
theorem off9_eq : ∀ c : Dev nD, k0_off9 c = ![3, 256 * c.val, 0] := by decide
/-- Where the device's own chunk starts in the table of tokens by device. -/
theorem off10_eq : ∀ c : Dev nD, k0_off10 c = ![256 * c.val, 0] := by decide

/-- A read of one chunk of one expert's table of slots. -/
theorem q_read (c : Dev nD) (I : Inp Ideal) (off : Fin 3 → ℕ) (inb : ∀ a : Fin 3, off a + S1x256x64.size a ≤ S4x2048x64.size a)
    (l : Fin 4) (b : Fin 8) (h : off = ![l.val, 256 * b.val, 0]) (i : Fin 256) (s : Fin 64) :
    (Memref.whole cc0_scratch5 : Memref sig .tc .vmem S4x2048x64 .bf16).view.readAt (Elt Ideal)
      (Rect.unit (s := S4x2048x64) off S1x256x64.size inb).toLoadRect (QF c I) (ix3 0 i s)
      = b01 (inSlot I.r (4 * c.val + l.val) (tok b i).val s.val) := by
  subst h
  rw [← QF_apply]
  show QF c I _ = QF c I _
  congr 1
  funext a
  apply Fin.ext
  match a with
  | 0 =>
    show l.val + 1 * 0 = l.val
    omega
  | 1 =>
    show 256 * b.val + 1 * i.val = 256 * b.val + i.val
    omega
  | 2 =>
    show 0 + 1 * s.val = s.val
    omega

/-- The first expert's slots of the destination's chunk, at an index. -/
theorem qR0_apply (c : Dev nD) (I : Inp Ideal) (k : Fin 7) (i : Fin 256) (s : Fin 64) :
    qR0 c I k (ix3 0 i s) = b01 (inSlot I.r (4 * c.val + (0 : Fin 4).val) (tok (dest c k) i).val s.val) := q_read c I _ _ 0 _ (off2_eq c k) i s
/-- The second expert's. -/
theorem qR1_apply (c : Dev nD) (I : Inp Ideal) (k : Fin 7) (i : Fin 256) (s : Fin 64) :
    qR1 c I k (ix3 0 i s) = b01 (inSlot I.r (4 * c.val + (1 : Fin 4).val) (tok (dest c k) i).val s.val) := q_read c I _ _ 1 _ (off3_eq c k) i s
/-- The third expert's. -/
theorem qR2_apply (c : Dev nD) (I : Inp Ideal) (k : Fin 7) (i : Fin 256) (s : Fin 64) :
    qR2 c I k (ix3 0 i s) = b01 (inSlot I.r (4 * c.val + (2 : Fin 4).val) (tok (dest c k) i).val s.val) := q_read c I _ _ 2 _ (off4_eq c k) i s
/-- The fourth expert's. -/
theorem qR3_apply (c : Dev nD) (I : Inp Ideal) (k : Fin 7) (i : Fin 256) (s : Fin 64) :
    qR3 c I k (ix3 0 i s) = b01 (inSlot I.r (4 * c.val + (3 : Fin 4).val) (tok (dest c k) i).val s.val) := q_read c I _ _ 3 _ (off5_eq c k) i s

/-- The taken tokens of the destination's chunk. -/
theorem mR_apply (c : Dev nD) (I : Inp Ideal) (k : Fin 7) (i : Fin 256) (l : Fin 4) :
    mR c I k (ix2 i l) = b01 (taken I.r (4 * c.val + l.val) (256 * (dest c k).val + i.val)) := by
  have e : ∀ (off : Fin 2 → ℕ) (inb : ∀ a : Fin 2, off a + S256x4.size a ≤ S2048x4.size a), off = ![256 * (dest c k).val, 0] →
      (Memref.whole cc0_scratch2 : Memref sig .tc .vmem S2048x4 .bf16).view.readAt (Elt Ideal)
        (Rect.unit (s := S2048x4) off S256x4.size inb).toLoadRect (MF c I) (ix2 i l) = MF c I (ix2 (tok (dest c k) i) l) := by
    intro off inb h
    subst h
    show MF c I _ = MF c I _
    congr 1
    funext a
    apply Fin.ext
    match a with
    | 0 =>
      show 256 * (dest c k).val + 1 * i.val = 256 * (dest c k).val + i.val
      omega
    | 1 =>
      show 0 + 1 * l.val = l.val
      omega
  exact (e _ _ (off1_eq c k)).trans (MF_apply c I (tok (dest c k) i) l)

/-- The numbers of the places in the line. -/
theorem place_no (c : Dev nD) (I : Inp Ideal) (i : Fin 256) (p : Fin 64) : v469 c I (ix2 i p) = BitVec.ofNat 32 p.val := by
  pointwise [v469]

/-- The compaction's one-hot table. -/
theorem pt_apply (c : Dev nD) (I : Inp Ideal) (k : Fin 7) (i : Fin 256) (p : Fin 64) :
    k0_pay98 (v47 c I) (v469 c I) (mR c I k) (ix2 i p) = b01 (inLine I.r c.val (dest c k).val i.val p.val) := by
  have hs : ∀ j : Fin 256, ∑ l : Fin 4, mR c I k (ix2 j l) = b01 (takenBy I.r c.val (256 * (dest c k).val + j.val)) := fun j => by
    simp only [mR_apply]
    exact sum_taken _ _ _
  pointwise [k0_pay98]
  rw [place_no]
  exact line_hot c I c.val (dest c k).val i p (fun j => ∑ l : Fin 4, mR c I k (ix2 j l)) hs

/-- One expert's share of a row of a message. -/
theorem msg_part (c : Dev nD) (I : Inp Ideal) (k : Fin 7) (i : Fin 256) (p : Fin 64) (f : Fin 1024) (l : Fin 4)
    (h : inLine I.r c.val (dest c k).val i.val p.val) :
    ∑ s : Fin 64, (∑ j : Fin 256, b01 (inLine I.r c.val (dest c k).val j.val p.val) *
      b01 (inSlot I.r (4 * c.val + l.val) (tok (dest c k) j).val s.val)) * yB c I l (ix2 s f) = part c.val I (tok (dest c k) i) l f := by
  rw [← row_part]
  refine Finset.sum_congr rfl fun s _ => congrArg (· * _) ?_
  exact sum_sel (fun j : Fin 256 => inLine I.r c.val (dest c k).val j.val p.val)
    (fun j => b01 (inSlot I.r (4 * c.val + l.val) (tok (dest c k) j).val s.val)) i h fun j hj => Fin.ext (inLine_inj hj h)

/-- Row `p` of the message for the device at distance `k + 1`: what this device's experts make of the `p`-th token of that
    device's chunk that they take. -/
theorem msg_apply (c : Dev nD) (I : Inp Ideal) (k : Fin 7) (i : Fin 256) (p : Fin 64) (f : Fin 1024)
    (h : inLine I.r c.val (dest c k).val i.val p.val) : msg c I k (ix3 0 p f) = parts c.val I (tok (dest c k) i) f := by
  rw [msg_eq]
  unfold msgC pt
  pointwise [k0_pay101, k0_pay99, k0_pay100]
  simp only [pt_apply, qR0_apply, qR1_apply, qR2_apply, qR3_apply]
  simp only [msg_part c I k i p f _ h]
  rfl

/-! ## The output -/

/-- The one-hot table that spreads a received message over the device's chunk: that of the device `w` places back. -/
def spread (c : Dev nD) (I : Inp Ideal) (w : BitVec 32) : FVec Ideal S256x64 .bf16 :=
  let sel : FVec Ideal S8x1 .bf16 := truncf .bf16 (sitofp .f32 (extui 32 (cmpi .eq (v1056 c I)
    (broadcast S8x1 (Scalar.remsi (Scalar.subi (Scalar.addi (v2 c I) 8#32) w) 8#32))) natLt_1_32)) bitsLt_bf16_f32
  let col : FVec Ideal S256x1 .bf16 := truncf .bf16
    (matmul (φ₁ := .bf16) dot_S256x8_S8x1_S256x1_1_0_0_1_n_n none (v1055 c I) sel (constant S256x1 .f32 0x00000000#32)) bitsLt_bf16_f32
  let rank : IVec S256x1 32 := subi (fptosi 32
    (matmul (φ₁ := .bf16) dot_S256x256_S256x1_S256x1_1_0_0_1_n_n none (v47 c I) col (constant S256x1 .f32 0x00000000#32))) (broadcast S256x1 1#32)
  mulf (truncf .bf16 (sitofp .f32 (extui 32 (cmpi .eq (broadcastTo S256x64 rank broadcasts_S256x1_S256x64) (v469 c I)) natLt_1_32)) bitsLt_bf16_f32)
    (broadcastTo S256x64 col broadcasts_S256x1_S256x64)

/-- The kernel's seven tables are the one recipe. -/
theorem spread0 (c : Dev nD) (I : Inp Ideal) : k0_pay126 (v2 c I) (v47 c I) (v469 c I) (v1055 c I) = spread c I 1#32 := rfl
/-- The second table. -/
theorem spread1 (c : Dev nD) (I : Inp Ideal) : k0_pay128 (v2 c I) (v47 c I) (v469 c I) (v1055 c I) (v1056 c I) = spread c I 2#32 := rfl
/-- The third table. -/
theorem spread2 (c : Dev nD) (I : Inp Ideal) : k0_pay130 (v2 c I) (v47 c I) (v469 c I) (v1055 c I) (v1056 c I) = spread c I 3#32 := rfl
/-- The fourth table. -/
theorem spread3 (c : Dev nD) (I : Inp Ideal) : k0_pay132 (v2 c I) (v47 c I) (v469 c I) (v1055 c I) (v1056 c I) = spread c I 4#32 := rfl
/-- The fifth table. -/
theorem spread4 (c : Dev nD) (I : Inp Ideal) : k0_pay134 (v2 c I) (v47 c I) (v469 c I) (v1055 c I) (v1056 c I) = spread c I 5#32 := rfl

/-- The sum after the first messages. -/
def acc (c : Dev nD) (I : Inp Ideal) (G : Fin 7 → Vec Ideal S1x64x1024 .bf16) : ℕ → FVec Ideal S256x1024 .f32
  | 0 => v1052 c I
  | n + 1 => k0_pay129 (acc c I G n) (spread c I (BitVec.ofNat 32 (1 + n))) (G ⟨n % 7, Nat.mod_lt _ (by decide)⟩)
/-- The kernel's sum after one message. -/
theorem acc1 (c : Dev nD) (I : Inp Ideal) (G : Fin 7 → Vec Ideal S1x64x1024 .bf16) : v1089 c I G = acc c I G 1 := by
  unfold v1089 v1077 v1086 k0_pay127
  rw [spread0]
  rfl
/-- After two. -/
theorem acc2 (c : Dev nD) (I : Inp Ideal) (G : Fin 7 → Vec Ideal S1x64x1024 .bf16) : v1122 c I G = acc c I G 2 := by
  unfold v1122 v1110 v1119
  rw [spread1, acc1]
  rfl
/-- After three. -/
theorem acc3 (c : Dev nD) (I : Inp Ideal) (G : Fin 7 → Vec Ideal S1x64x1024 .bf16) : v1155 c I G = acc c I G 3 := by
  unfold v1155 v1143 v1152 k0_pay131
  rw [spread2, acc2]
  rfl
/-- After four. -/
theorem acc4 (c : Dev nD) (I : Inp Ideal) (G : Fin 7 → Vec Ideal S1x64x1024 .bf16) : v1188 c I G = acc c I G 4 := by
  unfold v1188 v1176 v1185 k0_pay133
  rw [spread3, acc3]
  rfl
/-- After six. -/
theorem acc6 (c : Dev nD) (I : Inp Ideal) (G : Fin 7 → Vec Ideal S1x64x1024 .bf16) : v1254 c I G = acc c I G 6 := by
  unfold v1254 v1209 v1219 v1218 v1251 k0_pay135
  rw [spread4, acc4]
  rfl
/-- The output is the device's own part and then seven spread messages, added one by one. -/
theorem outF_eq (c : Dev nD) (I : Inp Ideal) (G : Fin 7 → Vec Ideal S1x64x1024 .bf16) : outF c I G = acc c I G 7 := by
  unfold outF v1284
  rw [acc6]
  rfl

/-- The device's own rows of the table of devices. -/
theorem a_own (c : Dev nD) (I : Inp Ideal) (i : Fin 256) (x : Fin 8) :
    v1055 c I (ix2 i x) = b01 (takenBy I.r x.val (256 * c.val + i.val)) := by
  have e : ∀ (off : Fin 2 → ℕ) (inb : ∀ a : Fin 2, off a + S256x8.size a ≤ S2048x8.size a), off = ![256 * c.val, 0] →
      (Memref.whole cc0_scratch3 : Memref sig .tc .vmem S2048x8 .bf16).view.readAt (Elt Ideal)
        (Rect.unit (s := S2048x8) off S256x8.size inb).toLoadRect (AF c I) (ix2 i x) = AF c I (ix2 (tok c i) x) := by
    intro off inb h
    subst h
    show AF c I _ = AF c I _
    congr 1
    funext a
    apply Fin.ext
    match a with
    | 0 =>
      show 256 * c.val + 1 * i.val = 256 * c.val + i.val
      omega
    | 1 =>
      show 0 + 1 * x.val = x.val
      omega
  exact (e _ _ (off10_eq c)).trans (AF_apply c I (tok c i) x)

/-- The numbers of the devices. -/
theorem dev_no (c : Dev nD) (I : Inp Ideal) (x : Fin 8) : v1056 c I (ix2 x 0) = BitVec.ofNat 32 x.val := by
  pointwise [v1056]

/-- The word that names the sender of slot `k`. -/
theorem orig_word : ∀ (c : Dev nD) (k : Fin 7) (x : Fin 8),
    BitVec.ofNat 32 x.val = Scalar.remsi (Scalar.subi (Scalar.addi (Scalar.remsi (Scalar.divsi (Dev.word c) 1#32) 8#32) 8#32)
      (BitVec.ofNat 32 (1 + k.val))) 8#32 ↔ x = orig c k := by decide

/-- The word that names the sender, as the kernel computes it. -/
theorem sender_word (c : Dev nD) (I : Inp Ideal) (k : Fin 7) (x : Fin 8) :
    BitVec.ofNat 32 x.val = Scalar.remsi (Scalar.subi (Scalar.addi (v2 c I) 8#32) (BitVec.ofNat 32 (1 + k.val))) 8#32 ↔ x = orig c k := by
  have h : v2 c I = Scalar.remsi (Scalar.divsi (Dev.word c) 1#32) 8#32 := rfl
  rw [h]
  exact orig_word c k x

/-- The table that spreads the message of slot `k`. -/
theorem spread_apply (c : Dev nD) (I : Inp Ideal) (k : Fin 7) (i : Fin 256) (p : Fin 64) :
    spread c I (BitVec.ofNat 32 (1 + k.val)) (ix2 i p) = b01 (inLine I.r (orig c k).val c.val i.val p.val) := by
  have hs : ∀ j : Fin 256, ∑ x : Fin 8, v1055 c I (ix2 j x) * (FloatOps.sitofp .f32 (BitVec.setWidth 32 (IntOp.cmpi .eq (BitVec.ofNat 32 x.val)
      (Scalar.remsi (Scalar.subi (Scalar.addi (v2 c I) 8#32) (BitVec.ofNat 32 (1 + k.val))) 8#32))) : Ideal .f32)
        = b01 (takenBy I.r (orig c k).val (256 * c.val + j.val)) := fun j => by
    simp only [sitofp_eq, a_own]
    have : ∀ x : Fin 8, b01 (takenBy I.r x.val (256 * c.val + j.val)) * b01 (BitVec.ofNat 32 x.val =
        (Scalar.remsi (Scalar.subi (Scalar.addi (v2 c I) 8#32) (BitVec.ofNat 32 (1 + k.val))) 8#32))
          = b01 (x = orig c k) * b01 (takenBy I.r x.val (256 * c.val + j.val)) := fun x => by
      rw [mul_comm, b01_congr (sender_word c I k x)]
    simp only [this]
    exact sum_sel (fun x : Fin 8 => x = orig c k) (fun x => b01 (takenBy I.r x.val (256 * c.val + j.val))) _ rfl fun _ h => h
  pointwise [spread]
  simp only [place_no, dev_no]
  exact line_hot c I (orig c k).val c.val i p _ hs

/-- The device's own part of a row. -/
theorem own_apply (c : Dev nD) (I : Inp Ideal) (i : Fin 256) (f : Fin 1024) : v1052 c I (ix2 i f) = parts c.val I (tok c i) f := by
  have h0 : ∀ s : Fin 64, v1031 c I (ix3 0 i s) = b01 (inSlot I.r (4 * c.val + (0 : Fin 4).val) (tok c i).val s.val) :=
    fun s => q_read c I _ _ 0 _ (off6_eq c) i s
  have h1 : ∀ s : Fin 64, v1037 c I (ix3 0 i s) = b01 (inSlot I.r (4 * c.val + (1 : Fin 4).val) (tok c i).val s.val) :=
    fun s => q_read c I _ _ 1 _ (off7_eq c) i s
  have h2 : ∀ s : Fin 64, v1043 c I (ix3 0 i s) = b01 (inSlot I.r (4 * c.val + (2 : Fin 4).val) (tok c i).val s.val) :=
    fun s => q_read c I _ _ 2 _ (off8_eq c) i s
  have h3 : ∀ s : Fin 64, v1049 c I (ix3 0 i s) = b01 (inSlot I.r (4 * c.val + (3 : Fin 4).val) (tok c i).val s.val) :=
    fun s => q_read c I _ _ 3 _ (off9_eq c) i s
  have e : v1052 c I = k0_pay125 (yB c I 1) (yB c I 2) (yB c I 3) (k0_pay124 (yB c I 0) (v1031 c I)) (v1037 c I) (v1043 c I) (v1049 c I) := rfl
  rw [e]
  pointwise [k0_pay125, k0_pay124]
  simp only [h0, h1, h2, h3]
  simp only [row_part]
  rfl

/-- One step of the sum over the messages. -/
theorem step_apply (c : Dev nD) (I : Inp Ideal) (k : Fin 7) (A : FVec Ideal S256x1024 .f32) (G : Vec Ideal S1x64x1024 .bf16)
    (i : Fin 256) (f : Fin 1024) :
    k0_pay129 A (spread c I (BitVec.ofNat 32 (1 + k.val))) G (ix2 i f) =
      A (ix2 i f) + ∑ p : Fin 64, b01 (inLine I.r (orig c k).val c.val i.val p.val) * G (ix3 0 p f) := by
  pointwise [k0_pay129]
  simp only [spread_apply]

/-- No device has more than 64 tokens of another device's chunk to send. -/
def Fits (r : IVec S2048x1 32) : Prop :=
  ∀ b d : Dev nD, b ≠ d → cnt (fun j => takenBy r d.val (256 * b.val + j)) 256 ≤ 64

/-- The sender of a slot is another device. -/
theorem orig_ne : ∀ (c : Dev nD) (k : Fin 7), c ≠ orig c k := by decide

/-- A received message, spread: what the sender's experts make of the token. -/
theorem recv_apply (c : Dev nD) (k : Fin 7) (J : Inp Ideal) (r : IVec S2048x1 32) (hr : J.r = r) (hf : Fits r)
    (i : Fin 256) (f : Fin 1024) :
    ∑ p : Fin 64, b01 (inLine r (orig c k).val c.val i.val p.val) * msg (orig c k) J k (ix3 0 p f)
      = parts (orig c k).val J (tok c i) f := by
  subst hr
  by_cases h : takenBy J.r (orig c k).val (256 * c.val + i.val)
  · have h64 := hf c (orig c k) (orig_ne c k)
    have hm : cnt (fun j => takenBy J.r (orig c k).val (256 * c.val + j)) (i.val + 1)
        ≤ cnt (fun j => takenBy J.r (orig c k).val (256 * c.val + j)) 256 := cnt_mono _ (by have := i.isLt; omega)
    have hs : cnt (fun j => takenBy J.r (orig c k).val (256 * c.val + j)) (i.val + 1)
        = cnt (fun j => takenBy J.r (orig c k).val (256 * c.val + j)) i.val + 1 := cnt_succ _ _ h
    have hl : inLine J.r (orig c k).val c.val i.val
        (⟨cnt (fun j => takenBy J.r (orig c k).val (256 * c.val + j)) i.val, by omega⟩ : Fin 64).val := ⟨hs, h⟩
    rw [sum_sel (fun p : Fin 64 => inLine J.r (orig c k).val c.val i.val p.val) (fun p => msg (orig c k) J k (ix3 0 p f)) _ hl
      fun p hp => Fin.ext (by have := hp.1; have := hl.1; omega)]
    have := msg_apply (orig c k) J k i _ f (by rw [dest_orig]; exact hl)
    rw [dest_orig] at this
    exact this
  · rw [parts_none h]
    exact sum_none (fun p : Fin 64 => inLine J.r (orig c k).val c.val i.val p.val) (fun p => msg (orig c k) J k (ix3 0 p f)) fun p hp => h hp.2

/-- The output block of device `c`, where every device `d` works from `J d` with the same routing. -/
theorem out_apply (c : Dev nD) (J : Dev nD → Inp Ideal) (r : IVec S2048x1 32) (hr : ∀ d, (J d).r = r) (hf : Fits r)
    (i : Fin 256) (f : Fin 1024) :
    outF c (J c) (fun k => msg (orig c k) (J (orig c k)) k) (ix2 i f) =
      parts c.val (J c) (tok c i) f + ∑ k : Fin 7, parts (orig c k).val (J (orig c k)) (tok c i) f := by
  rw [outF_eq]
  have s := fun (k : Fin 7) (A : FVec Ideal S256x1024 .f32) =>
    (step_apply c (J c) k A (msg (orig c k) (J (orig c k)) k) i f).trans
      (congrArg (A (ix2 i f) + ·) ((congrArg (fun r => ∑ p : Fin 64, b01 (inLine r (orig c k).val c.val i.val p.val) *
        msg (orig c k) (J (orig c k)) k (ix3 0 p f)) (hr c)).trans (recv_apply c k (J (orig c k)) r (hr _) hf i f)))
  refine (s 6 _).trans ?_
  refine (congrArg (· + _) ((s 5 _).trans (congrArg (· + _) ((s 4 _).trans (congrArg (· + _) ((s 3 _).trans (congrArg (· + _)
    ((s 2 _).trans (congrArg (· + _) ((s 1 _).trans (congrArg (· + _) ((s 0 _).trans (congrArg (· + _) (own_apply c (J c) i f)))))))))))))).trans ?_
  simp only [Fin.sum_univ_seven, add_assoc]

/-- A sum over all devices, from one of them and the senders of its seven slots. -/
theorem sum_orig (c : Dev nD) (g : Dev nD → EReal) : g c + ∑ k : Fin 7, g (orig c k) = ∑ d : Dev nD, g d := by
  have h : ∀ c : Dev nD, (Finset.univ : Finset (Dev nD)) = insert c (Finset.univ.image (orig c)) := by decide
  have hi : ∀ c : Dev nD, Function.Injective (orig c) := by decide
  rw [h c, Finset.sum_insert (by revert c; decide), Finset.sum_image fun a _ b _ e => hi c e]

end Cert.Val

end
-- ==== Proof.ValRef.lean ====
/-
# The reference and the precondition at an index

The routing table as the reference and the precondition print it, read back as counts; the reference's entry as a sum over
the experts; and the precondition as a bound on the number of tokens that a device takes of another device's chunk.
-/
module

public import proofs.«01_k».proof.Proof.ValOut
public import proofs.«01_k».proof.Proof.Gen.Pre_fits_KernelIdeal
public import proofs.«01_k».proof.Proof.Gen.ReferenceIdeal
public import Idealize.ShloMosaic.Lib.Routing.Ops

@[expose] public section

set_option maxRecDepth 16384

noncomputable section

namespace Cert.Val

open Idealize.ShloMosaic

/-! ## Sums of words -/

/-- A natural below half the modulus is the signed reading of the word that holds it. -/
theorem toInt_small (n : ℕ) (h : n < 2 ^ 31) : (BitVec.ofNat 32 n).toInt = n := by
  rw [BitVec.toInt_eq_toNat_of_lt (by rw [BitVec.toNat_ofNat]; omega), BitVec.toNat_ofNat]
  omega

/-- A fold of word addition over words that hold naturals holds their sum. -/
theorem fold_words {n : ℕ} (g : Fin n → ℕ) : Finset.fold IntOp.addi 0#32 (fun x => BitVec.ofNat 32 (g x)) Finset.univ = BitVec.ofNat 32 (∑ x, g x) := by
  have h : ∀ s : Finset (Fin n), Finset.fold IntOp.addi 0#32 (fun x => BitVec.ofNat 32 (g x)) s = BitVec.ofNat 32 (∑ x ∈ s, g x) := by
    intro s
    induction s using Finset.induction with
    | empty => rfl
    | insert a s ha ih =>
      rw [Finset.fold_insert ha, Finset.sum_insert ha, ih]
      exact (BitVec.ofNat_add _ _).symm
  exact h _

/-- The number that says whether a statement holds. -/
def n01 (p : Prop) : ℕ := by classical exact if p then 1 else 0
/-- Of a true statement it is one. -/
theorem n01_pos {p : Prop} (h : p) : n01 p = 1 := if_pos h
/-- Of a false one it is zero. -/
theorem n01_neg {p : Prop} (h : ¬p) : n01 p = 0 := if_neg h

/-- The sum of the statements about the numbers below `n` is the count. -/
theorem sum_n01 (P : ℕ → Prop) (n : ℕ) : ∑ j : Fin n, n01 (P j.val) = cnt P n := by
  classical
  rw [Fin.sum_univ_eq_sum_range (fun j => n01 (P j))]
  unfold cnt
  induction n with
  | zero => simp
  | succ n ih =>
    rw [Finset.sum_range_succ, ih, Nat.count_succ]
    rfl

/-- The same, over a list. -/
theorem list_n01 (P : ℕ → Prop) (n : ℕ) : ((List.range n).map fun k => n01 (P k)).sum = cnt P n := by
  rw [← sum_n01, Fin.sum_univ_eq_sum_range (fun j => n01 (P j))]
  rfl

/-- A sum of statements of which at most one holds. -/
theorem sum_n01_unique {n : ℕ} (Q : Fin n → Prop) (hu : ∀ i j, Q i → Q j → i = j) : ∑ i, n01 (Q i) = n01 (∃ i, Q i) := by
  by_cases h : ∃ i, Q i
  · obtain ⟨j, hj⟩ := h
    rw [n01_pos ⟨j, hj⟩, Finset.sum_eq_single j, n01_pos hj]
    · intro i _ hi
      exact n01_neg fun h => hi (hu i j h hj)
    · exact fun h => absurd (Finset.mem_univ j) h
  · rw [n01_neg h]
    exact Finset.sum_eq_zero fun i _ => n01_neg fun hi => h ⟨i, hi⟩

/-- A truth bit, widened, holds the number of its statement. -/
theorem widen_bit (x : BitVec 1) (p : Prop) (h : x = 1#1 ↔ p) : BitVec.setWidth 32 x = BitVec.ofNat 32 (n01 p) := by
  rcases BitVec.eq_zero_or_eq_one x with rfl | rfl
  · rw [n01_neg fun hp => absurd (h.2 hp) (by decide)]
    rfl
  · rw [n01_pos (h.1 rfl)]
    rfl

/-- A running sum down the columns of a table, as it prints: a window over all rows, padded above. Where the column holds
    naturals, row `j` of the result holds the sum of the first `j + 1`. -/
theorem column_sum {N M N' : ℕ} (hN : N' + 1 = N) (x : IVec ⟨2, ![N, M]⟩ 32) (f : ℕ → ℕ) (e : Fin M)
    (hx : ∀ i : Fin N, x (ix2 i e) = BitVec.ofNat 32 (f i.val)) (init : IVec ⟨0, ![]⟩ 32) (hi : ∀ i, init i = 0#32)
    (h : (⟨2, ![N, M]⟩ : Shape).ReduceWindows (![N, 1] : Fin 2 → ℕ) ![1, 1] ![N', 0] ![0, 0] ⟨2, ![N, M]⟩)
    (hu : 0 < (⟨0, ![]⟩ : Shape).numel) (j : Fin N) :
    Host.reduceWindow IntOp.addi ![N, 1] ![1, 1] ![N', 0] ![0, 0] x init h hu (ix2 j e) = BitVec.ofNat 32 ((List.range (j.val + 1)).map f).sum := by
  subst hN
  have hj := j.isLt
  have hn1 : (⟨2, ![N' + 1, 1]⟩ : Shape).numel = N' + 1 := by
    show ∏ a : Fin 2, (![N' + 1, 1] : Fin 2 → ℕ) a = N' + 1
    rw [Fin.prod_univ_two]
    exact Nat.mul_one _
  have hw1 : ∀ n, ((⟨2, ![N' + 1, 1]⟩ : Shape).rowMajor.symm n 1).val = 0 := fun n => by
    have h : ((⟨2, ![N' + 1, 1]⟩ : Shape).rowMajor.symm n 1).val < 1 := ((⟨2, ![N' + 1, 1]⟩ : Shape).rowMajor.symm n 1).isLt
    omega
  have hw0 : ∀ n, ((⟨2, ![N' + 1, 1]⟩ : Shape).rowMajor.symm n 0).val = n.val := fun n => by
    have h := Shape.rowMajor_val_two ((⟨2, ![N' + 1, 1]⟩ : Shape).rowMajor.symm n)
    rw [Equiv.apply_symm_apply, hw1] at h
    have h' : n.val = ((⟨2, ![N' + 1, 1]⟩ : Shape).rowMajor.symm n 0).val * 1 + 0 := h
    omega
  unfold Host.reduceWindow
  refine (Routing.foldl_addi_ofNat _ _ (fun n => if N' ≤ j.val + n.val then f (j.val + n.val - N') else 0) (fun n _ => ?_) _ 0 (hi _)).trans ?_
  · have hn : n.val < N' + 1 := (n.cast hn1).isLt
    dsimp only
    by_cases hle : N' ≤ j.val + n.val
    · rw [if_pos hle, dif_pos]
      · refine (congrArg x (funext fun a => Fin.ext ?_)).trans (hx ⟨j.val + n.val - N', by omega⟩)
        match a with
        | ⟨0, _⟩ =>
          show j.val * 1 + ((⟨2, ![N' + 1, 1]⟩ : Shape).rowMajor.symm n 0).val - N' = j.val + n.val - N'
          rw [hw0, Nat.mul_one]
        | ⟨1, _⟩ =>
          show e.val * 1 + ((⟨2, ![N' + 1, 1]⟩ : Shape).rowMajor.symm n 1).val - 0 = e.val
          rw [hw1]
          omega
      · intro a
        match a with
        | ⟨0, _⟩ =>
          show N' ≤ j.val * 1 + ((⟨2, ![N' + 1, 1]⟩ : Shape).rowMajor.symm n 0).val
            ∧ j.val * 1 + ((⟨2, ![N' + 1, 1]⟩ : Shape).rowMajor.symm n 0).val - N' < N' + 1
          rw [hw0]
          omega
        | ⟨1, _⟩ =>
          show 0 ≤ e.val * 1 + ((⟨2, ![N' + 1, 1]⟩ : Shape).rowMajor.symm n 1).val
            ∧ e.val * 1 + ((⟨2, ![N' + 1, 1]⟩ : Shape).rowMajor.symm n 1).val - 0 < M
          rw [hw1]
          have := e.isLt
          omega
    · rw [if_neg hle, dif_neg]
      · exact hi _
      · intro hin
        have h0 : N' ≤ j.val * 1 + ((⟨2, ![N' + 1, 1]⟩ : Shape).rowMajor.symm n 0).val := (hin 0).1
        rw [hw0] at h0
        omega
  · rw [Nat.zero_add, Routing.map_finRange_val _ (fun w => if N' ≤ j.val + w then f (j.val + w - N') else 0), hn1,
      Routing.sum_window f N' j.val (by omega)]

/-! ## The routing table -/

section Table

open Cert.Pre_fits_KernelIdeal Cert.Pre_fits_KernelIdeal.Gen

/-- Which experts a token is routed to. -/
def chosenW (r : IVec S2048x1 32) : IVec S2048x32 1 :=
  cmpi .eq (broadcastInDim S2048x32 ![0, 1] bcast_S2048x1_S2048x32_0_1 r)
    (broadcastInDim S2048x32 ![0, 1] bcast_S1x32_S2048x32_0_1 (broadcastInDim S1x32 ![1] bcast_S32_S1x32_1 (iotaInDim S32 32 0)))
/-- Their running counts. -/
def placeW (r : IVec S2048x1 32) : IVec S2048x32 32 :=
  Host.reduceWindow IntOp.addi ![2048, 1] ![1, 1] ![2047, 0] ![0, 0] (extui 32 (chosenW r) natLt_1_32)
    (broadcastInDim S_ ![] bcast_S_S_ (constantI S_ 32 0#32)) reduceWindows_S2048x32_S2048x32_w2048s1p2047_0_w1s1p0_0 h_S_
/-- Which experts take a token. -/
def takenW (r : IVec S2048x1 32) : IVec S2048x32 1 :=
  andi (chosenW r) (cmpi .sle (placeW r) (broadcastInDim S2048x32 ![] bcast_S_S2048x32 (constantI S_ 32 51#32)))

/-- The word of a token of the list. -/
theorem wd_fin (r : IVec S2048x1 32) (t : Fin 2048) : wd r t.val = r (ix2 t 0) := by
  unfold wd
  congr 2
  exact Fin.ext (Nat.mod_eq_of_lt t.isLt)

/-- A comparison for equality. -/
theorem cmp_eq_iff (a b : BitVec 32) : IntOp.cmpi .eq a b = 1#1 ↔ a = b := by
  show BitVec.ofBool (a == b) = 1#1 ↔ a = b
  by_cases h : a = b
  · simp [h]
  · rw [beq_eq_false_iff_ne.2 h]
    exact iff_of_false (by decide) h

/-- The printed table of the experts chosen says what it names. -/
theorem chosenW_apply (r : IVec S2048x1 32) (t : Fin 2048) (e : Fin 32) : chosenW r (ix2 t e) = 1#1 ↔ chosen r e.val t.val := by
  pointwise [chosenW]
  rw [cmp_eq_iff]
  unfold chosen
  rw [wd_fin]

/-- The printed running count holds the count. -/
theorem placeW_apply (r : IVec S2048x1 32) (t : Fin 2048) (e : Fin 32) : placeW r (ix2 t e) = BitVec.ofNat 32 (place r e.val t.val) := by
  unfold placeW place
  rw [← list_n01]
  exact column_sum (N' := 2047) rfl _ (fun k => n01 (chosen r e.val k)) e (fun i => widen_bit _ _ (chosenW_apply r i e)) _ (fun _ => rfl) _ _ t

/-- The printed table of the tokens taken says what it names. -/
theorem takenW_apply (r : IVec S2048x1 32) (t : Fin 2048) (e : Fin 32) : takenW r (ix2 t e) = 1#1 ↔ taken r e.val t.val := by
  have h1 := chosenW_apply r t e
  have h2 := placeW_apply r t e
  have hp := place_lt r e.val t.val t.isLt
  have h3 : IntOp.cmpi .sle (placeW r (ix2 t e)) 51#32 = 1#1 ↔ place r e.val t.val ≤ 51 := by
    rw [h2]
    show BitVec.ofBool (BitVec.sle _ _) = 1#1 ↔ _
    rw [BitVec.sle, toInt_small _ (by omega)]
    have : (51#32).toInt = 51 := by decide
    rw [this]
    by_cases h : place r e.val t.val ≤ 51
    · simp [h]
    · simp [h]
  unfold taken
  rw [← h1, ← h3]
  show IntOp.andi (chosenW r (ix2 t e)) (IntOp.cmpi .sle (placeW r (ix2 t e)) 51#32) = 1#1 ↔ _
  generalize chosenW r (ix2 t e) = a
  generalize IntOp.cmpi .sle (placeW r (ix2 t e)) 51#32 = b
  revert a b
  decide

/-! ## The precondition -/

/-- How many of a chunk's tokens each device takes, as the precondition prints it. -/
def sentW (r : IVec S2048x1 32) : IVec S8x8 32 :=
  Host.reduce IntOp.addi (shapeCast S8x256x8 (Host.reduce IntOp.addi (extui 32 (shapeCast S2048x8x4 (takenW r) shapeCasts_S2048x32_S2048x8x4) natLt_1_32)
    (constantI S_ 32 0#32) reducesTo_S2048x8x4_S2048x8_d2 h_S_) shapeCasts_S2048x8_S8x256x8) (constantI S_ 32 0#32) reducesTo_S8x256x8_S8x8_d1 h_S_

/-- An entry of it holds the count of the tokens of chunk `b` that device `d` takes. -/
theorem sentW_apply (r : IVec S2048x1 32) (b d : Fin 8) :
    sentW r (ix2 b d) = BitVec.ofNat 32 (cnt (fun j => takenBy r d.val (256 * b.val + j)) 256) := by
  pointwise [sentW]
  have h : ∀ (j : Fin 256) (l : Fin 4) (h1 : b.val * 256 + j.val < 2048) (h2 : d.val * 4 + l.val < 32),
      BitVec.setWidth 32 (takenW r (ix2 ⟨b.val * 256 + j.val, h1⟩ ⟨d.val * 4 + l.val, h2⟩))
        = BitVec.ofNat 32 (n01 (taken r (4 * d.val + l.val) (256 * b.val + j.val))) := fun j l h1 h2 => by
    rw [widen_bit _ _ (takenW_apply r _ _)]
    show BitVec.ofNat 32 (n01 (taken r (d.val * 4 + l.val) (b.val * 256 + j.val))) = _
    rw [Nat.mul_comm d.val, Nat.mul_comm b.val]
  simp only [h, fold_words]
  rw [← sum_n01]
  refine congrArg _ (Finset.sum_congr rfl fun j _ => sum_n01_unique _ fun l l' hl hl' => Fin.ext ?_)
  have hd := d.isLt
  have h1 := l.isLt
  have h2 := l'.isLt
  have := chosen_inj (by omega) (by omega) hl.1 hl'.1
  omega

/-- The precondition, on one device's operands, bounds what every device sends to another. -/
theorem fits_of_pre (a0 : FVec Ideal S2048x512 .bf16) (a1 : FVec Ideal S512x32 .bf16) (r : IVec S2048x1 32) (a3 : FVec Ideal S4x512x1024 .bf16)
    (h : fn (F := Ideal) a0 a1 r a3 = fun _ => 1#1) : Fits r := by
  intro b d hbd
  have e : fn (F := Ideal) a0 a1 r a3 = ori (cmpi .sle (sentW r) (broadcastInDim S8x8 ![] bcast_S_S8x8 (constantI S_ 32 64#32)))
    (cmpi .eq (broadcastInDim S8x8 ![0, 1] bcast_S8x1_S8x8_0_1 (broadcastInDim S8x1 ![0] bcast_S8_S8x1_0 (iotaInDim S8 32 0)))
      (broadcastInDim S8x8 ![0, 1] bcast_S1x8_S8x8_0_1 (broadcastInDim S1x8 ![1] bcast_S8_S1x8_1 (iotaInDim S8 32 0)))) := rfl
  have h1 := congrFun (e.symm.trans h) (ix2 (b : Fin 8) (d : Fin 8))
  have h2 : IntOp.ori (IntOp.cmpi .sle (sentW r (ix2 (b : Fin 8) (d : Fin 8))) 64#32) (IntOp.cmpi .eq (BitVec.ofNat 32 b.val) (BitVec.ofNat 32 d.val)) = 1#1 := h1
  have h3 : IntOp.cmpi .eq (BitVec.ofNat 32 b.val) (BitVec.ofNat 32 d.val) = 0#1 := by
    rcases BitVec.eq_zero_or_eq_one (IntOp.cmpi .eq (BitVec.ofNat 32 b.val) (BitVec.ofNat 32 d.val)) with h | h
    · exact h
    · have h4 := congrArg BitVec.toNat ((cmp_eq_iff _ _).1 h)
      rw [BitVec.toNat_ofNat, BitVec.toNat_ofNat] at h4
      have hb : b.val < 8 := b.isLt
      have hd : d.val < 8 := d.isLt
      exact absurd (Fin.ext (by omega)) hbd
  rw [h3, sentW_apply] at h2
  have hc := cnt_le (fun j => takenBy r d.val (256 * b.val + j)) 256
  by_contra hn
  have h5 : IntOp.cmpi .sle (BitVec.ofNat 32 (cnt (fun j => takenBy r d.val (256 * b.val + j)) 256)) 64#32 = 0#1 := by
    show BitVec.ofBool (BitVec.sle _ _) = 0#1
    rw [BitVec.sle, toInt_small _ (by omega)]
    have : (64#32).toInt = 64 := by decide
    rw [this]
    have : ¬((cnt (fun j => takenBy r d.val (256 * b.val + j)) 256 : ℕ) : ℤ) ≤ 64 := by omega
    simp [this]
  rw [h5] at h2
  exact absurd h2 (by decide)

end Table

/-! ## The reference -/

section Reference

open Cert.ReferenceIdeal Cert.ReferenceIdeal.Gen

/-- The reference's result, with its routing table named. -/
def refW (x : FVec Ideal S2048x512 .bf16) (r : IVec S2048x1 32) (w : FVec Ideal S32x512x1024 .bf16) : FVec Ideal S2048x1024 .f32 :=
  Host.reduceAdd (select (broadcastInDim S2048x32x1024 ![0, 1, 2] bcast_S2048x32x1_S2048x32x1024_0_1_2
      (broadcastInDim S2048x32x1 ![0, 1] bcast_S2048x32_S2048x32x1_0_1 (takenW r)))
    (Host.dotGeneral dot_S2048x512_S32x512x1024_S2048x32x1024_1_1_0_02_n_n none (extf .f32 x bitsLt_bf16_f32) (extf .f32 w bitsLt_bf16_f32))
    (broadcastInDim S2048x32x1024 ![] bcast_S_S2048x32x1024 (id (constant S_ .f32 0x00000000#32))))
    (constant S_ .f32 0x00000000#32) reducesTo_S2048x32x1024_S2048x1024_d1 h_S_

/-- An entry of the reference: over all experts, the token's product with those that take it. -/
theorem refW_apply (x : FVec Ideal S2048x512 .bf16) (r : IVec S2048x1 32) (w : FVec Ideal S32x512x1024 .bf16) (t : Fin 2048) (f : Fin 1024) :
    refW x r w (ix2 t f) = ∑ e : Fin 32, sel (taken r e.val t.val) (∑ d : Fin 512, x (ix2 t d) * w (ix3 e d f)) := by
  pointwise [refW]
  refine Finset.sum_congr rfl fun e _ => ?_
  have h := takenW_apply r t e
  by_cases ht : taken r e.val t.val
  · rw [sel_pos ht, h.2 ht]
    exact if_pos rfl
  · have h0 : takenW r (ix2 t e) = 0#1 := (BitVec.eq_zero_or_eq_one _).resolve_right fun h1 => ht (h.1 h1)
    rw [sel_neg ht, h0]
    exact (if_neg (by decide)).trans Ideal.ofBits_zero_f32

/-- The reference's entry as a sum over devices, where device `d` holds experts `4 d` to `4 d + 3` of the weights. -/
theorem refW_parts (J : Dev Cert.KernelIdeal.nD → Cert.KernelIdeal.Run.Inp Ideal) (x : FVec Ideal S2048x512 .bf16) (r : IVec S2048x1 32)
    (w : FVec Ideal S32x512x1024 .bf16) (hx : ∀ d, (J d).x = x) (hr : ∀ d, (J d).r = r)
    (hw : ∀ (d : Fin 8) (l : Fin 4) (k : Fin 512) (f : Fin 1024), (J d).w (ix3 l k f) = w (ix3 ⟨4 * d.val + l.val, by have := d.isLt; have := l.isLt; omega⟩ k f)) (t : Fin 2048) (f : Fin 1024) :
    refW x r w (ix2 t f) = ∑ d : Fin 8, parts d.val (J d) t f := by
  rw [refW_apply, ← (finProdFinEquiv (m := 8) (n := 4)).sum_comp, Fintype.sum_prod_type]
  refine Finset.sum_congr rfl fun d _ => ?_
  rw [Fin.sum_univ_four]
  have h : ∀ l : Fin 4, sel (taken r (finProdFinEquiv (d, l)).val t.val) (∑ k : Fin 512, x (ix2 t k) * w (ix3 (finProdFinEquiv (d, l)) k f))
      = part d.val (J d) t l f := fun l => by
    have e : (finProdFinEquiv (d, l) : Fin 32) = ⟨4 * d.val + l.val, by have := d.isLt; have := l.isLt; omega⟩ :=
      Fin.ext (by show l.val + 4 * d.val = 4 * d.val + l.val; omega)
    unfold part prod
    rw [hx, hr, e]
    simp only [hw]
  unfold parts
  rw [← h 0, ← h 1, ← h 2, ← h 3]

end Reference

end Cert.Val

end
-- ==== Proof.Value.lean ====
/-
# The value claim

Every device's result is its block of rows of the reference's: the windows stage whole arrays, the precondition makes every
message fit, and a token's sum over devices is the reference's sum over experts.
-/
module

public import proofs.«01_k».proof.Defs
public import proofs.«01_k».proof.Proof.IdealLaunch
public import proofs.«01_k».proof.Proof.ValOut
public import proofs.«01_k».proof.Proof.ValRef
public import proofs.«01_k».proof.Proof.Gen.ReferenceIdeal.Run
public import Idealize.ShloMosaic.Lib.Pipeline.ValueKit.Geometry
public import Idealize.ShloMosaic.Lib.Layout

@[expose] public section

set_option maxRecDepth 16384

noncomputable section

namespace Cert.KernelIdeal.Run

open Cert.KernelIdeal Cert.KernelIdeal.Gen
open Idealize.ShloMosaic Idealize.ShloMosaic.TcCoe
open Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-! ## Whole-array windows -/

/-- The first window stages the whole table of tokens. -/
theorem iblk_x (c : Dev nD) : iblk m c 0 t₀ = m ((c : Thread nD τ).loc main_arg0) := by
  have e : ∀ t : Fin cfg0.N, win0_0.index t = ![0, 0] := by decide +kernel
  funext y
  blk_simp [iblk]
  refine congrArg _ ?_
  blk_ext [e]

/-- The second window stages the whole table of routes. -/
theorem iblk_r (c : Dev nD) : iblk m c 1 t₀ = m ((c : Thread nD τ).loc main_arg2) := by
  have e : ∀ t : Fin cfg0.N, win0_1.index t = ![0, 0] := by decide +kernel
  funext y
  blk_simp [iblk]
  refine congrArg _ ?_
  blk_ext [e]

/-- The third window stages the device's own experts, all of them. -/
theorem iblk_w (c : Dev nD) : iblk m c 2 t₀ = m ((c : Thread nD τ).loc main_arg3) := by
  have e : ∀ t : Fin cfg0.N, win0_2.index t = ![0, 0, 0] := by decide +kernel
  funext y
  blk_simp [iblk]
  refine congrArg _ ?_
  blk_ext [e]

/-- The last window leaves the whole result. -/
theorem finalA_3 (c : Dev nD) : finalA m ρ c (3 : Fin 4) = res m c := by
  refine (dats m ρ 0 c).arrAt_eq_of_after_last (3 : Fin 4) t₀ (by decide +kernel) _ fun j => ?_
  rfl

end Cert.KernelIdeal.Run

namespace Cert.Val

open Cert.KernelIdeal Cert.KernelIdeal.Gen Cert.KernelIdeal.Run
open Idealize.ShloMosaic Idealize.ShloMosaic.TcCoe
open Idealize.SL.Sem

/-- The kernel's results are the blocks of rows of the reference's, whenever no message is longer than its slot. -/
theorem res_eq (m : (ℓ : Loc nD τ sig) → Buf (Elt Ideal) ℓ) (x : FVec Ideal ⟨2, ![2048, 512]⟩ .bf16) (r : IVec ⟨2, ![2048, 1]⟩ 32)
    (w : FVec Ideal ⟨3, ![32, 512, 1024]⟩ .bf16) (hx : ∀ c : Dev nD, m ((c : Thread nD τ).loc main_arg0) = x)
    (hr : ∀ c : Dev nD, m ((c : Thread nD τ).loc main_arg2) = r)
    (hw : ∀ c : Dev nD, m ((c : Thread nD τ).loc main_arg3) = Layout.block ⟨3, ![4, 512, 1024]⟩ ⟨3, ![32, 512, 1024]⟩ 0 8 c w)
    (hf : Fits r) (c : Dev nD) : res m c = Layout.block ⟨2, ![256, 1024]⟩ ⟨2, ![2048, 1024]⟩ 0 8 c (refW x r w) := by
  have hJr : ∀ d, (inp m d).r = r := fun d => (iblk_r m d).trans (hr d)
  funext y
  obtain ⟨i, f, rfl⟩ : ∃ (i : Fin 256) (f : Fin 1024), y = ix2 i f := ⟨y 0, y 1, funext fun a => by match a with | 0 => rfl | 1 => rfl⟩
  rw [Layout.block_apply]
  have e : ∀ h : Layout.Tiles ⟨2, ![256, 1024]⟩ ⟨2, ![2048, 1024]⟩ 0 8, h.idx c (ix2 i f) = ix2 (tok c i) f := fun h => funext fun a => by
    match a with
    | 0 => exact Fin.ext (by show c.val * 256 + i.val = 256 * c.val + i.val; omega)
    | 1 => rfl
  rw [e, refW_parts (inp m) x r w (fun d => (iblk_x m d).trans (hx d)) hJr (fun d l k f => ?_)]
  · exact (out_apply c (inp m) r hJr hf i f).trans (sum_orig c fun d => parts d.val (inp m d) (tok c i) f)
  · refine (congrFun ((iblk_w m d).trans (hw d)) (ix3 l k f)).trans ?_
    rw [Layout.block_apply]
    refine congrArg w (funext fun a => ?_)
    match a with
    | 0 => exact Fin.ext (by show d.val * 4 + l.val = 4 * d.val + l.val; omega)
    | 1 => rfl
    | 2 => rfl

end Cert.Val

namespace Cert.Proof

open Idealize.ShloMosaic Idealize.ShloMosaic.TcCoe Idealize.SL.Sem

/-- The value claim: from memories in which the eight devices hold the reference's operands, its experts four to a device, and
where no device sends another more than 64 rows, both run, the reference ends at one result, and every device at its block of
256 rows of it. -/
theorem value_claim : Cert.algebraic_KernelIdeal_ReferenceIdeal_pre_fits_KernelIdeal (hKernelIdeal := Cert.KernelIdeal.Gen.facts)
    (hReferenceIdeal := Cert.ReferenceIdeal.Gen.facts) (hPre_fits_KernelIdeal := Cert.Pre_fits_KernelIdeal.Gen.facts) := by
  intro m g m' g' hpre hin
  have hf : Cert.Val.Fits (m' (((0 : Dev Cert.ReferenceIdeal.nD).tc : Thread Cert.ReferenceIdeal.nD Cert.ReferenceIdeal.τ).loc Cert.ReferenceIdeal.main_arg2)) := by
    have h := hpre 0
    rw [(hin 0).2.2.1] at h
    exact Cert.Val.fits_of_pre _ _ _ _ h
  refine ⟨Cert.Val.refW (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ?_) (Cert.KernelIdeal.Run.run_main m g)
    have hc := h.1 c
    refine ⟨((hc.1 3).trans (Cert.KernelIdeal.Run.finalA_3 m g c)).trans ?_, (hc.1 0).trans (Cert.KernelIdeal.Run.finalA_0 m g c), hc.2,
      (hc.1 1).trans (Cert.KernelIdeal.Run.finalA_1 m g c), (hc.1 2).trans (Cert.KernelIdeal.Run.finalA_2 m g c)⟩
    exact Cert.Val.res_eq m _ _ _ (fun d => (hin d).1) (fun d => (hin d).2.2.1) (fun d => (hin d).2.2.2) hf c
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_fits_KernelIdeal
public import proofs.«01_k».proof.Proof.Gen.Pre_fits_ReferenceIdeal
public import proofs.«01_k».proof.Proof.RefFrame
public import proofs.«01_k».proof.Proof.KernelLaunch
public import proofs.«01_k».proof.Proof.IdealLaunch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The claim: the kernel, its idealization and the idealized reference run to the end from every starting memory and
change no argument; the idealization preserves the kernel's operations; and where every message fits its slot, the idealized
kernel's results are the blocks of rows of the reference's. -/
theorem claim : Cert.Claim := ⟨Cert.Kernel.Gen.facts, Cert.KernelIdeal.Gen.facts, Cert.ReferenceIdeal.Gen.facts,
  Cert.Pre_fits_KernelIdeal.Gen.facts, Cert.Pre_fits_ReferenceIdeal.Gen.facts,
  fun m g _ => Cert.Kernel.Run.run_frame m g, fun m g _ => Cert.KernelIdeal.Run.run_frame m g,
  fun m g _ => Cert.KernelIdeal.Run.run_frame m g, frame_reference, fun m g _ => frame_reference m g (by trivial),
  trivial, value_claim⟩

end Cert.Proof

end
